-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  IdealRules.named_const.Statement Cert.KernelIdeal.κ "clamp" .f32 0x42C80000#32 ⊤
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "qscale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x16x1024x256 : Shape := ⟨4, ![4, 16, 1024, 256]⟩
abbrev S4x4096x1024 : Shape := ⟨3, ![4, 4096, 1024]⟩
abbrev S256x256 : Shape := ⟨2, ![256, 256]⟩
abbrev S4x1024x4096 : Shape := ⟨3, ![4, 1024, 4096]⟩
abbrev S4x1x256x256 : Shape := ⟨4, ![4, 1, 256, 256]⟩
abbrev S4x4096x256 : Shape := ⟨3, ![4, 4096, 256]⟩
abbrev S4x16x256x256 : Shape := ⟨4, ![4, 16, 256, 256]⟩
abbrev S4x256x256 : Shape := ⟨3, ![4, 256, 256]⟩
abbrev S16x256x256 : Shape := ⟨3, ![16, 256, 256]⟩
abbrev S16x64x256 : Shape := ⟨3, ![16, 64, 256]⟩
abbrev S16x1x256 : Shape := ⟨3, ![16, 1, 256]⟩
abbrev S64x256 : Shape := ⟨2, ![64, 256]⟩
abbrev S1x1x64x256 : Shape := ⟨4, ![1, 1, 64, 256]⟩
abbrev S1x256x256 : Shape := ⟨3, ![1, 256, 256]⟩
abbrev S1x1x256 : Shape := ⟨3, ![1, 1, 256]⟩
abbrev S1x256 : Shape := ⟨2, ![1, 256]⟩
abbrev S1x64x256 : Shape := ⟨3, ![1, 64, 256]⟩

abbrev nBuf : Space → Nat
  | .hbm => 5
  | .vmem => 12
  | .smem => 0
  | _ => 0

abbrev bufTy : (tb : Table) → Fin (tcTables nBuf tb) → BufTy
  | .hbm, ⟨0, _⟩ => ⟨S4x16x1024x256, .bf16⟩
  | .hbm, ⟨1, _⟩ => ⟨S4x4096x1024, .bf16⟩
  | .hbm, ⟨2, _⟩ => ⟨S4x16x1024x256, .bf16⟩
  | .hbm, ⟨3, _⟩ => ⟨S256x256, .bf16⟩
  | .hbm, ⟨4, _⟩ => ⟨S4x1024x4096, .bf16⟩
  | .local _ .vmem, ⟨0, _⟩ => ⟨S4x1x256x256, .bf16⟩
  | .local _ .vmem, ⟨1, _⟩ => ⟨S4x1x256x256, .bf16⟩
  | .local _ .vmem, ⟨2, _⟩ => ⟨S4x4096x256, .bf16⟩
  | .local _ .vmem, ⟨3, _⟩ => ⟨S4x4096x256, .bf16⟩
  | .local _ .vmem, ⟨4, _⟩ => ⟨S4x16x256x256, .bf16⟩
  | .local _ .vmem, ⟨5, _⟩ => ⟨S4x16x256x256, .bf16⟩
  | .local _ .vmem, ⟨6, _⟩ => ⟨S256x256, .bf16⟩
  | .local _ .vmem, ⟨7, _⟩ => ⟨S4x256x256, .bf16⟩
  | .local _ .vmem, ⟨8, _⟩ => ⟨S4x256x256, .bf16⟩
  | .local _ .vmem, ⟨9, _⟩ => ⟨S16x256x256, .bf16⟩
  | .local _ .vmem, ⟨10, _⟩ => ⟨S16x64x256, .f32⟩
  | .local _ .vmem, ⟨11, _⟩ => ⟨S16x1x256, .f32⟩
  | _, _ => ⟨S4x16x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 4, 16], ![false, false, false]⟩

def k0_mult1 (i : grid0.Coords) : BitVec 32 :=
  let arg2 : BitVec 32 := BitVec.ofNat 32 (i 2).val
  let c256_i32 : BitVec 32 := 256#32
  let v108 : BitVec 32 := Scalar.muli arg2 c256_i32
  v108
def k0_off1 (i : grid0.Coords) : Fin 3 → Nat :=
  let c0_101 : Index := 0#32
  let arg2 : BitVec 32 := BitVec.ofNat 32 (i 2).val
  let c256_i32 : BitVec 32 := 256#32
  let v108 : BitVec 32 := Scalar.muli arg2 c256_i32
  let v109 : BitVec 32 := v108
  let v110 : Index := Scalar.indexCast v109
  let c0_102 : Index := 0#32
  ![0, v110.toNat, 0]
def k0_mult2 (i : grid0.Coords) : BitVec 32 :=
  let arg2 : BitVec 32 := BitVec.ofNat 32 (i 2).val
  let c256_i32_107 : BitVec 32 := 256#32
  let v116 : BitVec 32 := Scalar.muli arg2 c256_i32_107
  v116
def k0_mult3 (i : grid0.Coords) : BitVec 32 :=
  let arg2 : BitVec 32 := BitVec.ofNat 32 (i 2).val
  let c256_i32_114 : BitVec 32 := 256#32
  let v124 : BitVec 32 := Scalar.muli arg2 c256_i32_114
  v124
def k0_mult4 (i : grid0.Coords) : BitVec 32 :=
  let arg2 : BitVec 32 := BitVec.ofNat 32 (i 2).val
  let c256_i32_128 : BitVec 32 := 256#32
  let v147 : BitVec 32 := Scalar.muli arg2 c256_i32_128
  v147
def k0_mult5 (i : grid0.Coords) : BitVec 32 :=
  let arg2 : BitVec 32 := BitVec.ofNat 32 (i 2).val
  let c256_i32_142 : BitVec 32 := 256#32
  let v170 : BitVec 32 := Scalar.muli arg2 c256_i32_142
  v170
def k0_off2 (i : grid0.Coords) : Fin 3 → Nat :=
  let c1_143 : Index := 1#32
  let arg2 : BitVec 32 := BitVec.ofNat 32 (i 2).val
  let c256_i32_142 : BitVec 32 := 256#32
  let v170 : BitVec 32 := Scalar.muli arg2 c256_i32_142
  let v171 : BitVec 32 := v170
  let v172 : Index := Scalar.indexCast v171
  let c0_144 : Index := 0#32
  ![1, v172.toNat, 0]
def k0_off3 (i : grid0.Coords) : Fin 4 → Nat :=
  let c0_157 : Index := 0#32
  let arg2 : BitVec 32 := BitVec.ofNat 32 (i 2).val
  let v197 : Index := Scalar.indexCast arg2
  let c0_158 : Index := 0#32
  let c0_159 : Index := 0#32
  ![0, v197.toNat, 0, 0]
def k0_mult6 (i : grid0.Coords) : BitVec 32 :=
  let arg2 : BitVec 32 := BitVec.ofNat 32 (i 2).val
  let c256_i32_161 : BitVec 32 := 256#32
  let v202 : BitVec 32 := Scalar.muli arg2 c256_i32_161
  v202
def k0_off4 (i : grid0.Coords) : Fin 4 → Nat :=
  let c0_176 : Index := 0#32
  let arg2 : BitVec 32 := BitVec.ofNat 32 (i 2).val
  let v229 : Index := Scalar.indexCast arg2
  let c64_177 : Index := 64#32
  let c0_178 : Index := 0#32
  ![0, v229.toNat, 64, 0]
def k0_mult7 (i : grid0.Coords) : BitVec 32 :=
  let arg2 : BitVec 32 := BitVec.ofNat 32 (i 2).val
  let c256_i32_180 : BitVec 32 := 256#32
  let v234 : BitVec 32 := Scalar.muli arg2 c256_i32_180
  v234
def k0_off5 (i : grid0.Coords) : Fin 4 → Nat :=
  let c0_195 : Index := 0#32
  let arg2 : BitVec 32 := BitVec.ofNat 32 (i 2).val
  let v261 : Index := Scalar.indexCast arg2
  let c128_196 : Index := 128#32
  let c0_197 : Index := 0#32
  ![0, v261.toNat, 128, 0]
def k0_mult8 (i : grid0.Coords) : BitVec 32 :=
  let arg2 : BitVec 32 := BitVec.ofNat 32 (i 2).val
  let c256_i32_199 : BitVec 32 := 256#32
  let v266 : BitVec 32 := Scalar.muli arg2 c256_i32_199
  v266
def k0_off6 (i : grid0.Coords) : Fin 4 → Nat :=
  let c0_214 : Index := 0#32
  let arg2 : BitVec 32 := BitVec.ofNat 32 (i 2).val
  let v293 : Index := Scalar.indexCast arg2
  let c192_215 : Index := 192#32
  let c0_216 : Index := 0#32
  ![0, v293.toNat, 192, 0]
def k0_mult9 (i : grid0.Coords) : BitVec 32 :=
  let arg2 : BitVec 32 := BitVec.ofNat 32 (i 2).val
  let c256_i32_218 : BitVec 32 := 256#32
  let v298 : BitVec 32 := Scalar.muli arg2 c256_i32_218
  v298
def k0_off7 (i : grid0.Coords) : Fin 3 → Nat :=
  let c2_219 : Index := 2#32
  let arg2 : BitVec 32 := BitVec.ofNat 32 (i 2).val
  let c256_i32_218 : BitVec 32 := 256#32
  let v298 : BitVec 32 := Scalar.muli arg2 c256_i32_218
  let v299 : BitVec 32 := v298
  let v300 : Index := Scalar.indexCast v299
  let c0_220 : Index := 0#32
  ![2, v300.toNat, 0]
def k0_off8 (i : grid0.Coords) : Fin 4 → Nat :=
  let c1_233 : Index := 1#32
  let arg2 : BitVec 32 := BitVec.ofNat 32 (i 2).val
  let v325 : Index := Scalar.indexCast arg2
  let c0_234 : Index := 0#32
  let c0_235 : Index := 0#32
  ![1, v325.toNat, 0, 0]
def k0_mult10 (i : grid0.Coords) : BitVec 32 :=
  let arg2 : BitVec 32 := BitVec.ofNat 32 (i 2).val
  let c256_i32_237 : BitVec 32 := 256#32
  let v330 : BitVec 32 := Scalar.muli arg2 c256_i32_237
  v330
def k0_off9 (i : grid0.Coords) : Fin 4 → Nat :=
  let c1_252 : Index := 1#32
  let arg2 : BitVec 32 := BitVec.ofNat 32 (i 2).val
  let v357 : Index := Scalar.indexCast arg2
  let c64_253 : Index := 64#32
  let c0_254 : Index := 0#32
  ![1, v357.toNat, 64, 0]
def k0_mult11 (i : grid0.Coords) : BitVec 32 :=
  let arg2 : BitVec 32 := BitVec.ofNat 32 (i 2).val
  let c256_i32_256 : BitVec 32 := 256#32
  let v362 : BitVec 32 := Scalar.muli arg2 c256_i32_256
  v362
def k0_off10 (i : grid0.Coords) : Fin 4 → Nat :=
  let c1_271 : Index := 1#32
  let arg2 : BitVec 32 := BitVec.ofNat 32 (i 2).val
  let v389 : Index := Scalar.indexCast arg2
  let c128_272 : Index := 128#32
  let c0_273 : Index := 0#32
  ![1, v389.toNat, 128, 0]
def k0_mult12 (i : grid0.Coords) : BitVec 32 :=
  let arg2 : BitVec 32 := BitVec.ofNat 32 (i 2).val
  let c256_i32_275 : BitVec 32 := 256#32
  let v394 : BitVec 32 := Scalar.muli arg2 c256_i32_275
  v394
def k0_off11 (i : grid0.Coords) : Fin 4 → Nat :=
  let c1_290 : Index := 1#32
  let arg2 : BitVec 32 := BitVec.ofNat 32 (i 2).val
  let v421 : Index := Scalar.indexCast arg2
  let c192_291 : Index := 192#32
  let c0_292 : Index := 0#32
  ![1, v421.toNat, 192, 0]
def k0_mult13 (i : grid0.Coords) : BitVec 32 :=
  let arg2 : BitVec 32 := BitVec.ofNat 32 (i 2).val
  let c256_i32_294 : BitVec 32 := 256#32
  let v426 : BitVec 32 := Scalar.muli arg2 c256_i32_294
  v426
def k0_off12 (i : grid0.Coords) : Fin 3 → Nat :=
  let c3_295 : Index := 3#32
  let arg2 : BitVec 32 := BitVec.ofNat 32 (i 2).val
  let c256_i32_294 : BitVec 32 := 256#32
  let v426 : BitVec 32 := Scalar.muli arg2 c256_i32_294
  let v427 : BitVec 32 := v426
  let v428 : Index := Scalar.indexCast v427
  let c0_296 : Index := 0#32
  ![3, v428.toNat, 0]
def k0_off13 (i : grid0.Coords) : Fin 4 → Nat :=
  let c2_309 : Index := 2#32
  let arg2 : BitVec 32 := BitVec.ofNat 32 (i 2).val
  let v453 : Index := Scalar.indexCast arg2
  let c0_310 : Index := 0#32
  let c0_311 : Index := 0#32
  ![2, v453.toNat, 0, 0]
def k0_mult14 (i : grid0.Coords) : BitVec 32 :=
  let arg2 : BitVec 32 := BitVec.ofNat 32 (i 2).val
  let c256_i32_313 : BitVec 32 := 256#32
  let v458 : BitVec 32 := Scalar.muli arg2 c256_i32_313
  v458
def k0_off14 (i : grid0.Coords) : Fin 4 → Nat :=
  let c2_328 : Index := 2#32
  let arg2 : BitVec 32 := BitVec.ofNat 32 (i 2).val
  let v485 : Index := Scalar.indexCast arg2
  let c64_329 : Index := 64#32
  let c0_330 : Index := 0#32
  ![2, v485.toNat, 64, 0]
def k0_mult15 (i : grid0.Coords) : BitVec 32 :=
  let arg2 : BitVec 32 := BitVec.ofNat 32 (i 2).val
  let c256_i32_332 : BitVec 32 := 256#32
  let v490 : BitVec 32 := Scalar.muli arg2 c256_i32_332
  v490
def k0_off15 (i : grid0.Coords) : Fin 4 → Nat :=
  let c2_347 : Index := 2#32
  let arg2 : BitVec 32 := BitVec.ofNat 32 (i 2).val
  let v517 : Index := Scalar.indexCast arg2
  let c128_348 : Index := 128#32
  let c0_349 : Index := 0#32
  ![2, v517.toNat, 128, 0]
def k0_mult16 (i : grid0.Coords) : BitVec 32 :=
  let arg2 : BitVec 32 := BitVec.ofNat 32 (i 2).val
  let c256_i32_351 : BitVec 32 := 256#32
  let v522 : BitVec 32 := Scalar.muli arg2 c256_i32_351
  v522
def k0_off16 (i : grid0.Coords) : Fin 4 → Nat :=
  let c2_366 : Index := 2#32
  let arg2 : BitVec 32 := BitVec.ofNat 32 (i 2).val
  let v549 : Index := Scalar.indexCast arg2
  let c192_367 : Index := 192#32
  let c0_368 : Index := 0#32
  ![2, v549.toNat, 192, 0]
def k0_off17 (i : grid0.Coords) : Fin 4 → Nat :=
  let c3_378 : Index := 3#32
  let arg2 : BitVec 32 := BitVec.ofNat 32 (i 2).val
  let v573 : Index := Scalar.indexCast arg2
  let c0_379 : Index := 0#32
  let c0_380 : Index := 0#32
  ![3, v573.toNat, 0, 0]
def k0_off18 (i : grid0.Coords) : Fin 4 → Nat :=
  let c3_390 : Index := 3#32
  let arg2 : BitVec 32 := BitVec.ofNat 32 (i 2).val
  let v597 : Index := Scalar.indexCast arg2
  let c64_391 : Index := 64#32
  let c0_392 : Index := 0#32
  ![3, v597.toNat, 64, 0]
def k0_off19 (i : grid0.Coords) : Fin 4 → Nat :=
  let c3_395 : Index := 3#32
  let arg2 : BitVec 32 := BitVec.ofNat 32 (i 2).val
  let v606 : Index := Scalar.indexCast arg2
  let c128_396 : Index := 128#32
  let c0_397 : Index := 0#32
  ![3, v606.toNat, 128, 0]
def k0_off20 (i : grid0.Coords) : Fin 4 → Nat :=
  let c3_400 : Index := 3#32
  let arg2 : BitVec 32 := BitVec.ofNat 32 (i 2).val
  let v615 : Index := Scalar.indexCast arg2
  let c192_401 : Index := 192#32
  let c0_402 : Index := 0#32
  ![3, v615.toNat, 192, 0]
@[reducible] def k0_t1_loop (i : grid0.Coords) : Scf.Loop 32 :=
  let c0_i32_618 : BitVec 32 := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_620 : BitVec 32 := 1#32
  ⟨c0_i32_618, v979, c1_i32_620⟩
def k0_mult17 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_752 : BitVec 32 := 256#32
  let v1143 : BitVec 32 := Scalar.muli v1139 c256_i32_752
  v1143
def k0_off21 (i : grid0.Coords) (k0_t1 : Fin (k0_t1_loop i).trips) (c0_i32_749 : BitVec 32) : Fin 3 → Nat :=
  let c0_753 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let c256_i32_752 : BitVec 32 := 256#32
  let v1143 : BitVec 32 := Scalar.muli v1139 c256_i32_752
  let v1144 : BitVec 32 := v1143
  let v1145 : Index := Scalar.indexCast v1144
  let c0_754 : Index := 0#32
  ![0, v1145.toNat, 0]
def k0_mult18 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_759 : BitVec 32 := 256#32
  let v1151 : BitVec 32 := Scalar.muli v1139 c256_i32_759
  v1151
def k0_mult19 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_766 : BitVec 32 := 256#32
  let v1159 : BitVec 32 := Scalar.muli v1139 c256_i32_766
  v1159
def k0_mult20 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_779 : BitVec 32 := 256#32
  let v1180 : BitVec 32 := Scalar.muli v1139 c256_i32_779
  v1180
def k0_mult21 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_792 : BitVec 32 := 256#32
  let v1201 : BitVec 32 := Scalar.muli v1139 c256_i32_792
  v1201
def k0_off22 (i : grid0.Coords) (k0_t1 : Fin (k0_t1_loop i).trips) (c0_i32_749 : BitVec 32) : Fin 3 → Nat :=
  let c1_793 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let c256_i32_792 : BitVec 32 := 256#32
  let v1201 : BitVec 32 := Scalar.muli v1139 c256_i32_792
  let v1202 : BitVec 32 := v1201
  let v1203 : Index := Scalar.indexCast v1202
  let c0_794 : Index := 0#32
  ![1, v1203.toNat, 0]
def k0_off23 (i : grid0.Coords) (k0_t1 : Fin (k0_t1_loop i).trips) (c0_i32_749 : BitVec 32) : Fin 4 → Nat :=
  let c0_805 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1224 : Index := Scalar.indexCast v1139
  let c0_806 : Index := 0#32
  let c0_807 : Index := 0#32
  ![0, v1224.toNat, 0, 0]
def k0_mult22 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_809 : BitVec 32 := 256#32
  let v1229 : BitVec 32 := Scalar.muli v1139 c256_i32_809
  v1229
def k0_off24 (i : grid0.Coords) (k0_t1 : Fin (k0_t1_loop i).trips) (c0_i32_749 : BitVec 32) : Fin 4 → Nat :=
  let c0_822 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1252 : Index := Scalar.indexCast v1139
  let c64_823 : Index := 64#32
  let c0_824 : Index := 0#32
  ![0, v1252.toNat, 64, 0]
def k0_mult23 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_826 : BitVec 32 := 256#32
  let v1257 : BitVec 32 := Scalar.muli v1139 c256_i32_826
  v1257
def k0_off25 (i : grid0.Coords) (k0_t1 : Fin (k0_t1_loop i).trips) (c0_i32_749 : BitVec 32) : Fin 4 → Nat :=
  let c0_839 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1280 : Index := Scalar.indexCast v1139
  let c128_840 : Index := 128#32
  let c0_841 : Index := 0#32
  ![0, v1280.toNat, 128, 0]
def k0_mult24 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_843 : BitVec 32 := 256#32
  let v1285 : BitVec 32 := Scalar.muli v1139 c256_i32_843
  v1285
def k0_off26 (i : grid0.Coords) (k0_t1 : Fin (k0_t1_loop i).trips) (c0_i32_749 : BitVec 32) : Fin 4 → Nat :=
  let c0_856 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1308 : Index := Scalar.indexCast v1139
  let c192_857 : Index := 192#32
  let c0_858 : Index := 0#32
  ![0, v1308.toNat, 192, 0]
def k0_mult25 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_860 : BitVec 32 := 256#32
  let v1313 : BitVec 32 := Scalar.muli v1139 c256_i32_860
  v1313
def k0_off27 (i : grid0.Coords) (k0_t1 : Fin (k0_t1_loop i).trips) (c0_i32_749 : BitVec 32) : Fin 3 → Nat :=
  let c2_861 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let c256_i32_860 : BitVec 32 := 256#32
  let v1313 : BitVec 32 := Scalar.muli v1139 c256_i32_860
  let v1314 : BitVec 32 := v1313
  let v1315 : Index := Scalar.indexCast v1314
  let c0_862 : Index := 0#32
  ![2, v1315.toNat, 0]
def k0_off28 (i : grid0.Coords) (k0_t1 : Fin (k0_t1_loop i).trips) (c0_i32_749 : BitVec 32) : Fin 4 → Nat :=
  let c1_873 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1336 : Index := Scalar.indexCast v1139
  let c0_874 : Index := 0#32
  let c0_875 : Index := 0#32
  ![1, v1336.toNat, 0, 0]
def k0_mult26 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_877 : BitVec 32 := 256#32
  let v1341 : BitVec 32 := Scalar.muli v1139 c256_i32_877
  v1341
def k0_off29 (i : grid0.Coords) (k0_t1 : Fin (k0_t1_loop i).trips) (c0_i32_749 : BitVec 32) : Fin 4 → Nat :=
  let c1_890 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1364 : Index := Scalar.indexCast v1139
  let c64_891 : Index := 64#32
  let c0_892 : Index := 0#32
  ![1, v1364.toNat, 64, 0]
def k0_mult27 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_894 : BitVec 32 := 256#32
  let v1369 : BitVec 32 := Scalar.muli v1139 c256_i32_894
  v1369
def k0_off30 (i : grid0.Coords) (k0_t1 : Fin (k0_t1_loop i).trips) (c0_i32_749 : BitVec 32) : Fin 4 → Nat :=
  let c1_907 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1392 : Index := Scalar.indexCast v1139
  let c128_908 : Index := 128#32
  let c0_909 : Index := 0#32
  ![1, v1392.toNat, 128, 0]
def k0_mult28 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_911 : BitVec 32 := 256#32
  let v1397 : BitVec 32 := Scalar.muli v1139 c256_i32_911
  v1397
def k0_off31 (i : grid0.Coords) (k0_t1 : Fin (k0_t1_loop i).trips) (c0_i32_749 : BitVec 32) : Fin 4 → Nat :=
  let c1_924 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1420 : Index := Scalar.indexCast v1139
  let c192_925 : Index := 192#32
  let c0_926 : Index := 0#32
  ![1, v1420.toNat, 192, 0]
def k0_mult29 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_928 : BitVec 32 := 256#32
  let v1425 : BitVec 32 := Scalar.muli v1139 c256_i32_928
  v1425
def k0_off32 (i : grid0.Coords) (k0_t1 : Fin (k0_t1_loop i).trips) (c0_i32_749 : BitVec 32) : Fin 3 → Nat :=
  let c3_929 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let c256_i32_928 : BitVec 32 := 256#32
  let v1425 : BitVec 32 := Scalar.muli v1139 c256_i32_928
  let v1426 : BitVec 32 := v1425
  let v1427 : Index := Scalar.indexCast v1426
  let c0_930 : Index := 0#32
  ![3, v1427.toNat, 0]
def k0_off33 (i : grid0.Coords) (k0_t1 : Fin (k0_t1_loop i).trips) (c0_i32_749 : BitVec 32) : Fin 4 → Nat :=
  let c2_941 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1448 : Index := Scalar.indexCast v1139
  let c0_942 : Index := 0#32
  let c0_943 : Index := 0#32
  ![2, v1448.toNat, 0, 0]
def k0_mult30 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_945 : BitVec 32 := 256#32
  let v1453 : BitVec 32 := Scalar.muli v1139 c256_i32_945
  v1453
def k0_off34 (i : grid0.Coords) (k0_t1 : Fin (k0_t1_loop i).trips) (c0_i32_749 : BitVec 32) : Fin 4 → Nat :=
  let c2_958 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1476 : Index := Scalar.indexCast v1139
  let c64_959 : Index := 64#32
  let c0_960 : Index := 0#32
  ![2, v1476.toNat, 64, 0]
def k0_mult31 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_962 : BitVec 32 := 256#32
  let v1481 : BitVec 32 := Scalar.muli v1139 c256_i32_962
  v1481
def k0_off35 (i : grid0.Coords) (k0_t1 : Fin (k0_t1_loop i).trips) (c0_i32_749 : BitVec 32) : Fin 4 → Nat :=
  let c2_975 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1504 : Index := Scalar.indexCast v1139
  let c128_976 : Index := 128#32
  let c0_977 : Index := 0#32
  ![2, v1504.toNat, 128, 0]
def k0_mult32 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_979 : BitVec 32 := 256#32
  let v1509 : BitVec 32 := Scalar.muli v1139 c256_i32_979
  v1509
def k0_off36 (i : grid0.Coords) (k0_t1 : Fin (k0_t1_loop i).trips) (c0_i32_749 : BitVec 32) : Fin 4 → Nat :=
  let c2_992 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1532 : Index := Scalar.indexCast v1139
  let c192_993 : Index := 192#32
  let c0_994 : Index := 0#32
  ![2, v1532.toNat, 192, 0]
def k0_mult33 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_996 : BitVec 32 := 256#32
  let v1537 : BitVec 32 := Scalar.muli v1140 c256_i32_996
  v1537
def k0_off37 (i : grid0.Coords) (k0_t1 : Fin (k0_t1_loop i).trips) (c0_i32_749 : BitVec 32) : Fin 4 → Nat :=
  let c3_1009 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1560 : Index := Scalar.indexCast v1139
  let c0_1010 : Index := 0#32
  let c0_1011 : Index := 0#32
  ![3, v1560.toNat, 0, 0]
def k0_mult34 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1013 : BitVec 32 := 256#32
  let v1565 : BitVec 32 := Scalar.muli v1140 c256_i32_1013
  v1565
def k0_off38 (i : grid0.Coords) (k0_t1 : Fin (k0_t1_loop i).trips) (c0_i32_749 : BitVec 32) : Fin 4 → Nat :=
  let c3_1026 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1588 : Index := Scalar.indexCast v1139
  let c64_1027 : Index := 64#32
  let c0_1028 : Index := 0#32
  ![3, v1588.toNat, 64, 0]
def k0_mult35 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1030 : BitVec 32 := 256#32
  let v1593 : BitVec 32 := Scalar.muli v1140 c256_i32_1030
  v1593
def k0_off39 (i : grid0.Coords) (k0_t1 : Fin (k0_t1_loop i).trips) (c0_i32_749 : BitVec 32) : Fin 4 → Nat :=
  let c3_1043 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1616 : Index := Scalar.indexCast v1139
  let c128_1044 : Index := 128#32
  let c0_1045 : Index := 0#32
  ![3, v1616.toNat, 128, 0]
def k0_mult36 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1047 : BitVec 32 := 256#32
  let v1621 : BitVec 32 := Scalar.muli v1140 c256_i32_1047
  v1621
def k0_off40 (i : grid0.Coords) (k0_t1 : Fin (k0_t1_loop i).trips) (c0_i32_749 : BitVec 32) : Fin 4 → Nat :=
  let c3_1060 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let v1139 : BitVec 32 := Scalar.subi v1138 c0_i32_749
  let v1644 : Index := Scalar.indexCast v1139
  let c192_1061 : Index := 192#32
  let c0_1062 : Index := 0#32
  ![3, v1644.toNat, 192, 0]
def k0_mult37 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1064 : BitVec 32 := 256#32
  let v1649 : BitVec 32 := Scalar.muli v1140 c256_i32_1064
  v1649
def k0_mult38 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1081 : BitVec 32 := 256#32
  let v1677 : BitVec 32 := Scalar.muli v1140 c256_i32_1081
  v1677
def k0_mult39 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1098 : BitVec 32 := 256#32
  let v1705 : BitVec 32 := Scalar.muli v1140 c256_i32_1098
  v1705
def k0_mult40 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1115 : BitVec 32 := 256#32
  let v1733 : BitVec 32 := Scalar.muli v1140 c256_i32_1115
  v1733
def k0_mult41 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1132 : BitVec 32 := 256#32
  let v1761 : BitVec 32 := Scalar.muli v1140 c256_i32_1132
  v1761
def k0_mult42 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1149 : BitVec 32 := 256#32
  let v1789 : BitVec 32 := Scalar.muli v1140 c256_i32_1149
  v1789
def k0_mult43 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1166 : BitVec 32 := 256#32
  let v1817 : BitVec 32 := Scalar.muli v1140 c256_i32_1166
  v1817
def k0_mult44 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1183 : BitVec 32 := 256#32
  let v1845 : BitVec 32 := Scalar.muli v1140 c256_i32_1183
  v1845
def k0_mult45 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1200 : BitVec 32 := 256#32
  let v1873 : BitVec 32 := Scalar.muli v1140 c256_i32_1200
  v1873
def k0_mult46 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1217 : BitVec 32 := 256#32
  let v1901 : BitVec 32 := Scalar.muli v1140 c256_i32_1217
  v1901
def k0_mult47 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1234 : BitVec 32 := 256#32
  let v1929 : BitVec 32 := Scalar.muli v1140 c256_i32_1234
  v1929
def k0_mult48 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1251 : BitVec 32 := 256#32
  let v1957 : BitVec 32 := Scalar.muli v1140 c256_i32_1251
  v1957
def k0_mult49 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1268 : BitVec 32 := 256#32
  let v1985 : BitVec 32 := Scalar.muli v1141 c256_i32_1268
  v1985
def k0_mult50 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1285 : BitVec 32 := 256#32
  let v2013 : BitVec 32 := Scalar.muli v1141 c256_i32_1285
  v2013
def k0_mult51 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1302 : BitVec 32 := 256#32
  let v2041 : BitVec 32 := Scalar.muli v1141 c256_i32_1302
  v2041
def k0_mult52 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1319 : BitVec 32 := 256#32
  let v2069 : BitVec 32 := Scalar.muli v1141 c256_i32_1319
  v2069
def k0_mult53 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1336 : BitVec 32 := 256#32
  let v2097 : BitVec 32 := Scalar.muli v1141 c256_i32_1336
  v2097
def k0_mult54 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1353 : BitVec 32 := 256#32
  let v2125 : BitVec 32 := Scalar.muli v1141 c256_i32_1353
  v2125
def k0_mult55 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1370 : BitVec 32 := 256#32
  let v2153 : BitVec 32 := Scalar.muli v1141 c256_i32_1370
  v2153
def k0_mult56 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1387 : BitVec 32 := 256#32
  let v2181 : BitVec 32 := Scalar.muli v1141 c256_i32_1387
  v2181
def k0_mult57 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1404 : BitVec 32 := 256#32
  let v2209 : BitVec 32 := Scalar.muli v1141 c256_i32_1404
  v2209
def k0_mult58 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1421 : BitVec 32 := 256#32
  let v2237 : BitVec 32 := Scalar.muli v1141 c256_i32_1421
  v2237
def k0_mult59 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1438 : BitVec 32 := 256#32
  let v2265 : BitVec 32 := Scalar.muli v1141 c256_i32_1438
  v2265
def k0_mult60 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1455 : BitVec 32 := 256#32
  let v2293 : BitVec 32 := Scalar.muli v1141 c256_i32_1455
  v2293
def k0_mult61 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1472 : BitVec 32 := 256#32
  let v2321 : BitVec 32 := Scalar.muli v1141 c256_i32_1472
  v2321
def k0_mult62 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1489 : BitVec 32 := 256#32
  let v2349 : BitVec 32 := Scalar.muli v1141 c256_i32_1489
  v2349
def k0_mult63 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1506 : BitVec 32 := 256#32
  let v2377 : BitVec 32 := Scalar.muli v1141 c256_i32_1506
  v2377
def k0_mult64 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1523 : BitVec 32 := 256#32
  let v2405 : BitVec 32 := Scalar.muli v1141 c256_i32_1523
  v2405
def k0_mult65 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1540 : BitVec 32 := 256#32
  let v2433 : BitVec 32 := Scalar.muli v1142 c256_i32_1540
  v2433
def k0_mult66 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1557 : BitVec 32 := 256#32
  let v2461 : BitVec 32 := Scalar.muli v1142 c256_i32_1557
  v2461
def k0_mult67 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1574 : BitVec 32 := 256#32
  let v2489 : BitVec 32 := Scalar.muli v1142 c256_i32_1574
  v2489
def k0_mult68 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1591 : BitVec 32 := 256#32
  let v2517 : BitVec 32 := Scalar.muli v1142 c256_i32_1591
  v2517
def k0_mult69 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1608 : BitVec 32 := 256#32
  let v2545 : BitVec 32 := Scalar.muli v1142 c256_i32_1608
  v2545
def k0_mult70 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1625 : BitVec 32 := 256#32
  let v2573 : BitVec 32 := Scalar.muli v1142 c256_i32_1625
  v2573
def k0_mult71 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1642 : BitVec 32 := 256#32
  let v2601 : BitVec 32 := Scalar.muli v1142 c256_i32_1642
  v2601
def k0_mult72 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1659 : BitVec 32 := 256#32
  let v2629 : BitVec 32 := Scalar.muli v1142 c256_i32_1659
  v2629
def k0_mult73 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1676 : BitVec 32 := 256#32
  let v2657 : BitVec 32 := Scalar.muli v1142 c256_i32_1676
  v2657
def k0_mult74 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1693 : BitVec 32 := 256#32
  let v2685 : BitVec 32 := Scalar.muli v1142 c256_i32_1693
  v2685
def k0_mult75 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1710 : BitVec 32 := 256#32
  let v2713 : BitVec 32 := Scalar.muli v1142 c256_i32_1710
  v2713
def k0_mult76 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1727 : BitVec 32 := 256#32
  let v2741 : BitVec 32 := Scalar.muli v1142 c256_i32_1727
  v2741
def k0_mult77 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1744 : BitVec 32 := 256#32
  let v2769 : BitVec 32 := Scalar.muli v1142 c256_i32_1744
  v2769
def k0_mult78 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1761 : BitVec 32 := 256#32
  let v2797 : BitVec 32 := Scalar.muli v1142 c256_i32_1761
  v2797
def k0_mult79 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1778 : BitVec 32 := 256#32
  let v2825 : BitVec 32 := Scalar.muli v1142 c256_i32_1778
  v2825
def k0_mult80 (i : grid0.Coords) (k0_t1 : Fin (k0_t1_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c1_i32_620 : BitVec 32 := 1#32
  let arg11 : BitVec 32 := Scf.iv c0_i32_618 c1_i32_620 k0_t1
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1795 : BitVec 32 := 256#32
  let v2853 : BitVec 32 := Scalar.muli v1142 c256_i32_1795
  v2853
@[reducible] def k0_t2_loop (i : grid0.Coords) : Scf.Loop 32 :=
  let c0_i32_618 : BitVec 32 := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let v976 : BitVec 32 := Scalar.addi c0_i32_618 v975
  let c1_i32_621 : BitVec 32 := 1#32
  ⟨v979, v976, c1_i32_621⟩
def k0_mult81 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_752 : BitVec 32 := 256#32
  let v1143 : BitVec 32 := Scalar.muli v1139 c256_i32_752
  v1143
def k0_off41 (i : grid0.Coords) (k0_t2 : Fin (k0_t2_loop i).trips) (c0_i32_749 : BitVec 32) : Fin 3 → Nat :=
  let c0_753 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let c256_i32_752 : BitVec 32 := 256#32
  let v1143 : BitVec 32 := Scalar.muli v1139 c256_i32_752
  let v1144 : BitVec 32 := v1143
  let v1145 : Index := Scalar.indexCast v1144
  let c0_754 : Index := 0#32
  ![0, v1145.toNat, 0]
def k0_mult82 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_759 : BitVec 32 := 256#32
  let v1151 : BitVec 32 := Scalar.muli v1139 c256_i32_759
  v1151
def k0_mult83 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_766 : BitVec 32 := 256#32
  let v1159 : BitVec 32 := Scalar.muli v1139 c256_i32_766
  v1159
def k0_mult84 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_779 : BitVec 32 := 256#32
  let v1180 : BitVec 32 := Scalar.muli v1139 c256_i32_779
  v1180
def k0_mult85 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_792 : BitVec 32 := 256#32
  let v1201 : BitVec 32 := Scalar.muli v1139 c256_i32_792
  v1201
def k0_off42 (i : grid0.Coords) (k0_t2 : Fin (k0_t2_loop i).trips) (c0_i32_749 : BitVec 32) : Fin 3 → Nat :=
  let c1_793 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let c256_i32_792 : BitVec 32 := 256#32
  let v1201 : BitVec 32 := Scalar.muli v1139 c256_i32_792
  let v1202 : BitVec 32 := v1201
  let v1203 : Index := Scalar.indexCast v1202
  let c0_794 : Index := 0#32
  ![1, v1203.toNat, 0]
def k0_off43 (i : grid0.Coords) (k0_t2 : Fin (k0_t2_loop i).trips) (c0_i32_749 : BitVec 32) : Fin 4 → Nat :=
  let c0_805 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1224 : Index := Scalar.indexCast v1139
  let c0_806 : Index := 0#32
  let c0_807 : Index := 0#32
  ![0, v1224.toNat, 0, 0]
def k0_mult86 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_809 : BitVec 32 := 256#32
  let v1229 : BitVec 32 := Scalar.muli v1139 c256_i32_809
  v1229
def k0_off44 (i : grid0.Coords) (k0_t2 : Fin (k0_t2_loop i).trips) (c0_i32_749 : BitVec 32) : Fin 4 → Nat :=
  let c0_822 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1252 : Index := Scalar.indexCast v1139
  let c64_823 : Index := 64#32
  let c0_824 : Index := 0#32
  ![0, v1252.toNat, 64, 0]
def k0_mult87 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_826 : BitVec 32 := 256#32
  let v1257 : BitVec 32 := Scalar.muli v1139 c256_i32_826
  v1257
def k0_off45 (i : grid0.Coords) (k0_t2 : Fin (k0_t2_loop i).trips) (c0_i32_749 : BitVec 32) : Fin 4 → Nat :=
  let c0_839 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1280 : Index := Scalar.indexCast v1139
  let c128_840 : Index := 128#32
  let c0_841 : Index := 0#32
  ![0, v1280.toNat, 128, 0]
def k0_mult88 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_843 : BitVec 32 := 256#32
  let v1285 : BitVec 32 := Scalar.muli v1139 c256_i32_843
  v1285
def k0_off46 (i : grid0.Coords) (k0_t2 : Fin (k0_t2_loop i).trips) (c0_i32_749 : BitVec 32) : Fin 4 → Nat :=
  let c0_856 : Index := 0#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1308 : Index := Scalar.indexCast v1139
  let c192_857 : Index := 192#32
  let c0_858 : Index := 0#32
  ![0, v1308.toNat, 192, 0]
def k0_mult89 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_860 : BitVec 32 := 256#32
  let v1313 : BitVec 32 := Scalar.muli v1139 c256_i32_860
  v1313
def k0_off47 (i : grid0.Coords) (k0_t2 : Fin (k0_t2_loop i).trips) (c0_i32_749 : BitVec 32) : Fin 3 → Nat :=
  let c2_861 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let c256_i32_860 : BitVec 32 := 256#32
  let v1313 : BitVec 32 := Scalar.muli v1139 c256_i32_860
  let v1314 : BitVec 32 := v1313
  let v1315 : Index := Scalar.indexCast v1314
  let c0_862 : Index := 0#32
  ![2, v1315.toNat, 0]
def k0_off48 (i : grid0.Coords) (k0_t2 : Fin (k0_t2_loop i).trips) (c0_i32_749 : BitVec 32) : Fin 4 → Nat :=
  let c1_873 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1336 : Index := Scalar.indexCast v1139
  let c0_874 : Index := 0#32
  let c0_875 : Index := 0#32
  ![1, v1336.toNat, 0, 0]
def k0_mult90 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_877 : BitVec 32 := 256#32
  let v1341 : BitVec 32 := Scalar.muli v1139 c256_i32_877
  v1341
def k0_off49 (i : grid0.Coords) (k0_t2 : Fin (k0_t2_loop i).trips) (c0_i32_749 : BitVec 32) : Fin 4 → Nat :=
  let c1_890 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1364 : Index := Scalar.indexCast v1139
  let c64_891 : Index := 64#32
  let c0_892 : Index := 0#32
  ![1, v1364.toNat, 64, 0]
def k0_mult91 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_894 : BitVec 32 := 256#32
  let v1369 : BitVec 32 := Scalar.muli v1139 c256_i32_894
  v1369
def k0_off50 (i : grid0.Coords) (k0_t2 : Fin (k0_t2_loop i).trips) (c0_i32_749 : BitVec 32) : Fin 4 → Nat :=
  let c1_907 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1392 : Index := Scalar.indexCast v1139
  let c128_908 : Index := 128#32
  let c0_909 : Index := 0#32
  ![1, v1392.toNat, 128, 0]
def k0_mult92 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_911 : BitVec 32 := 256#32
  let v1397 : BitVec 32 := Scalar.muli v1139 c256_i32_911
  v1397
def k0_off51 (i : grid0.Coords) (k0_t2 : Fin (k0_t2_loop i).trips) (c0_i32_749 : BitVec 32) : Fin 4 → Nat :=
  let c1_924 : Index := 1#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1420 : Index := Scalar.indexCast v1139
  let c192_925 : Index := 192#32
  let c0_926 : Index := 0#32
  ![1, v1420.toNat, 192, 0]
def k0_mult93 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_928 : BitVec 32 := 256#32
  let v1425 : BitVec 32 := Scalar.muli v1139 c256_i32_928
  v1425
def k0_off52 (i : grid0.Coords) (k0_t2 : Fin (k0_t2_loop i).trips) (c0_i32_749 : BitVec 32) : Fin 3 → Nat :=
  let c3_929 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let c256_i32_928 : BitVec 32 := 256#32
  let v1425 : BitVec 32 := Scalar.muli v1139 c256_i32_928
  let v1426 : BitVec 32 := v1425
  let v1427 : Index := Scalar.indexCast v1426
  let c0_930 : Index := 0#32
  ![3, v1427.toNat, 0]
def k0_off53 (i : grid0.Coords) (k0_t2 : Fin (k0_t2_loop i).trips) (c0_i32_749 : BitVec 32) : Fin 4 → Nat :=
  let c2_941 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1448 : Index := Scalar.indexCast v1139
  let c0_942 : Index := 0#32
  let c0_943 : Index := 0#32
  ![2, v1448.toNat, 0, 0]
def k0_mult94 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_945 : BitVec 32 := 256#32
  let v1453 : BitVec 32 := Scalar.muli v1139 c256_i32_945
  v1453
def k0_off54 (i : grid0.Coords) (k0_t2 : Fin (k0_t2_loop i).trips) (c0_i32_749 : BitVec 32) : Fin 4 → Nat :=
  let c2_958 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1476 : Index := Scalar.indexCast v1139
  let c64_959 : Index := 64#32
  let c0_960 : Index := 0#32
  ![2, v1476.toNat, 64, 0]
def k0_mult95 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_962 : BitVec 32 := 256#32
  let v1481 : BitVec 32 := Scalar.muli v1139 c256_i32_962
  v1481
def k0_off55 (i : grid0.Coords) (k0_t2 : Fin (k0_t2_loop i).trips) (c0_i32_749 : BitVec 32) : Fin 4 → Nat :=
  let c2_975 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1504 : Index := Scalar.indexCast v1139
  let c128_976 : Index := 128#32
  let c0_977 : Index := 0#32
  ![2, v1504.toNat, 128, 0]
def k0_mult96 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c0_i32_749 : BitVec 32 := 0#32
  let v1139 : BitVec 32 := Scalar.subi v1138 c0_i32_749
  let c256_i32_979 : BitVec 32 := 256#32
  let v1509 : BitVec 32 := Scalar.muli v1139 c256_i32_979
  v1509
def k0_off56 (i : grid0.Coords) (k0_t2 : Fin (k0_t2_loop i).trips) (c0_i32_749 : BitVec 32) : Fin 4 → Nat :=
  let c2_992 : Index := 2#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1532 : Index := Scalar.indexCast v1139
  let c192_993 : Index := 192#32
  let c0_994 : Index := 0#32
  ![2, v1532.toNat, 192, 0]
def k0_mult97 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_996 : BitVec 32 := 256#32
  let v1537 : BitVec 32 := Scalar.muli v1140 c256_i32_996
  v1537
def k0_off57 (i : grid0.Coords) (k0_t2 : Fin (k0_t2_loop i).trips) (c0_i32_749 : BitVec 32) : Fin 4 → Nat :=
  let c3_1009 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1560 : Index := Scalar.indexCast v1139
  let c0_1010 : Index := 0#32
  let c0_1011 : Index := 0#32
  ![3, v1560.toNat, 0, 0]
def k0_mult98 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1013 : BitVec 32 := 256#32
  let v1565 : BitVec 32 := Scalar.muli v1140 c256_i32_1013
  v1565
def k0_off58 (i : grid0.Coords) (k0_t2 : Fin (k0_t2_loop i).trips) (c0_i32_749 : BitVec 32) : Fin 4 → Nat :=
  let c3_1026 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1588 : Index := Scalar.indexCast v1139
  let c64_1027 : Index := 64#32
  let c0_1028 : Index := 0#32
  ![3, v1588.toNat, 64, 0]
def k0_mult99 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1030 : BitVec 32 := 256#32
  let v1593 : BitVec 32 := Scalar.muli v1140 c256_i32_1030
  v1593
def k0_off59 (i : grid0.Coords) (k0_t2 : Fin (k0_t2_loop i).trips) (c0_i32_749 : BitVec 32) : Fin 4 → Nat :=
  let c3_1043 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1616 : Index := Scalar.indexCast v1139
  let c128_1044 : Index := 128#32
  let c0_1045 : Index := 0#32
  ![3, v1616.toNat, 128, 0]
def k0_mult100 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1047 : BitVec 32 := 256#32
  let v1621 : BitVec 32 := Scalar.muli v1140 c256_i32_1047
  v1621
def k0_off60 (i : grid0.Coords) (k0_t2 : Fin (k0_t2_loop i).trips) (c0_i32_749 : BitVec 32) : Fin 4 → Nat :=
  let c3_1060 : Index := 3#32
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let v1139 : BitVec 32 := Scalar.subi v1138 c0_i32_749
  let v1644 : Index := Scalar.indexCast v1139
  let c192_1061 : Index := 192#32
  let c0_1062 : Index := 0#32
  ![3, v1644.toNat, 192, 0]
def k0_mult101 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1064 : BitVec 32 := 256#32
  let v1649 : BitVec 32 := Scalar.muli v1140 c256_i32_1064
  v1649
def k0_mult102 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1081 : BitVec 32 := 256#32
  let v1677 : BitVec 32 := Scalar.muli v1140 c256_i32_1081
  v1677
def k0_mult103 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1098 : BitVec 32 := 256#32
  let v1705 : BitVec 32 := Scalar.muli v1140 c256_i32_1098
  v1705
def k0_mult104 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1115 : BitVec 32 := 256#32
  let v1733 : BitVec 32 := Scalar.muli v1140 c256_i32_1115
  v1733
def k0_mult105 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1132 : BitVec 32 := 256#32
  let v1761 : BitVec 32 := Scalar.muli v1140 c256_i32_1132
  v1761
def k0_mult106 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1149 : BitVec 32 := 256#32
  let v1789 : BitVec 32 := Scalar.muli v1140 c256_i32_1149
  v1789
def k0_mult107 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1166 : BitVec 32 := 256#32
  let v1817 : BitVec 32 := Scalar.muli v1140 c256_i32_1166
  v1817
def k0_mult108 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1183 : BitVec 32 := 256#32
  let v1845 : BitVec 32 := Scalar.muli v1140 c256_i32_1183
  v1845
def k0_mult109 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1200 : BitVec 32 := 256#32
  let v1873 : BitVec 32 := Scalar.muli v1140 c256_i32_1200
  v1873
def k0_mult110 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1217 : BitVec 32 := 256#32
  let v1901 : BitVec 32 := Scalar.muli v1140 c256_i32_1217
  v1901
def k0_mult111 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1234 : BitVec 32 := 256#32
  let v1929 : BitVec 32 := Scalar.muli v1140 c256_i32_1234
  v1929
def k0_mult112 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c1_i32_750 : BitVec 32 := 1#32
  let v1140 : BitVec 32 := Scalar.subi v1138 c1_i32_750
  let c256_i32_1251 : BitVec 32 := 256#32
  let v1957 : BitVec 32 := Scalar.muli v1140 c256_i32_1251
  v1957
def k0_mult113 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1268 : BitVec 32 := 256#32
  let v1985 : BitVec 32 := Scalar.muli v1141 c256_i32_1268
  v1985
def k0_mult114 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1285 : BitVec 32 := 256#32
  let v2013 : BitVec 32 := Scalar.muli v1141 c256_i32_1285
  v2013
def k0_mult115 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1302 : BitVec 32 := 256#32
  let v2041 : BitVec 32 := Scalar.muli v1141 c256_i32_1302
  v2041
def k0_mult116 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1319 : BitVec 32 := 256#32
  let v2069 : BitVec 32 := Scalar.muli v1141 c256_i32_1319
  v2069
def k0_mult117 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1336 : BitVec 32 := 256#32
  let v2097 : BitVec 32 := Scalar.muli v1141 c256_i32_1336
  v2097
def k0_mult118 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1353 : BitVec 32 := 256#32
  let v2125 : BitVec 32 := Scalar.muli v1141 c256_i32_1353
  v2125
def k0_mult119 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1370 : BitVec 32 := 256#32
  let v2153 : BitVec 32 := Scalar.muli v1141 c256_i32_1370
  v2153
def k0_mult120 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1387 : BitVec 32 := 256#32
  let v2181 : BitVec 32 := Scalar.muli v1141 c256_i32_1387
  v2181
def k0_mult121 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1404 : BitVec 32 := 256#32
  let v2209 : BitVec 32 := Scalar.muli v1141 c256_i32_1404
  v2209
def k0_mult122 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1421 : BitVec 32 := 256#32
  let v2237 : BitVec 32 := Scalar.muli v1141 c256_i32_1421
  v2237
def k0_mult123 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1438 : BitVec 32 := 256#32
  let v2265 : BitVec 32 := Scalar.muli v1141 c256_i32_1438
  v2265
def k0_mult124 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1455 : BitVec 32 := 256#32
  let v2293 : BitVec 32 := Scalar.muli v1141 c256_i32_1455
  v2293
def k0_mult125 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1472 : BitVec 32 := 256#32
  let v2321 : BitVec 32 := Scalar.muli v1141 c256_i32_1472
  v2321
def k0_mult126 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1489 : BitVec 32 := 256#32
  let v2349 : BitVec 32 := Scalar.muli v1141 c256_i32_1489
  v2349
def k0_mult127 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1506 : BitVec 32 := 256#32
  let v2377 : BitVec 32 := Scalar.muli v1141 c256_i32_1506
  v2377
def k0_mult128 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c2_i32_751 : BitVec 32 := 2#32
  let v1141 : BitVec 32 := Scalar.subi v1138 c2_i32_751
  let c256_i32_1523 : BitVec 32 := 256#32
  let v2405 : BitVec 32 := Scalar.muli v1141 c256_i32_1523
  v2405
def k0_mult129 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1540 : BitVec 32 := 256#32
  let v2433 : BitVec 32 := Scalar.muli v1142 c256_i32_1540
  v2433
def k0_mult130 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1557 : BitVec 32 := 256#32
  let v2461 : BitVec 32 := Scalar.muli v1142 c256_i32_1557
  v2461
def k0_mult131 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1574 : BitVec 32 := 256#32
  let v2489 : BitVec 32 := Scalar.muli v1142 c256_i32_1574
  v2489
def k0_mult132 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1591 : BitVec 32 := 256#32
  let v2517 : BitVec 32 := Scalar.muli v1142 c256_i32_1591
  v2517
def k0_mult133 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1608 : BitVec 32 := 256#32
  let v2545 : BitVec 32 := Scalar.muli v1142 c256_i32_1608
  v2545
def k0_mult134 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1625 : BitVec 32 := 256#32
  let v2573 : BitVec 32 := Scalar.muli v1142 c256_i32_1625
  v2573
def k0_mult135 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1642 : BitVec 32 := 256#32
  let v2601 : BitVec 32 := Scalar.muli v1142 c256_i32_1642
  v2601
def k0_mult136 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1659 : BitVec 32 := 256#32
  let v2629 : BitVec 32 := Scalar.muli v1142 c256_i32_1659
  v2629
def k0_mult137 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1676 : BitVec 32 := 256#32
  let v2657 : BitVec 32 := Scalar.muli v1142 c256_i32_1676
  v2657
def k0_mult138 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1693 : BitVec 32 := 256#32
  let v2685 : BitVec 32 := Scalar.muli v1142 c256_i32_1693
  v2685
def k0_mult139 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1710 : BitVec 32 := 256#32
  let v2713 : BitVec 32 := Scalar.muli v1142 c256_i32_1710
  v2713
def k0_mult140 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1727 : BitVec 32 := 256#32
  let v2741 : BitVec 32 := Scalar.muli v1142 c256_i32_1727
  v2741
def k0_mult141 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1744 : BitVec 32 := 256#32
  let v2769 : BitVec 32 := Scalar.muli v1142 c256_i32_1744
  v2769
def k0_mult142 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1761 : BitVec 32 := 256#32
  let v2797 : BitVec 32 := Scalar.muli v1142 c256_i32_1761
  v2797
def k0_mult143 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1778 : BitVec 32 := 256#32
  let v2825 : BitVec 32 := Scalar.muli v1142 c256_i32_1778
  v2825
def k0_mult144 (i : grid0.Coords) (k0_t2 : Fin (k0_t2_loop i).trips) : BitVec 32 :=
  let arg2 : BitVec 32 := BitVec.ofNat 32 (i 2).val
  let c1_i32_747 : BitVec 32 := 1#32
  let v1136 : BitVec 32 := Scalar.subi arg2 c1_i32_747
  let c4_i32_748 : BitVec 32 := 4#32
  let c0_i32_618 : BitVec 32 := 0#32
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let v975 : BitVec 32 := Scalar.subi v972 c0_i32_618
  let c1_i32_619 : BitVec 32 := 1#32
  let v977 : BitVec 32 := Scalar.divsi v975 c1_i32_619
  let v978 : BitVec 32 := Scalar.muli v977 c1_i32_619
  let v979 : BitVec 32 := Scalar.addi c0_i32_618 v978
  let c1_i32_621 : BitVec 32 := 1#32
  let arg11 : BitVec 32 := Scf.iv v979 c1_i32_621 k0_t2
  let v1137 : BitVec 32 := Scalar.muli c4_i32_748 arg11
  let v1138 : BitVec 32 := Scalar.subi v1136 v1137
  let c3_i32 : BitVec 32 := 3#32
  let v1142 : BitVec 32 := Scalar.subi v1138 c3_i32
  let c256_i32_1795 : BitVec 32 := 256#32
  let v2853 : BitVec 32 := Scalar.muli v1142 c256_i32_1795
  v2853
def k0_cond1 (i : grid0.Coords) : BitVec 1 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c0_i32_622 : BitVec 32 := 0#32
  let v981 : BitVec 1 := Scalar.cmpi .sgt v974 c0_i32_622
  let v982 : BitVec 32 := Scalar.extui v981
  let c0_i32_623 : BitVec 32 := 0#32
  let v983 : BitVec 1 := Scalar.cmpi .slt v974 c0_i32_623
  let v984 : BitVec 32 := Scalar.extui v983
  let v985 : BitVec 32 := Scalar.subi v982 v984
  let c2_i32 : BitVec 32 := 2#32
  let c0_i32_624 : BitVec 32 := 0#32
  let v986 : BitVec 1 := Scalar.cmpi .sgt c2_i32 c0_i32_624
  let v987 : BitVec 32 := Scalar.extui v986
  let c0_i32_625 : BitVec 32 := 0#32
  let v988 : BitVec 1 := Scalar.cmpi .slt c2_i32 c0_i32_625
  let v989 : BitVec 32 := Scalar.extui v988
  let v990 : BitVec 32 := Scalar.subi v987 v989
  let v991 : BitVec 1 := Scalar.cmpi .ne v985 v990
  let v992 : BitVec 32 := Scalar.remsi v974 c2_i32
  let c0_i32_626 : BitVec 32 := 0#32
  let v993 : BitVec 1 := Scalar.cmpi .ne v992 c0_i32_626
  let v994 : BitVec 1 := Scalar.andi v991 v993
  let v980 : BitVec 32 := Scalar.divsi v974 c2_i32
  let c1_i32_627 : BitVec 32 := 1#32
  let v995 : BitVec 32 := Scalar.subi v980 c1_i32_627
  let v996 : BitVec 32 := Scalar.select v994 v995 v980
  let c2_i32_628 : BitVec 32 := 2#32
  let c0_i32_629 : BitVec 32 := 0#32
  let v997 : BitVec 1 := Scalar.cmpi .eq c2_i32_628 c0_i32_629
  let c1_i32_630 : BitVec 32 := 1#32
  let v998 : BitVec 32 := Scalar.select v997 c1_i32_630 c2_i32_628
  let v999 : BitVec 32 := Scalar.remsi v996 v998
  let c0_i32_632 : BitVec 32 := 0#32
  let v1001 : BitVec 1 := Scalar.cmpi .slt v999 c0_i32_632
  let c0_i32_633 : BitVec 32 := 0#32
  let v1002 : BitVec 1 := Scalar.cmpi .slt v998 c0_i32_633
  let v1003 : BitVec 1 := Scalar.xori v1001 v1002
  let c0_i32_631 : BitVec 32 := 0#32
  let v1000 : BitVec 1 := Scalar.cmpi .ne v999 c0_i32_631
  let v1004 : BitVec 1 := Scalar.andi v1003 v1000
  let v1005 : BitVec 32 := Scalar.addi v999 v998
  let v1006 : BitVec 32 := Scalar.select v1004 v1005 v999
  let c1_i32_634 : BitVec 32 := 1#32
  let v1007 : BitVec 1 := Scalar.cmpi .eq v1006 c1_i32_634
  let v1008 : BitVec 32 := Scalar.extui v1007
  let c0_i32_635 : BitVec 32 := 0#32
  let v1009 : BitVec 1 := Scalar.cmpi .ne v1008 c0_i32_635
  v1009

def k0_mult145 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_756 : BitVec 32 := 256#32
  let v1149 : BitVec 32 := Scalar.muli v1147 c256_i32_756
  v1149
def k0_off61 (i : grid0.Coords) (c0_i32_754 : BitVec 32) : Fin 3 → Nat :=
  let c0_757 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let c256_i32_756 : BitVec 32 := 256#32
  let v1149 : BitVec 32 := Scalar.muli v1147 c256_i32_756
  let v1150 : BitVec 32 := v1149
  let v1151 : Index := Scalar.indexCast v1150
  let c0_758 : Index := 0#32
  ![0, v1151.toNat, 0]
def k0_mult146 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_763 : BitVec 32 := 256#32
  let v1157 : BitVec 32 := Scalar.muli v1147 c256_i32_763
  v1157
def k0_mult147 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_770 : BitVec 32 := 256#32
  let v1165 : BitVec 32 := Scalar.muli v1147 c256_i32_770
  v1165
def k0_mult148 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_783 : BitVec 32 := 256#32
  let v1186 : BitVec 32 := Scalar.muli v1147 c256_i32_783
  v1186
def k0_mult149 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_796 : BitVec 32 := 256#32
  let v1207 : BitVec 32 := Scalar.muli v1147 c256_i32_796
  v1207
def k0_off62 (i : grid0.Coords) (c0_i32_754 : BitVec 32) : Fin 3 → Nat :=
  let c1_797 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let c256_i32_796 : BitVec 32 := 256#32
  let v1207 : BitVec 32 := Scalar.muli v1147 c256_i32_796
  let v1208 : BitVec 32 := v1207
  let v1209 : Index := Scalar.indexCast v1208
  let c0_798 : Index := 0#32
  ![1, v1209.toNat, 0]
def k0_off63 (i : grid0.Coords) (c0_i32_754 : BitVec 32) : Fin 4 → Nat :=
  let c0_809 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1230 : Index := Scalar.indexCast v1147
  let c0_810 : Index := 0#32
  let c0_811 : Index := 0#32
  ![0, v1230.toNat, 0, 0]
def k0_mult150 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_813 : BitVec 32 := 256#32
  let v1235 : BitVec 32 := Scalar.muli v1147 c256_i32_813
  v1235
def k0_off64 (i : grid0.Coords) (c0_i32_754 : BitVec 32) : Fin 4 → Nat :=
  let c0_826 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1258 : Index := Scalar.indexCast v1147
  let c64_827 : Index := 64#32
  let c0_828 : Index := 0#32
  ![0, v1258.toNat, 64, 0]
def k0_mult151 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_830 : BitVec 32 := 256#32
  let v1263 : BitVec 32 := Scalar.muli v1147 c256_i32_830
  v1263
def k0_off65 (i : grid0.Coords) (c0_i32_754 : BitVec 32) : Fin 4 → Nat :=
  let c0_843 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1286 : Index := Scalar.indexCast v1147
  let c128_844 : Index := 128#32
  let c0_845 : Index := 0#32
  ![0, v1286.toNat, 128, 0]
def k0_mult152 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_847 : BitVec 32 := 256#32
  let v1291 : BitVec 32 := Scalar.muli v1147 c256_i32_847
  v1291
def k0_off66 (i : grid0.Coords) (c0_i32_754 : BitVec 32) : Fin 4 → Nat :=
  let c0_860 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1314 : Index := Scalar.indexCast v1147
  let c192_861 : Index := 192#32
  let c0_862 : Index := 0#32
  ![0, v1314.toNat, 192, 0]
def k0_mult153 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_864 : BitVec 32 := 256#32
  let v1319 : BitVec 32 := Scalar.muli v1147 c256_i32_864
  v1319
def k0_off67 (i : grid0.Coords) (c0_i32_754 : BitVec 32) : Fin 3 → Nat :=
  let c2_865 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let c256_i32_864 : BitVec 32 := 256#32
  let v1319 : BitVec 32 := Scalar.muli v1147 c256_i32_864
  let v1320 : BitVec 32 := v1319
  let v1321 : Index := Scalar.indexCast v1320
  let c0_866 : Index := 0#32
  ![2, v1321.toNat, 0]
def k0_off68 (i : grid0.Coords) (c0_i32_754 : BitVec 32) : Fin 4 → Nat :=
  let c1_877 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1342 : Index := Scalar.indexCast v1147
  let c0_878 : Index := 0#32
  let c0_879 : Index := 0#32
  ![1, v1342.toNat, 0, 0]
def k0_mult154 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_881 : BitVec 32 := 256#32
  let v1347 : BitVec 32 := Scalar.muli v1147 c256_i32_881
  v1347
def k0_off69 (i : grid0.Coords) (c0_i32_754 : BitVec 32) : Fin 4 → Nat :=
  let c1_894 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1370 : Index := Scalar.indexCast v1147
  let c64_895 : Index := 64#32
  let c0_896 : Index := 0#32
  ![1, v1370.toNat, 64, 0]
def k0_mult155 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_898 : BitVec 32 := 256#32
  let v1375 : BitVec 32 := Scalar.muli v1147 c256_i32_898
  v1375
def k0_off70 (i : grid0.Coords) (c0_i32_754 : BitVec 32) : Fin 4 → Nat :=
  let c1_911 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1398 : Index := Scalar.indexCast v1147
  let c128_912 : Index := 128#32
  let c0_913 : Index := 0#32
  ![1, v1398.toNat, 128, 0]
def k0_mult156 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_915 : BitVec 32 := 256#32
  let v1403 : BitVec 32 := Scalar.muli v1147 c256_i32_915
  v1403
def k0_off71 (i : grid0.Coords) (c0_i32_754 : BitVec 32) : Fin 4 → Nat :=
  let c1_928 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1426 : Index := Scalar.indexCast v1147
  let c192_929 : Index := 192#32
  let c0_930 : Index := 0#32
  ![1, v1426.toNat, 192, 0]
def k0_mult157 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_932 : BitVec 32 := 256#32
  let v1431 : BitVec 32 := Scalar.muli v1147 c256_i32_932
  v1431
def k0_off72 (i : grid0.Coords) (c0_i32_754 : BitVec 32) : Fin 3 → Nat :=
  let c3_933 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let c256_i32_932 : BitVec 32 := 256#32
  let v1431 : BitVec 32 := Scalar.muli v1147 c256_i32_932
  let v1432 : BitVec 32 := v1431
  let v1433 : Index := Scalar.indexCast v1432
  let c0_934 : Index := 0#32
  ![3, v1433.toNat, 0]
def k0_off73 (i : grid0.Coords) (c0_i32_754 : BitVec 32) : Fin 4 → Nat :=
  let c2_945 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1454 : Index := Scalar.indexCast v1147
  let c0_946 : Index := 0#32
  let c0_947 : Index := 0#32
  ![2, v1454.toNat, 0, 0]
def k0_mult158 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_949 : BitVec 32 := 256#32
  let v1459 : BitVec 32 := Scalar.muli v1147 c256_i32_949
  v1459
def k0_off74 (i : grid0.Coords) (c0_i32_754 : BitVec 32) : Fin 4 → Nat :=
  let c2_962 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1482 : Index := Scalar.indexCast v1147
  let c64_963 : Index := 64#32
  let c0_964 : Index := 0#32
  ![2, v1482.toNat, 64, 0]
def k0_mult159 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_966 : BitVec 32 := 256#32
  let v1487 : BitVec 32 := Scalar.muli v1147 c256_i32_966
  v1487
def k0_off75 (i : grid0.Coords) (c0_i32_754 : BitVec 32) : Fin 4 → Nat :=
  let c2_979 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1510 : Index := Scalar.indexCast v1147
  let c128_980 : Index := 128#32
  let c0_981 : Index := 0#32
  ![2, v1510.toNat, 128, 0]
def k0_mult160 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_983 : BitVec 32 := 256#32
  let v1515 : BitVec 32 := Scalar.muli v1147 c256_i32_983
  v1515
def k0_off76 (i : grid0.Coords) (c0_i32_754 : BitVec 32) : Fin 4 → Nat :=
  let c2_996 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1538 : Index := Scalar.indexCast v1147
  let c192_997 : Index := 192#32
  let c0_998 : Index := 0#32
  ![2, v1538.toNat, 192, 0]
def k0_mult161 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1000 : BitVec 32 := 256#32
  let v1543 : BitVec 32 := Scalar.muli v1148 c256_i32_1000
  v1543
def k0_off77 (i : grid0.Coords) (c0_i32_754 : BitVec 32) : Fin 4 → Nat :=
  let c3_1013 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1566 : Index := Scalar.indexCast v1147
  let c0_1014 : Index := 0#32
  let c0_1015 : Index := 0#32
  ![3, v1566.toNat, 0, 0]
def k0_mult162 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1017 : BitVec 32 := 256#32
  let v1571 : BitVec 32 := Scalar.muli v1148 c256_i32_1017
  v1571
def k0_off78 (i : grid0.Coords) (c0_i32_754 : BitVec 32) : Fin 4 → Nat :=
  let c3_1030 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1594 : Index := Scalar.indexCast v1147
  let c64_1031 : Index := 64#32
  let c0_1032 : Index := 0#32
  ![3, v1594.toNat, 64, 0]
def k0_mult163 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1034 : BitVec 32 := 256#32
  let v1599 : BitVec 32 := Scalar.muli v1148 c256_i32_1034
  v1599
def k0_off79 (i : grid0.Coords) (c0_i32_754 : BitVec 32) : Fin 4 → Nat :=
  let c3_1047 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1622 : Index := Scalar.indexCast v1147
  let c128_1048 : Index := 128#32
  let c0_1049 : Index := 0#32
  ![3, v1622.toNat, 128, 0]
def k0_mult164 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1051 : BitVec 32 := 256#32
  let v1627 : BitVec 32 := Scalar.muli v1148 c256_i32_1051
  v1627
def k0_off80 (i : grid0.Coords) (c0_i32_754 : BitVec 32) : Fin 4 → Nat :=
  let c3_1064 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let v1147 : BitVec 32 := Scalar.subi v1146 c0_i32_754
  let v1650 : Index := Scalar.indexCast v1147
  let c192_1065 : Index := 192#32
  let c0_1066 : Index := 0#32
  ![3, v1650.toNat, 192, 0]
def k0_mult165 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1068 : BitVec 32 := 256#32
  let v1655 : BitVec 32 := Scalar.muli v1148 c256_i32_1068
  v1655
def k0_mult166 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1085 : BitVec 32 := 256#32
  let v1683 : BitVec 32 := Scalar.muli v1148 c256_i32_1085
  v1683
def k0_mult167 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1102 : BitVec 32 := 256#32
  let v1711 : BitVec 32 := Scalar.muli v1148 c256_i32_1102
  v1711
def k0_mult168 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1119 : BitVec 32 := 256#32
  let v1739 : BitVec 32 := Scalar.muli v1148 c256_i32_1119
  v1739
def k0_mult169 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1136 : BitVec 32 := 256#32
  let v1767 : BitVec 32 := Scalar.muli v1148 c256_i32_1136
  v1767
def k0_mult170 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1153 : BitVec 32 := 256#32
  let v1795 : BitVec 32 := Scalar.muli v1148 c256_i32_1153
  v1795
def k0_mult171 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1170 : BitVec 32 := 256#32
  let v1823 : BitVec 32 := Scalar.muli v1148 c256_i32_1170
  v1823
def k0_mult172 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1187 : BitVec 32 := 256#32
  let v1851 : BitVec 32 := Scalar.muli v1148 c256_i32_1187
  v1851
def k0_mult173 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1204 : BitVec 32 := 256#32
  let v1879 : BitVec 32 := Scalar.muli v1148 c256_i32_1204
  v1879
def k0_mult174 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1221 : BitVec 32 := 256#32
  let v1907 : BitVec 32 := Scalar.muli v1148 c256_i32_1221
  v1907
def k0_mult175 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1238 : BitVec 32 := 256#32
  let v1935 : BitVec 32 := Scalar.muli v1148 c256_i32_1238
  v1935
def k0_mult176 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c4_i32_747 : BitVec 32 := 4#32
  let c0_i32_748 : BitVec 32 := 0#32
  let v1136 : BitVec 1 := Scalar.cmpi .eq c4_i32_747 c0_i32_748
  let c1_i32_749 : BitVec 32 := 1#32
  let v1137 : BitVec 32 := Scalar.select v1136 c1_i32_749 c4_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c1_i32_755 : BitVec 32 := 1#32
  let v1148 : BitVec 32 := Scalar.subi v1146 c1_i32_755
  let c256_i32_1255 : BitVec 32 := 256#32
  let v1963 : BitVec 32 := Scalar.muli v1148 c256_i32_1255
  v1963
def k0_cond2 (i : grid0.Coords) : BitVec 1 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c0_i32_637 : BitVec 32 := 0#32
  let v1011 : BitVec 1 := Scalar.cmpi .sgt v974 c0_i32_637
  let v1012 : BitVec 32 := Scalar.extui v1011
  let c0_i32_638 : BitVec 32 := 0#32
  let v1013 : BitVec 1 := Scalar.cmpi .slt v974 c0_i32_638
  let v1014 : BitVec 32 := Scalar.extui v1013
  let v1015 : BitVec 32 := Scalar.subi v1012 v1014
  let c1_i32_636 : BitVec 32 := 1#32
  let c0_i32_639 : BitVec 32 := 0#32
  let v1016 : BitVec 1 := Scalar.cmpi .sgt c1_i32_636 c0_i32_639
  let v1017 : BitVec 32 := Scalar.extui v1016
  let c0_i32_640 : BitVec 32 := 0#32
  let v1018 : BitVec 1 := Scalar.cmpi .slt c1_i32_636 c0_i32_640
  let v1019 : BitVec 32 := Scalar.extui v1018
  let v1020 : BitVec 32 := Scalar.subi v1017 v1019
  let v1021 : BitVec 1 := Scalar.cmpi .ne v1015 v1020
  let v1022 : BitVec 32 := Scalar.remsi v974 c1_i32_636
  let c0_i32_641 : BitVec 32 := 0#32
  let v1023 : BitVec 1 := Scalar.cmpi .ne v1022 c0_i32_641
  let v1024 : BitVec 1 := Scalar.andi v1021 v1023
  let v1010 : BitVec 32 := Scalar.divsi v974 c1_i32_636
  let c1_i32_642 : BitVec 32 := 1#32
  let v1025 : BitVec 32 := Scalar.subi v1010 c1_i32_642
  let v1026 : BitVec 32 := Scalar.select v1024 v1025 v1010
  let c2_i32_643 : BitVec 32 := 2#32
  let c0_i32_644 : BitVec 32 := 0#32
  let v1027 : BitVec 1 := Scalar.cmpi .eq c2_i32_643 c0_i32_644
  let c1_i32_645 : BitVec 32 := 1#32
  let v1028 : BitVec 32 := Scalar.select v1027 c1_i32_645 c2_i32_643
  let v1029 : BitVec 32 := Scalar.remsi v1026 v1028
  let c0_i32_647 : BitVec 32 := 0#32
  let v1031 : BitVec 1 := Scalar.cmpi .slt v1029 c0_i32_647
  let c0_i32_648 : BitVec 32 := 0#32
  let v1032 : BitVec 1 := Scalar.cmpi .slt v1028 c0_i32_648
  let v1033 : BitVec 1 := Scalar.xori v1031 v1032
  let c0_i32_646 : BitVec 32 := 0#32
  let v1030 : BitVec 1 := Scalar.cmpi .ne v1029 c0_i32_646
  let v1034 : BitVec 1 := Scalar.andi v1033 v1030
  let v1035 : BitVec 32 := Scalar.addi v1029 v1028
  let v1036 : BitVec 32 := Scalar.select v1034 v1035 v1029
  let c1_i32_649 : BitVec 32 := 1#32
  let v1037 : BitVec 1 := Scalar.cmpi .eq v1036 c1_i32_649
  let v1038 : BitVec 32 := Scalar.extui v1037
  let c0_i32_650 : BitVec 32 := 0#32
  let v1039 : BitVec 1 := Scalar.cmpi .ne v1038 c0_i32_650
  v1039

def k0_mult177 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_755 : BitVec 32 := 256#32
  let v1148 : BitVec 32 := Scalar.muli v1147 c256_i32_755
  v1148
def k0_off81 (i : grid0.Coords) : Fin 3 → Nat :=
  let c0_756 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_755 : BitVec 32 := 256#32
  let v1148 : BitVec 32 := Scalar.muli v1147 c256_i32_755
  let v1149 : BitVec 32 := v1148
  let v1150 : Index := Scalar.indexCast v1149
  let c0_757 : Index := 0#32
  ![0, v1150.toNat, 0]
def k0_mult178 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_762 : BitVec 32 := 256#32
  let v1156 : BitVec 32 := Scalar.muli v1147 c256_i32_762
  v1156
def k0_mult179 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_769 : BitVec 32 := 256#32
  let v1164 : BitVec 32 := Scalar.muli v1147 c256_i32_769
  v1164
def k0_mult180 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_782 : BitVec 32 := 256#32
  let v1185 : BitVec 32 := Scalar.muli v1147 c256_i32_782
  v1185
def k0_mult181 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_795 : BitVec 32 := 256#32
  let v1206 : BitVec 32 := Scalar.muli v1147 c256_i32_795
  v1206
def k0_off82 (i : grid0.Coords) : Fin 3 → Nat :=
  let c1_796 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_795 : BitVec 32 := 256#32
  let v1206 : BitVec 32 := Scalar.muli v1147 c256_i32_795
  let v1207 : BitVec 32 := v1206
  let v1208 : Index := Scalar.indexCast v1207
  let c0_797 : Index := 0#32
  ![1, v1208.toNat, 0]
def k0_off83 (i : grid0.Coords) : Fin 4 → Nat :=
  let c0_808 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1229 : Index := Scalar.indexCast v1147
  let c0_809 : Index := 0#32
  let c0_810 : Index := 0#32
  ![0, v1229.toNat, 0, 0]
def k0_mult182 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_812 : BitVec 32 := 256#32
  let v1234 : BitVec 32 := Scalar.muli v1147 c256_i32_812
  v1234
def k0_off84 (i : grid0.Coords) : Fin 4 → Nat :=
  let c0_825 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1257 : Index := Scalar.indexCast v1147
  let c64_826 : Index := 64#32
  let c0_827 : Index := 0#32
  ![0, v1257.toNat, 64, 0]
def k0_mult183 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_829 : BitVec 32 := 256#32
  let v1262 : BitVec 32 := Scalar.muli v1147 c256_i32_829
  v1262
def k0_off85 (i : grid0.Coords) : Fin 4 → Nat :=
  let c0_842 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1285 : Index := Scalar.indexCast v1147
  let c128_843 : Index := 128#32
  let c0_844 : Index := 0#32
  ![0, v1285.toNat, 128, 0]
def k0_mult184 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_846 : BitVec 32 := 256#32
  let v1290 : BitVec 32 := Scalar.muli v1147 c256_i32_846
  v1290
def k0_off86 (i : grid0.Coords) : Fin 4 → Nat :=
  let c0_859 : Index := 0#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1313 : Index := Scalar.indexCast v1147
  let c192_860 : Index := 192#32
  let c0_861 : Index := 0#32
  ![0, v1313.toNat, 192, 0]
def k0_mult185 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_863 : BitVec 32 := 256#32
  let v1318 : BitVec 32 := Scalar.muli v1147 c256_i32_863
  v1318
def k0_off87 (i : grid0.Coords) : Fin 3 → Nat :=
  let c2_864 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_863 : BitVec 32 := 256#32
  let v1318 : BitVec 32 := Scalar.muli v1147 c256_i32_863
  let v1319 : BitVec 32 := v1318
  let v1320 : Index := Scalar.indexCast v1319
  let c0_865 : Index := 0#32
  ![2, v1320.toNat, 0]
def k0_off88 (i : grid0.Coords) : Fin 4 → Nat :=
  let c1_876 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1341 : Index := Scalar.indexCast v1147
  let c0_877 : Index := 0#32
  let c0_878 : Index := 0#32
  ![1, v1341.toNat, 0, 0]
def k0_mult186 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_880 : BitVec 32 := 256#32
  let v1346 : BitVec 32 := Scalar.muli v1147 c256_i32_880
  v1346
def k0_off89 (i : grid0.Coords) : Fin 4 → Nat :=
  let c1_893 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1369 : Index := Scalar.indexCast v1147
  let c64_894 : Index := 64#32
  let c0_895 : Index := 0#32
  ![1, v1369.toNat, 64, 0]
def k0_mult187 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_897 : BitVec 32 := 256#32
  let v1374 : BitVec 32 := Scalar.muli v1147 c256_i32_897
  v1374
def k0_off90 (i : grid0.Coords) : Fin 4 → Nat :=
  let c1_910 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1397 : Index := Scalar.indexCast v1147
  let c128_911 : Index := 128#32
  let c0_912 : Index := 0#32
  ![1, v1397.toNat, 128, 0]
def k0_mult188 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_914 : BitVec 32 := 256#32
  let v1402 : BitVec 32 := Scalar.muli v1147 c256_i32_914
  v1402
def k0_off91 (i : grid0.Coords) : Fin 4 → Nat :=
  let c1_927 : Index := 1#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1425 : Index := Scalar.indexCast v1147
  let c192_928 : Index := 192#32
  let c0_929 : Index := 0#32
  ![1, v1425.toNat, 192, 0]
def k0_mult189 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_931 : BitVec 32 := 256#32
  let v1430 : BitVec 32 := Scalar.muli v1147 c256_i32_931
  v1430
def k0_off92 (i : grid0.Coords) : Fin 3 → Nat :=
  let c3_932 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_931 : BitVec 32 := 256#32
  let v1430 : BitVec 32 := Scalar.muli v1147 c256_i32_931
  let v1431 : BitVec 32 := v1430
  let v1432 : Index := Scalar.indexCast v1431
  let c0_933 : Index := 0#32
  ![3, v1432.toNat, 0]
def k0_off93 (i : grid0.Coords) : Fin 4 → Nat :=
  let c2_944 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1453 : Index := Scalar.indexCast v1147
  let c0_945 : Index := 0#32
  let c0_946 : Index := 0#32
  ![2, v1453.toNat, 0, 0]
def k0_mult190 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_948 : BitVec 32 := 256#32
  let v1458 : BitVec 32 := Scalar.muli v1147 c256_i32_948
  v1458
def k0_off94 (i : grid0.Coords) : Fin 4 → Nat :=
  let c2_961 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1481 : Index := Scalar.indexCast v1147
  let c64_962 : Index := 64#32
  let c0_963 : Index := 0#32
  ![2, v1481.toNat, 64, 0]
def k0_mult191 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_965 : BitVec 32 := 256#32
  let v1486 : BitVec 32 := Scalar.muli v1147 c256_i32_965
  v1486
def k0_off95 (i : grid0.Coords) : Fin 4 → Nat :=
  let c2_978 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1509 : Index := Scalar.indexCast v1147
  let c128_979 : Index := 128#32
  let c0_980 : Index := 0#32
  ![2, v1509.toNat, 128, 0]
def k0_mult192 (i : grid0.Coords) : BitVec 32 :=
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let c256_i32_982 : BitVec 32 := 256#32
  let v1514 : BitVec 32 := Scalar.muli v1147 c256_i32_982
  v1514
def k0_off96 (i : grid0.Coords) : Fin 4 → Nat :=
  let c2_995 : Index := 2#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1537 : Index := Scalar.indexCast v1147
  let c192_996 : Index := 192#32
  let c0_997 : Index := 0#32
  ![2, v1537.toNat, 192, 0]
def k0_off97 (i : grid0.Coords) : Fin 4 → Nat :=
  let c3_1005 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1557 : Index := Scalar.indexCast v1147
  let c0_1006 : Index := 0#32
  let c0_1007 : Index := 0#32
  ![3, v1557.toNat, 0, 0]
def k0_off98 (i : grid0.Coords) : Fin 4 → Nat :=
  let c3_1015 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1577 : Index := Scalar.indexCast v1147
  let c64_1016 : Index := 64#32
  let c0_1017 : Index := 0#32
  ![3, v1577.toNat, 64, 0]
def k0_off99 (i : grid0.Coords) : Fin 4 → Nat :=
  let c3_1019 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1584 : Index := Scalar.indexCast v1147
  let c128_1020 : Index := 128#32
  let c0_1021 : Index := 0#32
  ![3, v1584.toNat, 128, 0]
def k0_off100 (i : grid0.Coords) : Fin 4 → Nat :=
  let c3_1023 : Index := 3#32
  let arg2 : BitVec 32 := BitVec.ofNat 32 (i 2).val
  let c0_i32 : BitVec 32 := 0#32
  let v957 : BitVec 1 := Scalar.cmpi .sgt arg2 c0_i32
  let v958 : BitVec 32 := Scalar.extui v957
  let c0_i32_612 : BitVec 32 := 0#32
  let v959 : BitVec 1 := Scalar.cmpi .slt arg2 c0_i32_612
  let v960 : BitVec 32 := Scalar.extui v959
  let v961 : BitVec 32 := Scalar.subi v958 v960
  let c4_i32 : BitVec 32 := 4#32
  let c0_i32_613 : BitVec 32 := 0#32
  let v962 : BitVec 1 := Scalar.cmpi .sgt c4_i32 c0_i32_613
  let v963 : BitVec 32 := Scalar.extui v962
  let c0_i32_614 : BitVec 32 := 0#32
  let v964 : BitVec 1 := Scalar.cmpi .slt c4_i32 c0_i32_614
  let v965 : BitVec 32 := Scalar.extui v964
  let v966 : BitVec 32 := Scalar.subi v963 v965
  let v967 : BitVec 1 := Scalar.cmpi .ne v961 v966
  let v968 : BitVec 32 := Scalar.remsi arg2 c4_i32
  let c0_i32_615 : BitVec 32 := 0#32
  let v969 : BitVec 1 := Scalar.cmpi .ne v968 c0_i32_615
  let v970 : BitVec 1 := Scalar.andi v967 v969
  let v956 : BitVec 32 := Scalar.divsi arg2 c4_i32
  let c1_i32 : BitVec 32 := 1#32
  let v971 : BitVec 32 := Scalar.subi v956 c1_i32
  let v972 : BitVec 32 := Scalar.select v970 v971 v956
  let c4_i32_616 : BitVec 32 := 4#32
  let v973 : BitVec 32 := Scalar.muli v972 c4_i32_616
  let v974 : BitVec 32 := Scalar.subi arg2 v973
  let c2_i32_747 : BitVec 32 := 2#32
  let c0_i32_748 : BitVec 32 := 0#32
  let v1136 : BitVec 1 := Scalar.cmpi .eq c2_i32_747 c0_i32_748
  let c1_i32_749 : BitVec 32 := 1#32
  let v1137 : BitVec 32 := Scalar.select v1136 c1_i32_749 c2_i32_747
  let v1138 : BitVec 32 := Scalar.remsi v974 v1137
  let c0_i32_751 : BitVec 32 := 0#32
  let v1140 : BitVec 1 := Scalar.cmpi .slt v1138 c0_i32_751
  let c0_i32_752 : BitVec 32 := 0#32
  let v1141 : BitVec 1 := Scalar.cmpi .slt v1137 c0_i32_752
  let v1142 : BitVec 1 := Scalar.xori v1140 v1141
  let c0_i32_750 : BitVec 32 := 0#32
  let v1139 : BitVec 1 := Scalar.cmpi .ne v1138 c0_i32_750
  let v1143 : BitVec 1 := Scalar.andi v1142 v1139
  let v1144 : BitVec 32 := Scalar.addi v1138 v1137
  let v1145 : BitVec 32 := Scalar.select v1143 v1144 v1138
  let c1_i32_753 : BitVec 32 := 1#32
  let v1146 : BitVec 32 := Scalar.subi v1145 c1_i32_753
  let c0_i32_754 : BitVec 32 := 0#32
  let v1147 : BitVec 32 := Scalar.subi v1146 c0_i32_754
  let v1591 : Index := Scalar.indexCast v1147
  let c192_1024 : Index := 192#32
  let c0_1025 : Index := 0#32
  ![3, v1591.toNat, 192, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S4x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "clamp" => some ⊤
  | "log2e" => some (((Real.log 2)⁻¹ : ℝ) : EReal)
  | _ => none
-- ==== ReferenceIdeal.lean ====
abbrev S4x16x1024x256 : Shape := ⟨4, ![4, 16, 1024, 256]⟩
abbrev S4x4096x1024 : Shape := ⟨3, ![4, 4096, 1024]⟩
abbrev S4x16x256x1024 : Shape := ⟨4, ![4, 16, 256, 1024]⟩
abbrev S4x4096x16x64 : Shape := ⟨4, ![4, 4096, 16, 64]⟩
abbrev S4x16x4096x64 : Shape := ⟨4, ![4, 16, 4096, 64]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x64x4096 : Shape := ⟨4, ![4, 16, 64, 4096]⟩
abbrev S4x1024x4096 : Shape := ⟨3, ![4, 1024, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4x16x1024x256, .bf16⟩
  | .hbm, ⟨1, _⟩ => ⟨S4x4096x1024, .bf16⟩
  | .hbm, ⟨2, _⟩ => ⟨S4x16x1024x256, .bf16⟩
  | .hbm, ⟨3, _⟩ => ⟨S4x16x1024x256, .f32⟩
  | .hbm, ⟨4, _⟩ => ⟨S4x16x256x1024, .f32⟩
  | .hbm, ⟨5, _⟩ => ⟨S4x4096x1024, .f32⟩
  | .hbm, ⟨6, _⟩ => ⟨S4x4096x16x64, .f32⟩
  | .hbm, ⟨7, _⟩ => ⟨S4x16x4096x64, .f32⟩
  | .hbm, ⟨8, _⟩ => ⟨S4x16x1024x256, .f32⟩
  | .hbm, ⟨9, _⟩ => ⟨S4x16x256x1024, .f32⟩
  | .hbm, ⟨10, _⟩ => ⟨S4x4096x1024, .f32⟩
  | .hbm, ⟨11, _⟩ => ⟨S4x4096x16x64, .f32⟩
  | .hbm, ⟨12, _⟩ => ⟨S4x16x4096x64, .f32⟩
  | .hbm, ⟨13, _⟩ => ⟨S4x4096x1024, .f32⟩
  | .hbm, ⟨14, _⟩ => ⟨S4x4096x16x64, .f32⟩
  | .hbm, ⟨15, _⟩ => ⟨S4x16x4096x64, .f32⟩
  | .hbm, ⟨16, _⟩ => ⟨S4x16x4096x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x16x4096x4096, .f32⟩
  | .hbm, ⟨21, _⟩ => ⟨S4x16x4096x4096, .f32⟩
  | .hbm, ⟨22, _⟩ => ⟨S4096, .i32⟩
  | .hbm, ⟨23, _⟩ => ⟨S1x4096, .i32⟩
  | .hbm, ⟨24, _⟩ => ⟨S4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S4x16x4096x4096, .f32⟩
  | .hbm, ⟨30, _⟩ => ⟨S4x16x4096x4096, .f32⟩
  | .hbm, ⟨31, _⟩ => ⟨S_, .f32⟩
  | .hbm, ⟨32, _⟩ => ⟨S4x16x4096x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .i1⟩
  | .hbm, ⟨37, _⟩ => ⟨S4x16x4096x4096, .f32⟩
  | .hbm, ⟨38, _⟩ => ⟨S4x16x4096x4096, .f32⟩
  | .hbm, ⟨39, _⟩ => ⟨S4x16x4096x4096, .f32⟩
  | .hbm, ⟨40, _⟩ => ⟨S4x16x4096x4096, .f32⟩
  | .hbm, ⟨41, _⟩ => ⟨S4x16x4096x4096, .f32⟩
  | .hbm, ⟨42, _⟩ => ⟨S4x16x4096x4096, .f32⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S_, .f32⟩
  | .hbm, ⟨47, _⟩ => ⟨S_, .f32⟩
  | .hbm, ⟨48, _⟩ => ⟨S4x16x4096x4096, .i1⟩
  | .hbm, ⟨49, _⟩ => ⟨S4x16x4096x4096, .f32⟩
  | .hbm, ⟨50, _⟩ => ⟨S4x16x4096x4096, .f32⟩
  | .hbm, ⟨51, _⟩ => ⟨S_, .f32⟩
  | .hbm, ⟨52, _⟩ => ⟨S_, .f32⟩
  | .hbm, ⟨53, _⟩ => ⟨S4x16x4096x4096, .f32⟩
  | .hbm, ⟨54, _⟩ => ⟨S4x16x4096x4096, .f32⟩
  | .hbm, ⟨55, _⟩ => ⟨S_, .f32⟩
  | .hbm, ⟨56, _⟩ => ⟨S4x16x4096x4096, .f32⟩
  | .hbm, ⟨57, _⟩ => ⟨S4x16x4096x4096, .f32⟩
  | .hbm, ⟨58, _⟩ => ⟨S4x16x4096x4096, .f32⟩
  | .hbm, ⟨59, _⟩ => ⟨S4x16x4096x4096, .f32⟩
  | .hbm, ⟨60, _⟩ => ⟨S4x16x4096x4096, .i1⟩
  | .hbm, ⟨61, _⟩ => ⟨S4x16x4096x4096, .f32⟩
  | .hbm, ⟨62, _⟩ => ⟨S4x16x4096x4096, .f32⟩
  | .hbm, ⟨63, _⟩ => ⟨S4x16x4096x4096, .f32⟩
  | .hbm, ⟨64, _⟩ => ⟨S4x16x4096x4096, .f32⟩
  | .hbm, ⟨65, _⟩ => ⟨S4x16x4096x4096, .f32⟩
  | .hbm, ⟨66, _⟩ => ⟨S4x16x4096x4096, .f32⟩
  | .hbm, ⟨67, _⟩ => ⟨S4x16x4096x4096, .f32⟩
  | .hbm, ⟨68, _⟩ => ⟨S4x16x4096x4096, .f32⟩
  | .hbm, ⟨69, _⟩ => ⟨S4x16x4096x4096, .f32⟩
  | .hbm, ⟨70, _⟩ => ⟨S4x16x4096x4096, .f32⟩
  | .hbm, ⟨71, _⟩ => ⟨S4x16x4096x4096, .f32⟩
  | .hbm, ⟨72, _⟩ => ⟨S4x16x4096x4096, .f32⟩
  | .hbm, ⟨73, _⟩ => ⟨S_, .f32⟩
  | .hbm, ⟨74, _⟩ => ⟨S_, .f32⟩
  | .hbm, ⟨75, _⟩ => ⟨S4x16x4096x4096, .i1⟩
  | .hbm, ⟨76, _⟩ => ⟨S4x16x4096x4096, .f32⟩
  | .hbm, ⟨77, _⟩ => ⟨S4x16x4096x4096, .f32⟩
  | .hbm, ⟨78, _⟩ => ⟨S4x16x4096x64, .f32⟩
  | .hbm, ⟨79, _⟩ => ⟨S4x16x64x4096, .f32⟩
  | .hbm, ⟨80, _⟩ => ⟨S4x1024x4096, .f32⟩
  | .hbm, ⟨81, _⟩ => ⟨S4x1024x4096, .bf16⟩
  | _, _ => ⟨S4x16x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v26 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_call2_cst : Ref sig .tc := ⟨.hbm, 51, rfl⟩
abbrev main_call2_v0 : Ref sig .tc := ⟨.hbm, 52, rfl⟩
abbrev main_v28 : Ref sig .tc := ⟨.hbm, 53, rfl⟩
abbrev main_call3_v0 : Ref sig .tc := ⟨.hbm, 54, rfl⟩
abbrev main_call3_call0_cst : Ref sig .tc := ⟨.hbm, 55, rfl⟩
abbrev main_call3_call0_v0 : Ref sig .tc := ⟨.hbm, 56, rfl⟩
abbrev main_call3_call0_v1 : Ref sig .tc := ⟨.hbm, 57, rfl⟩
abbrev main_call3_call0_v2 : Ref sig .tc := ⟨.hbm, 58, rfl⟩
abbrev main_call3_call0_v3 : Ref sig .tc := ⟨.hbm, 59, rfl⟩
abbrev main_call3_call0_v4 : Ref sig .tc := ⟨.hbm, 60, rfl⟩
abbrev main_call3_call0_v5 : Ref sig .tc := ⟨.hbm, 61, rfl⟩
abbrev main_call3_call0_v6 : Ref sig .tc := ⟨.hbm, 62, rfl⟩
abbrev main_call3_call0_v7 : Ref sig .tc := ⟨.hbm, 63, rfl⟩
abbrev main_call3_call0_v8 : Ref sig .tc := ⟨.hbm, 64, rfl⟩
abbrev main_call3_call0_v9 : Ref sig .tc := ⟨.hbm, 65, rfl⟩
abbrev main_call3_call0_v10 : Ref sig .tc := ⟨.hbm, 66, rfl⟩
abbrev main_call3_call0_v11 : Ref sig .tc := ⟨.hbm, 67, rfl⟩
abbrev main_call3_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x1024x4096 : Shape := ⟨3, ![2, 1024, 4096]⟩
abbrev S4x16x1024x256 : Shape := ⟨4, ![4, 16, 1024, 256]⟩
abbrev S4x1024x4096 : Shape := ⟨3, ![4, 1024, 4096]⟩
abbrev S1x512x1024 : Shape := ⟨3, ![1, 512, 1024]⟩
abbrev S1x1024x4096 : Shape := ⟨3, ![1, 1024, 4096]⟩
abbrev S1x2x1024x256 : Shape := ⟨4, ![1, 2, 1024, 256]⟩
abbrev S1x1024x512 : Shape := ⟨3, ![1, 1024, 512]⟩
abbrev S512x1024 : Shape := ⟨2, ![512, 1024]⟩
abbrev S1x1024x1024 : Shape := ⟨3, ![1, 1024, 1024]⟩
abbrev S1024x1024 : Shape := ⟨2, ![1024, 1024]⟩
abbrev S1024x512 : Shape := ⟨2, ![1024, 512]⟩
abbrev S1024x256 : Shape := ⟨2, ![1024, 256]⟩
abbrev S1x1x1024x256 : Shape := ⟨4, ![1, 1, 1024, 256]⟩

abbrev nBuf : Space → Nat
  | .hbm => 6
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S2x1024x4096, .f32⟩
  | .hbm, ⟨2, _⟩ => ⟨S4x4096x1024, .bf16⟩
  | .hbm, ⟨3, _⟩ => ⟨S4x16x1024x256, .bf16⟩
  | .hbm, ⟨4, _⟩ => ⟨S4x16x1024x256, .bf16⟩
  | .hbm, ⟨5, _⟩ => ⟨S4x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024x4096, .f32⟩
  | .local _ .vmem, ⟨3, _⟩ => ⟨S1x512x1024, .bf16⟩
  | .local _ .vmem, ⟨4, _⟩ => ⟨S1x512x1024, .bf16⟩
  | .local _ .vmem, ⟨5, _⟩ => ⟨S1x2x1024x256, .bf16⟩
  | .local _ .vmem, ⟨6, _⟩ => ⟨S1x2x1024x256, .bf16⟩
  | .local _ .vmem, ⟨7, _⟩ => ⟨S1x2x1024x256, .bf16⟩
  | .local _ .vmem, ⟨8, _⟩ => ⟨S1x2x1024x256, .bf16⟩
  | .local _ .vmem, ⟨9, _⟩ => ⟨S1x1024x512, .bf16⟩
  | .local _ .vmem, ⟨10, _⟩ => ⟨S1x1024x512, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "qscale" => some (((8 * (Real.log 2))⁻¹ : ℝ) : EReal)
  | _ => none
-- ==== Reference2Ideal.lean ====
abbrev S4x4096x1024 : Shape := ⟨3, ![4, 4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S_ : Shape := ⟨0, ![]⟩
abbrev S4x16x256x1024 : Shape := ⟨4, ![4, 16, 256, 1024]⟩
abbrev S4x16x1024x256 : Shape := ⟨4, ![4, 16, 1024, 256]⟩
abbrev S4x1024x4096 : Shape := ⟨3, ![4, 1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024x4096, .f32⟩
  | .hbm, ⟨2, _⟩ => ⟨S1x1024x4096, .f32⟩
  | .hbm, ⟨3, _⟩ => ⟨S1024x4096, .f32⟩
  | .hbm, ⟨4, _⟩ => ⟨S4x4096x4096, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .bf16⟩
  | .hbm, ⟨18, _⟩ => ⟨S4x16x256x1024, .f32⟩
  | .hbm, ⟨19, _⟩ => ⟨S4x16x1024x256, .f32⟩
  | .hbm, ⟨20, _⟩ => ⟨S4x16x1024x256, .bf16⟩
  | .hbm, ⟨21, _⟩ => ⟨S4x16x256x1024, .f32⟩
  | .hbm, ⟨22, _⟩ => ⟨S4x16x1024x256, .f32⟩
  | .hbm, ⟨23, _⟩ => ⟨S4x16x1024x256, .bf16⟩
  | .hbm, ⟨24, _⟩ => ⟨S4x1024x4096, .f32⟩
  | .hbm, ⟨25, _⟩ => ⟨S4x1024x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel3.lean ====
abbrev S4x1024x4096 : Shape := ⟨3, ![4, 1024, 4096]⟩
abbrev S4x4096x1024 : Shape := ⟨3, ![4, 4096, 1024]⟩
abbrev S2x1024x1024 : Shape := ⟨3, ![2, 1024, 1024]⟩
abbrev S2x1024 : Shape := ⟨2, ![2, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S4x1024x4096, .bf16⟩
  | .hbm, ⟨1, _⟩ => ⟨S4x1024x4096, .bf16⟩
  | .hbm, ⟨2, _⟩ => ⟨S4x4096x1024, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S1x1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1024x512, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x1024x4096 : Shape := ⟨3, ![4, 1024, 4096]⟩
abbrev S4x4096x1024 : Shape := ⟨3, ![4, 4096, 1024]⟩
abbrev S2x1024x1024 : Shape := ⟨3, ![2, 1024, 1024]⟩
abbrev S2x1024 : Shape := ⟨2, ![2, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x1024x4096, .bf16⟩
  | .hbm, ⟨2, _⟩ => ⟨S4x4096x1024, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S4x1024x4096, .f32⟩
  | .hbm, ⟨7, _⟩ => ⟨S4x4096x1024, .f32⟩
  | .hbm, ⟨8, _⟩ => ⟨S4x1024x4096, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S1x1024x1024, .f32⟩
  | .hbm, ⟨21, _⟩ => ⟨S1024x1024, .f32⟩
  | .hbm, ⟨22, _⟩ => ⟨S4x4096x1024, .f32⟩
  | .hbm, ⟨23, _⟩ => ⟨S_, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel4.lean ====
abbrev S32x16 : Shape := ⟨2, ![32, 16]⟩
abbrev S1024 : Shape := ⟨1, ![1024]⟩
abbrev S1x1024 : Shape := ⟨2, ![1, 1024]⟩
abbrev S512 : Shape := ⟨1, ![512]⟩
abbrev S16x2x256x256 : Shape := ⟨4, ![16, 2, 256, 256]⟩
abbrev S1x2x256x256 : Shape := ⟨4, ![1, 2, 256, 256]⟩
abbrev S1 : Shape := ⟨1, ![1]⟩
abbrev S256x1024 : Shape := ⟨2, ![256, 1024]⟩
abbrev S256x256 : Shape := ⟨2, ![256, 256]⟩
abbrev S1x1x256x256 : Shape := ⟨4, ![1, 1, 256, 256]⟩

abbrev nBuf : Space → Nat
  | .hbm => 5
  | .vmem => 3
  | .smem => 1
  | _ => 0

abbrev bufTy : (tb : Table) → Fin (tcTables nBuf tb) → BufTy
  | .hbm, ⟨0, _⟩ => ⟨S32x16, .f32⟩
  | .hbm, ⟨1, _⟩ => ⟨S1024, .i32⟩
  | .hbm, ⟨2, _⟩ => ⟨S1x1024, .i32⟩
  | .hbm, ⟨3, _⟩ => ⟨S512, .f32⟩
  | .hbm, ⟨4, _⟩ => ⟨S16x2x256x256, .f32⟩
  | .local _ .vmem, ⟨0, _⟩ => ⟨S1x1024, .i32⟩
  | .local _ .vmem, ⟨1, _⟩ => ⟨S1x2x256x256, .f32⟩
  | .local _ .vmem, ⟨2, _⟩ => ⟨S1x2x256x256, .f32⟩
  | .local _ .smem, ⟨0, _⟩ => ⟨S512, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) (c0_i32_1 : BitVec 32) : Fin 1 → Nat :=
  let arg0 : BitVec 32 := BitVec.ofNat 32 (i 0).val
  let v4 : BitVec 32 := Scalar.addi c0_i32_1 arg0
  let v5 : Index := Scalar.indexCast v4
  ![v5.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S32x16 : Shape := ⟨2, ![32, 16]⟩
abbrev S2 : Shape := ⟨1, ![2]⟩
abbrev S2x1x1 : Shape := ⟨3, ![2, 1, 1]⟩
abbrev S256 : Shape := ⟨1, ![256]⟩
abbrev S1x256x1 : Shape := ⟨3, ![1, 256, 1]⟩
abbrev S1x1x256 : Shape := ⟨3, ![1, 1, 256]⟩
abbrev S_ : Shape := ⟨0, ![]⟩
abbrev S2x1x256 : Shape := ⟨3, ![2, 1, 256]⟩
abbrev S2x256x256 : Shape := ⟨3, ![2, 256, 256]⟩
abbrev S2x256x256x1 : Shape := ⟨4, ![2, 256, 256, 1]⟩
abbrev S2x256x256x16 : Shape := ⟨4, ![2, 256, 256, 16]⟩
abbrev S16x2x256x256 : Shape := ⟨4, ![16, 2, 256, 256]⟩

abbrev nBuf : Space → Nat
  | .hbm => 69
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S2, .i32⟩
  | .hbm, ⟨2, _⟩ => ⟨S2x1x1, .i32⟩
  | .hbm, ⟨3, _⟩ => ⟨S256, .i32⟩
  | .hbm, ⟨4, _⟩ => ⟨S1x256x1, .i32⟩
  | .hbm, ⟨5, _⟩ => ⟨S256, .i32⟩
  | .hbm, ⟨6, _⟩ => ⟨S1x1x256, .i32⟩
  | .hbm, ⟨7, _⟩ => ⟨S_, .i32⟩
  | .hbm, ⟨8, _⟩ => ⟨S2x1x1, .i32⟩
  | .hbm, ⟨9, _⟩ => ⟨S2x1x1, .i32⟩
  | .hbm, ⟨10, _⟩ => ⟨S2x1x256, .i32⟩
  | .hbm, ⟨11, _⟩ => ⟨S2x1x256, .i32⟩
  | .hbm, ⟨12, _⟩ => ⟨S2x1x256, .i32⟩
  | .hbm, ⟨13, _⟩ => ⟨S2x256x256, .i32⟩
  | .hbm, ⟨14, _⟩ => ⟨S2x256x256, .i32⟩
  | .hbm, ⟨15, _⟩ => ⟨S2x256x256, .i32⟩
  | .hbm, ⟨16, _⟩ => ⟨S_, .i32⟩
  | .hbm, ⟨17, _⟩ => ⟨S2x256x256, .i32⟩
  | .hbm, ⟨18, _⟩ => ⟨S2x256x256, .i32⟩
  | .hbm, ⟨19, _⟩ => ⟨S_, .i32⟩
  | .hbm, ⟨20, _⟩ => ⟨S2x256x256, .i32⟩
  | .hbm, ⟨21, _⟩ => ⟨S2x256x256, .i32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .i32⟩
  | .hbm, ⟨36, _⟩ => ⟨S_, .i32⟩
  | .hbm, ⟨37, _⟩ => ⟨S2x256x256, .i32⟩
  | .hbm, ⟨38, _⟩ => ⟨S2x256x256, .i32⟩
  | .hbm, ⟨39, _⟩ => ⟨S_, .i32⟩
  | .hbm, ⟨40, _⟩ => ⟨S2x256x256, .i32⟩
  | .hbm, ⟨41, _⟩ => ⟨S2x256x256, .i32⟩
  | .hbm, ⟨42, _⟩ => ⟨S_, .i32⟩
  | .hbm, ⟨43, _⟩ => ⟨S2x256x256, .i32⟩
  | .hbm, ⟨44, _⟩ => ⟨S2x256x256, .i1⟩
  | .hbm, ⟨45, _⟩ => ⟨S2x256x256, .i32⟩
  | .hbm, ⟨46, _⟩ => ⟨S_, .i32⟩
  | .hbm, ⟨47, _⟩ => ⟨S2x256x256, .i32⟩
  | .hbm, ⟨48, _⟩ => ⟨S2x256x256, .i1⟩
  | .hbm, ⟨49, _⟩ => ⟨S_, .i32⟩
  | .hbm, ⟨50, _⟩ => ⟨S2x256x256, .i32⟩
  | .hbm, ⟨51, _⟩ => ⟨S2x256x256, .i32⟩
  | .hbm, ⟨52, _⟩ => ⟨S2x256x256, .i32⟩
  | .hbm, ⟨53, _⟩ => ⟨S2x256x256x1, .i32⟩
  | .hbm, ⟨54, _⟩ => ⟨S2x256x256x16, .f32⟩
  | .hbm, ⟨55, _⟩ => ⟨S16x2x256x256, .f32⟩
  | .hbm, ⟨56, _⟩ => ⟨S_, .i32⟩
  | .hbm, ⟨57, _⟩ => ⟨S2x256x256, .i32⟩
  | .hbm, ⟨58, _⟩ => ⟨S2x256x256, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16x2x256x256, .f32⟩
  | .hbm, ⟨63, _⟩ => ⟨S16x2x256x256, .f32⟩
  | .hbm, ⟨64, _⟩ => ⟨S_, .f32⟩
  | .hbm, ⟨65, _⟩ => ⟨S_, .f32⟩
  | .hbm, ⟨66, _⟩ => ⟨S16x2x256x256, .i1⟩
  | .hbm, ⟨67, _⟩ => ⟨S16x2x256x256, .f32⟩
  | .hbm, ⟨68, _⟩ => ⟨S16x2x256x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_4 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_c_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_7 : Ref sig .tc := ⟨.hbm, 46, rfl⟩
abbrev main_v36 : Ref sig .tc := ⟨.hbm, 47, rfl⟩
abbrev main_v37 : Ref sig .tc := ⟨.hbm, 48, rfl⟩
abbrev main_c_8 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_9 : Ref sig .tc := ⟨.hbm, 56, rfl⟩
abbrev main_v44 : Ref sig .tc := ⟨.hbm, 57, rfl⟩
abbrev main_v45 : Ref sig .tc := ⟨.hbm, 58, rfl⟩
abbrev main_cst_10 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_11 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Tile.lean ====
/-
  One tile of the kernel's attention over vectors, and what a group of tiles does to the accumulators of the sixteen
  chains: the kernel's operations, once for all chains, in the words of the kernel.
-/
module

public import proofs.«01_k».proof.Proof.Gen.KernelIdeal.Loops

@[expose] public section

noncomputable section

namespace Cert.KernelIdeal.Tile

open Idealize.ShloMosaic Idealize.ShloMosaic.TcCoe Idealize.SL.Sem Cert.KernelIdeal.Gen

variable {F : FTy → Type} [FloatOps F] [Named F]

/-- A tile's key block: the row of the keys it starts at, and the block of the values. -/
structure Blk where
  ko : ℕ
  vo : ℕ
  hk : ko + 256 ≤ 4096
  hv : vo < 16

/-- The rows of the keys a tile of chain `c` reads lie in the window. -/
theorem inbK (t : Blk) (c : ℕ) : ∀ a, (![c / 4 % 4, t.ko, 0] : Fin 3 → ℕ) a + S1x256x256.size a ≤ S4x4096x256.size a := by
  have := t.hk
  intro a; fin_cases a <;> simp [S1x256x256, S4x4096x256] <;> omega

/-- The block of the values a tile of chain `c` reads lies in the window. -/
theorem inbV (t : Blk) (c : ℕ) :
    ∀ a, (![c / 4 % 4, t.vo, 64 * (c % 4), 0] : Fin 4 → ℕ) a + S1x1x64x256.size a ≤ S4x16x256x256.size a := by
  have := t.hv
  intro a; fin_cases a <;> simp [S1x1x64x256, S4x16x256x256] <;> omega

/-- Chain `c`'s staged queries lie in the scratch. -/
theorem inbQ (c : ℕ) : ∀ a, (![c % 16, 0, 0] : Fin 3 → ℕ) a + S1x256x256.size a ≤ S16x256x256.size a := by
  intro a; fin_cases a <;> simp [S1x256x256, S16x256x256]; omega

/-- Chain `c`'s accumulator lies in the scratch. -/
theorem inbA (c : ℕ) : ∀ a, (![c % 16, 0, 0] : Fin 3 → ℕ) a + S1x64x256.size a ≤ S16x64x256.size a := by
  intro a; fin_cases a <;> simp [S1x64x256, S16x64x256]; omega

/-- Chain `c`'s running sum lies in the scratch. -/
theorem inbR (c : ℕ) : ∀ a, (![c % 16, 0, 0] : Fin 3 → ℕ) a + S1x1x256.size a ≤ S16x1x256.size a := by
  intro a; fin_cases a <;> simp [S1x1x256, S16x1x256]; omega

/-- The logits of a tile, from its keys and the chain's staged queries. -/
def tz (K Q : Vec F S1x256x256 .bf16) : FVec F S256x256 .f32 :=
  matmul dot_S256x256_S256x256_S256x256_1_0_0_1_n_n none (shapeCast S256x256 K shapeCasts_S1x256x256_S256x256)
    (shapeCast S256x256 Q shapeCasts_S1x256x256_S256x256) (constant S256x256 .f32 0x00000000#32)

/-- The two-based softplus of the logits. -/
def tp (z : FVec F S256x256 .f32) : FVec F S256x256 .f32 :=
  maximumf (mulf (log (addf (broadcast S256x256 (Scalar.ofBits .f32 0x3F800000#32))
    (exp2 (minimumf z (broadcast S256x256 (Named.named κ "clamp" 0x42C80000#32))))))
    (broadcast S256x256 (Named.named κ "log2e" 0x3FB8AA3B#32))) z

/-- The mask of the diagonal tile: the keys before the query. -/
def past : IVec S256x256 1 :=
  cmpi .slt (iota .tc S256x256 32 [0] iota_S256x256_d0_w32) (iota .tc S256x256 32 [1] iota_S256x256_d1_w32)

/-- A vector kept where the key is before the query. -/
def keep (x : FVec F S256x256 .f32) : FVec F S256x256 .f32 :=
  select past x (broadcast S256x256 (Scalar.ofBits .f32 0x00000000#32))

/-- The sums of the softplus over the later keys of the tile. -/
def tcs (us : Vec F S256x256 .bf16) (p : FVec F S256x256 .f32) : FVec F S256x256 .f32 :=
  matmul dot_S256x256_S256x256_S256x256_1_0_0_1_n_n none us (truncf .bf16 p bitsLt_bf16_f32)
    (constant S256x256 .f32 0x00000000#32)

/-- The weights of the tile before the later tiles' share. -/
def tw (us : Vec F S256x256 .bf16) (z p : FVec F S256x256 .f32) : FVec F S256x256 .f32 :=
  exp2 (subf (subf z p) (tcs us p))

/-- The weighted values of the tile. -/
def tpv (V : Vec F S1x1x64x256 .bf16) (w : FVec F S256x256 .f32) : FVec F S64x256 .f32 :=
  matmul dot_S64x256_S256x256_S64x256_1_0_0_1_n_n none (shapeCast S64x256 V shapeCasts_S1x1x64x256_S64x256)
    (truncf .bf16 w bitsLt_bf16_f32) (constant S64x256 .f32 0x00000000#32)

/-- The running sum after a tile. -/
def rNext (us : Vec F S256x256 .bf16) (p : FVec F S256x256 .f32) (r : FVec F S1x256 .f32) : FVec F S1x256 .f32 :=
  addf (addf r (extractStridedSlice S1x256 ![0, 0] (tcs us p) slices_S256x256_o0_0_S1x256))
    (extf .f32 (extractStridedSlice S1x256 ![0, 0] (truncf .bf16 p bitsLt_bf16_f32) slices_S256x256_o0_0_S1x256)
      bitsLt_bf16_f32)

/-- The accumulator after a tile. -/
def aNext (pv : FVec F S64x256 .f32) (r : FVec F S1x256 .f32) (a : FVec F S64x256 .f32) : FVec F S64x256 .f32 :=
  addf a (mulf pv (broadcastTo S64x256
    (exp2 (subf (broadcast S1x256 (Scalar.ofBits .f32 0x00000000#32)) r)) broadcasts_S1x256_S64x256))

section

variable (arg4 : Memref sig .tc .vmem S4x4096x256 .bf16) (arg5 : Memref sig .tc .vmem S4x16x256x256 .bf16)
  (arg6 : Memref sig .tc .vmem S256x256 .bf16) (arg8 : Memref sig .tc .vmem S16x256x256 .bf16)
  (X4 : BufTy.Contents (Elt F) arg4.view.ty) (X5 : BufTy.Contents (Elt F) arg5.view.ty)
  (X6 : BufTy.Contents (Elt F) arg6.view.ty) (X8 : BufTy.Contents (Elt F) arg8.view.ty)

/-- A tile's keys. -/
def ldK (t : Blk) (c : ℕ) : Vec F S1x256x256 .bf16 :=
  View.readAt (Elt F) arg4.view (Rect.unit (s := S4x4096x256) ![c / 4 % 4, t.ko, 0] S1x256x256.size (inbK t c)).toLoadRect X4

/-- A tile's values. -/
def ldV (t : Blk) (c : ℕ) : Vec F S1x1x64x256 .bf16 :=
  View.readAt (Elt F) arg5.view
    (Rect.unit (s := S4x16x256x256) ![c / 4 % 4, t.vo, 64 * (c % 4), 0] S1x1x64x256.size (inbV t c)).toLoadRect X5

/-- The matrix of ones above the diagonal. -/
def ldU : Vec F S256x256 .bf16 :=
  View.readAt (Elt F) arg6.view (Rect.unit (s := S256x256) ![0, 0] S256x256.size inb_S256x256_S256x256_0_0).toLoadRect X6

/-- A chain's staged queries. -/
def ldQ (c : ℕ) : Vec F S1x256x256 .bf16 :=
  View.readAt (Elt F) arg8.view (Rect.unit (s := S16x256x256) ![c % 16, 0, 0] S1x256x256.size (inbQ c)).toLoadRect X8

/-- The running sum of chain `c` and then its accumulator after the tile `t`, where `k` is applied to what the mask keeps. -/
def step (k : FVec F S256x256 .f32 → FVec F S256x256 .f32) (c : ℕ) (s : FVec F S1x256 .f32 × FVec F S64x256 .f32) (t : Blk) :
    FVec F S1x256 .f32 × FVec F S64x256 .f32 :=
  (rNext (ldU arg6 X6) (k (tp (tz (ldK arg4 X4 t c) (ldQ arg8 X8 c)))) s.1,
   aNext (tpv (ldV arg5 X5 t c) (k (tw (ldU arg6 X6) (tz (ldK arg4 X4 t c) (ldQ arg8 X8 c))
      (k (tp (tz (ldK arg4 X4 t c) (ldQ arg8 X8 c))))))) s.1 s.2)

/-- The running sum and the accumulator of chain `c` after the tiles `ts`. -/
def steps (k : FVec F S256x256 .f32 → FVec F S256x256 .f32) (c : ℕ) (ts : List Blk) (r : Vec F S1x1x256 .f32)
    (a : Vec F S1x64x256 .f32) : FVec F S1x256 .f32 × FVec F S64x256 .f32 :=
  ts.foldl (step arg4 arg5 arg6 arg8 X4 X5 X6 X8 k c)
    (shapeCast S1x256 r shapeCasts_S1x1x256_S1x256, shapeCast S64x256 a shapeCasts_S1x64x256_S64x256)

/-- The stored running sum of chain `c` after the tiles `ts`. -/
def stR (k : FVec F S256x256 .f32 → FVec F S256x256 .f32) (c : ℕ) (ts : List Blk) (r : Vec F S1x1x256 .f32)
    (a : Vec F S1x64x256 .f32) : FVec F S1x1x256 .f32 :=
  shapeCast S1x1x256 (steps arg4 arg5 arg6 arg8 X4 X5 X6 X8 k c ts r a).1 shapeCasts_S1x256_S1x1x256

/-- The stored accumulator of chain `c` after the tiles `ts`. -/
def stA (k : FVec F S256x256 .f32 → FVec F S256x256 .f32) (c : ℕ) (ts : List Blk) (r : Vec F S1x1x256 .f32)
    (a : Vec F S1x64x256 .f32) : FVec F S1x64x256 .f32 :=
  shapeCast S1x64x256 (steps arg4 arg5 arg6 arg8 X4 X5 X6 X8 k c ts r a).2 shapeCasts_S64x256_S1x64x256

end

/-- The rectangle of chain `c` of the accumulators. -/
abbrev boxA (c : ℕ) : Rect S16x64x256 := Rect.unit ![c % 16, 0, 0] S1x64x256.size (inbA c)

/-- The rectangle of chain `c` of the running sums. -/
abbrev boxR (c : ℕ) : Rect S16x1x256 := Rect.unit ![c % 16, 0, 0] S1x1x256.size (inbR c)

/-- The stores of the accumulators of the chains before `n`, last first, of the values `f`. -/
def pcA (f : ℕ → FVec F S1x64x256 .f32) : ℕ → List (View.Piece (Elt F) S16x64x256 .f32)
  | 0 => []
  | n + 1 => ⟨boxA n, f n⟩ :: pcA f n

/-- The stores of the running sums of the chains before `n`, last first, of the values `f`. -/
def pcR (f : ℕ → FVec F S1x1x256 .f32) : ℕ → List (View.Piece (Elt F) S16x1x256 .f32)
  | 0 => []
  | n + 1 => ⟨boxR n, f n⟩ :: pcR f n

end Cert.KernelIdeal.Tile
-- ==== Proof.Stick.lean ====
/- The mathematics of stick-breaking attention on the extended reals: the sum over blocks of keys that the kernel
   forms from the last block back, and the reference's weights, are one function. -/
module

public import Idealize.ShloMosaic.PureOps.Ideal

@[expose] public section

noncomputable section

namespace Cert.Stick

open Idealize.ShloMosaic Finset

/-- The reciprocal of `ln 2`, the extended real the kernel's scale `log2 e` is named. -/
def invLn2 : EReal := (((Real.log 2)⁻¹ : ℝ) : EReal)

/-- `ln 2`. -/
def ln2 : EReal := ((Real.log 2 : ℝ) : EReal)

/-- The base-2 softplus as the kernel spells it: `max (log (1 + 2^z) / ln 2) z`. -/
def sp (z : EReal) : EReal := max (Ideal.log (1 + Ideal.exp2 z) * invLn2) z

/-- The reference's softplus: `max x 0 + log1p (exp (-|x|))`. -/
def softplus (x : EReal) : EReal := max x 0 + Ideal.log1p (Ideal.exp (-(max x (-x))))

theorem log2_pos : 0 < Real.log 2 := Real.log_pos one_lt_two

/-- `1 + 2^z` is positive for a real `z`. -/
theorem one_add_rpow_pos (r : ℝ) : 0 < 1 + (2 : ℝ) ^ r := by positivity

theorem exp2_nonneg (x : EReal) : 0 ≤ Ideal.exp2 x := by
  induction x with
  | bot => simp
  | top => simp
  | coe r => simpa using EReal.coe_nonneg.mpr (Real.rpow_nonneg zero_le_two r)

/-- `2^x` of a nonpositive `x` is at most one, so not infinite. -/
theorem exp2_ne_top {x : EReal} (h : x ≤ 0) : Ideal.exp2 x ≠ ⊤ := by
  induction x with
  | bot => simp
  | top => simp at h
  | coe r => simp

/-- `2^(a + b) = 2^a * 2^b` on every pair of extended reals. -/
theorem exp2_add (a b : EReal) : Ideal.exp2 (a + b) = Ideal.exp2 a * Ideal.exp2 b := by
  induction a with
  | bot => simp
  | top =>
    induction b with
    | bot => simp
    | top => simp
    | coe r =>
      have : (0 : ℝ) < (2 : ℝ) ^ r := by positivity
      simp [EReal.top_mul_coe_of_pos this]
  | coe a =>
    have ha : (0 : ℝ) < (2 : ℝ) ^ a := by positivity
    induction b with
    | bot => simp
    | top => simp [EReal.coe_mul_top_of_pos ha]
    | coe b =>
      rw [← EReal.coe_add]
      simp only [Ideal.exp2_coe, Real.rpow_eq_pow, ← EReal.coe_mul]
      rw [Real.rpow_add two_pos]

theorem exp2_zero : Ideal.exp2 0 = 1 := by
  have := Ideal.exp2_coe 0
  simpa using this

/-- At a real number the base-2 softplus is the real `log (1 + 2^z) / ln 2`. -/
theorem sp_coe (r : ℝ) : sp (r : EReal) = ((Real.log (1 + 2 ^ r) * (Real.log 2)⁻¹ : ℝ) : EReal) := by
  have h1 : ¬ (1 + (2 : ℝ) ^ r ≤ 0) := not_le.mpr (one_add_rpow_pos r)
  have e : Ideal.log (1 + Ideal.exp2 (r : EReal)) = ((Real.log (1 + 2 ^ r) : ℝ) : EReal) := by
    rw [Ideal.exp2_coe, show (1 : EReal) = ((1 : ℝ) : EReal) from rfl, Real.rpow_eq_pow, ← EReal.coe_add, Ideal.log_coe, if_neg h1]
  unfold sp
  rw [e, invLn2, ← EReal.coe_mul, max_eq_left]
  rw [EReal.coe_le_coe_iff, ← div_eq_mul_inv, le_div_iff₀ log2_pos, ← Real.log_rpow two_pos]
  exact Real.log_le_log (by positivity) (by linarith)

theorem sp_bot : sp ⊥ = 0 := by
  have : Ideal.log 1 = 0 := by
    rw [show (1 : EReal) = ((1 : ℝ) : EReal) from rfl, Ideal.log_coe]; norm_num
  simp [sp, this]

theorem sp_top : sp ⊤ = ⊤ := by simp [sp]

theorem sp_nonneg (z : EReal) : 0 ≤ sp z := by
  induction z with
  | bot => simp [sp_bot]
  | top => simp [sp_top]
  | coe r =>
    rw [sp_coe, EReal.coe_nonneg]
    have : (0 : ℝ) ≤ (2 : ℝ) ^ r := by positivity
    exact mul_nonneg (Real.log_nonneg (by linarith)) (inv_nonneg.mpr log2_pos.le)

theorem exp_ln2_mul (x : EReal) : Ideal.exp (x * ln2) = Ideal.exp2 x := by
  induction x with
  | bot => simp [ln2, EReal.bot_mul_coe_of_pos log2_pos]
  | top => simp [ln2, EReal.top_mul_coe_of_pos log2_pos]
  | coe r =>
    rw [ln2, ← EReal.coe_mul, Ideal.exp_coe, Ideal.exp2_coe, Real.rpow_eq_pow, Real.rpow_def_of_pos two_pos, mul_comm]

theorem coe_max (a b : ℝ) : ((max a b : ℝ) : EReal) = max (a : EReal) (b : EReal) :=
  EReal.coe_strictMono.monotone.map_max

/-- The reference's softplus at a real number. -/
theorem softplus_coe (r : ℝ) : softplus (r : EReal) = ((max r 0 + Real.log (1 + Real.exp (-(max r (-r)))) : ℝ) : EReal) := by
  have h1 : ¬ (1 + Real.exp (-(max r (-r))) ≤ 0) := not_le.mpr (by positivity)
  unfold softplus Ideal.log1p
  rw [← EReal.coe_neg, ← coe_max, ← EReal.coe_neg, Ideal.exp_coe, show (1 : EReal) = ((1 : ℝ) : EReal) from rfl,
    ← EReal.coe_add, Ideal.log_coe, if_neg h1, show (0 : EReal) = ((0 : ℝ) : EReal) from rfl, ← coe_max, ← EReal.coe_add]

theorem real_softplus (r : ℝ) : max r 0 + Real.log (1 + Real.exp (-(max r (-r)))) = Real.log (1 + Real.exp r) := by
  rcases le_total 0 r with h | h
  · rw [max_eq_left h, max_eq_left (by linarith)]
    have : 1 + Real.exp r = Real.exp r * (1 + Real.exp (-r)) := by
      rw [mul_add, ← Real.exp_add]; simp [add_comm]
    rw [this, Real.log_mul (by positivity) (by positivity), Real.log_exp]
  · rw [max_eq_right h, max_eq_right (by linarith)]
    simp

theorem log1p_zero : Ideal.log1p 0 = 0 := by
  unfold Ideal.log1p
  rw [add_zero, show (1 : EReal) = ((1 : ℝ) : EReal) from rfl, Ideal.log_coe]; norm_num

theorem softplus_bot : softplus ⊥ = 0 := by simp [softplus, log1p_zero]

theorem softplus_top : softplus ⊤ = ⊤ := by simp [softplus, log1p_zero]

/-- The reference's softplus of `z ln 2` is `ln 2` times the base-2 softplus of `z`. -/
theorem softplus_eq (z : EReal) : softplus (z * ln2) = sp z * ln2 := by
  induction z with
  | bot => rw [ln2, EReal.bot_mul_coe_of_pos log2_pos, softplus_bot, sp_bot, zero_mul]
  | top => rw [ln2, EReal.top_mul_coe_of_pos log2_pos, softplus_top, sp_top, EReal.top_mul_coe_of_pos log2_pos]
  | coe r =>
    rw [ln2, ← EReal.coe_mul, softplus_coe, real_softplus, sp_coe, ← EReal.coe_mul, mul_assoc,
      inv_mul_cancel₀ log2_pos.ne', mul_one, Real.rpow_def_of_pos two_pos, mul_comm r]

/-- One weight of the reference, as its operations form it from the score `z`, the softplus sums to its right (`S`)
    and its own softplus, is `2^(z - sp z - S)`. -/
theorem weight_eq (z S : EReal) (hS : 0 ≤ S) :
    Ideal.exp (-(softplus (-(z * ln2))) + -((sp z + S) * ln2) - -(softplus (z * ln2))) = Ideal.exp2 (z - sp z - S) := by
  rw [← exp_ln2_mul (z - sp z - S)]
  congr 1
  rw [softplus_eq]
  induction z with
  | bot =>
    rw [ln2, EReal.bot_mul_coe_of_pos log2_pos, EReal.neg_bot, softplus_top, EReal.neg_top, EReal.bot_add]
    simp [sub_eq_add_neg, EReal.bot_mul_coe_of_pos log2_pos]
  | top =>
    have h : (⊤ : EReal) + S = ⊤ := EReal.top_add_of_ne_bot (ne_of_gt (lt_of_lt_of_le EReal.bot_lt_zero hS))
    rw [sp_top, h, ln2, EReal.top_mul_coe_of_pos log2_pos]
    simp [sub_eq_add_neg, EReal.bot_mul_coe_of_pos log2_pos]
  | coe r =>
    have h1 : -((r : EReal) * ln2) = ((-r : ℝ) : EReal) * ln2 := by
      rw [ln2, ← EReal.coe_mul, ← EReal.coe_mul, ← EReal.coe_neg, neg_mul]
    rw [h1, softplus_eq, sp_coe, sp_coe]
    induction S with
    | bot => simp at hS
    | top =>
      rw [EReal.coe_add_top, ln2, EReal.top_mul_coe_of_pos log2_pos]
      simp only [← EReal.coe_mul, ← EReal.coe_neg, ← EReal.coe_sub, sub_eq_add_neg, EReal.neg_top,
        ← EReal.coe_add, EReal.bot_add, EReal.add_bot, EReal.bot_mul_coe_of_pos log2_pos]
    | coe S =>
      rw [ln2]
      simp only [← EReal.coe_mul, ← EReal.coe_neg, ← EReal.coe_sub, ← EReal.coe_add]
      rw [EReal.coe_eq_coe_iff]
      have hl : Real.log 2 ≠ 0 := log2_pos.ne'
      have e : Real.log (1 + 2 ^ (-r)) = Real.log (1 + 2 ^ r) - r * Real.log 2 := by
        have : (1 : ℝ) + 2 ^ r = 2 ^ r * (1 + 2 ^ (-r)) := by
          rw [mul_add, ← Real.rpow_add two_pos]; simp [add_comm]
        rw [this, Real.log_mul (by positivity) (by positivity), Real.log_rpow two_pos]; ring
      rw [e]; field_simp; ring

/-! ## Sums -/

theorem sum_nonneg' {ι : Type} (s : Finset ι) (f : ι → EReal) (h : ∀ i ∈ s, 0 ≤ f i) : 0 ≤ ∑ i ∈ s, f i :=
  Finset.sum_nonneg h

/-- A sum times a nonnegative finite factor, term by term. -/
theorem sum_mul_of_nonneg {ι : Type} (s : Finset ι) (f : ι → EReal) {g : EReal} (h0 : 0 ≤ g) (ht : g ≠ ⊤) :
    (∑ i ∈ s, f i) * g = ∑ i ∈ s, f i * g := by
  classical
  induction s using Finset.induction_on with
  | empty => simp
  | insert a s ha ih => rw [Finset.sum_insert ha, Finset.sum_insert ha, EReal.right_distrib_of_nonneg_of_ne_top h0 ht, ih]

/-- Minus a sum of nonnegative terms is the sum of the negated terms. -/
theorem neg_sum {ι : Type} (s : Finset ι) (f : ι → EReal) (h : ∀ i, 0 ≤ f i) : -(∑ i ∈ s, f i) = ∑ i ∈ s, -f i := by
  classical
  induction s using Finset.induction_on with
  | empty => simp
  | insert a s ha ih =>
    rw [Finset.sum_insert ha, Finset.sum_insert ha, EReal.neg_add, sub_eq_add_neg, ih]
    · exact Or.inl (ne_of_gt (lt_of_lt_of_le EReal.bot_lt_zero (h a)))
    · exact Or.inr (ne_of_gt (lt_of_lt_of_le EReal.bot_lt_zero (sum_nonneg' s f fun i _ => h i)))

/-! ## The attention of one chain -/

variable (z : ℕ → ℕ → EReal) (v : ℕ → ℕ → EReal)

/-- The weight query `t` gives key `s`: what is left of the stick after the keys between them, times `s`'s share;
    zero unless the key is strictly earlier. -/
def weight (s t : ℕ) : EReal :=
  if s < t then Ideal.exp2 (z s t - sp (z s t) - ∑ j ∈ Ico (s + 1) t, sp (z j t)) else 0

/-- The softplus sum of the keys from block `k` on (256 keys a block). -/
def rest (k t : ℕ) : EReal := ∑ j ∈ Ico (256 * k) t, sp (z j t)

/-- The output restricted to the keys from block `k` on. -/
def part (k d t : ℕ) : EReal := ∑ s ∈ Ico (256 * k) 4096, v d s * weight z s t

/-- The masked base-2 softplus of key `i` of block `k`. -/
def mp (k i t : ℕ) : EReal := if 256 * k + i < t then sp (z (256 * k + i) t) else 0

/-- The sum over the later keys of the same block. -/
def cs (k i t : ℕ) : EReal := ∑ j ∈ range 256, (if i < j then 1 else 0) * mp z k j t

/-- The weight of key `i` of block `k` within its block. -/
def bw (k i t : ℕ) : EReal :=
  if 256 * k + i < t then Ideal.exp2 (z (256 * k + i) t - mp z k i t - cs z k i t) else 0

theorem mp_nonneg (k i t : ℕ) : 0 ≤ mp z k i t := by
  unfold mp; split_ifs
  · exact sp_nonneg _
  · exact le_rfl

theorem cs_eq (k i t : ℕ) : cs z k i t = ∑ j ∈ Ico (i + 1) 256, mp z k j t := by
  unfold cs
  have : ∀ j ∈ range 256, (if i < j then (1 : EReal) else 0) * mp z k j t = if i < j then mp z k j t else 0 := by
    intro j _; split_ifs <;> simp
  rw [Finset.sum_congr rfl this, ← Finset.sum_filter]
  apply Finset.sum_congr _ fun _ _ => rfl
  ext j; simp only [mem_filter, mem_range, mem_Ico]; omega

/-- The later keys of block `k` and the blocks after it are the keys between key `i` of block `k` and the query. -/
theorem cs_add_rest (k i t : ℕ) (hi : i < 256) :
    cs z k i t + rest z (k + 1) t = ∑ j ∈ Ico (256 * k + i + 1) t, sp (z j t) := by
  have h1 : cs z k i t = ∑ j ∈ (Ico (256 * k + i + 1) (256 * (k + 1))).filter (· < t), sp (z j t) := by
    rw [cs_eq, Finset.sum_filter, show 256 * k + i + 1 = (i + 1) + 256 * k by ring, show 256 * (k + 1) = 256 + 256 * k by ring,
      ← Finset.sum_Ico_add' (fun j => if j < t then sp (z j t) else 0)]
    apply Finset.sum_congr rfl
    intro j _; unfold mp; rw [Nat.add_comm j]
  rw [h1, rest]
  rw [← Finset.sum_union]
  · apply Finset.sum_congr _ fun _ _ => rfl
    ext j; simp only [mem_union, mem_filter, mem_Ico]; omega
  · rw [Finset.disjoint_left]; intro j; simp only [mem_filter, mem_Ico]; omega

theorem rest_nonneg (k t : ℕ) : 0 ≤ rest z k t := sum_nonneg' _ _ fun _ _ => sp_nonneg _

theorem cs_nonneg (k i t : ℕ) : 0 ≤ cs z k i t := by
  rw [cs_eq]; exact sum_nonneg' _ _ fun _ _ => mp_nonneg ..

/-- One block's step of the running softplus sum. -/
theorem rest_step (k t : ℕ) : rest z (k + 1) t + (cs z k 0 t + mp z k 0 t) = rest z k t := by
  rw [show rest z (k + 1) t + (cs z k 0 t + mp z k 0 t) = mp z k 0 t + (cs z k 0 t + rest z (k + 1) t) by
    rw [add_comm, add_comm (cs z k 0 t), add_assoc], cs_add_rest z k 0 t (by norm_num)]
  unfold mp rest
  split_ifs with h
  · rw [← Finset.sum_eq_sum_Ico_succ_bot (f := fun j => sp (z j t)) h]
    simp
  · rw [Finset.Ico_eq_empty (by omega), Finset.Ico_eq_empty (by omega)]; simp

theorem neg_add_nonneg {a b : EReal} (ha : 0 ≤ a) (hb : 0 ≤ b) : -(a + b) = -a + -b := by
  rw [EReal.neg_add, sub_eq_add_neg]
  · exact Or.inl (ne_of_gt (lt_of_lt_of_le EReal.bot_lt_zero ha))
  · exact Or.inr (ne_of_gt (lt_of_lt_of_le EReal.bot_lt_zero hb))

/-- One block's step of the accumulator. -/
theorem part_step (k d t : ℕ) (hk : k < 16) :
    part z v (k + 1) d t + (∑ i ∈ range 256, v d (256 * k + i) * bw z k i t) * Ideal.exp2 (-(rest z (k + 1) t))
      = part z v k d t := by
  have hr : -(rest z (k + 1) t) ≤ 0 := by
    rw [EReal.neg_le, neg_zero]; exact rest_nonneg ..
  rw [sum_mul_of_nonneg _ _ (exp2_nonneg _) (exp2_ne_top hr)]
  have h1 : ∀ i ∈ range 256, v d (256 * k + i) * bw z k i t * Ideal.exp2 (-(rest z (k + 1) t))
      = v d (256 * k + i) * weight z (256 * k + i) t := by
    intro i hi
    rw [mul_assoc]; congr 1
    unfold bw weight
    split_ifs with h
    · rw [← exp2_add]; congr 1
      rw [← cs_add_rest z k i t (mem_range.mp hi), sub_eq_add_neg _ (cs z k i t + _),
        neg_add_nonneg (cs_nonneg ..) (rest_nonneg ..), ← add_assoc, ← sub_eq_add_neg _ (cs z k i t), mp, if_pos h]
    · simp
  rw [Finset.sum_congr rfl h1, add_comm]
  have h2 : ∑ i ∈ range 256, v d (256 * k + i) * weight z (256 * k + i) t
      = ∑ s ∈ Ico (256 * k) (256 * (k + 1)), v d s * weight z s t := by
    rw [Finset.sum_Ico_eq_sum_range]; congr 2; omega
  rw [h2]
  exact Finset.sum_Ico_consecutive _ (by omega) (by omega)

/-- Past the query's block nothing is left to sum. -/
theorem part_last (k d t : ℕ) (h : t < 256 * k) : part z v k d t = 0 := by
  apply Finset.sum_eq_zero
  intro s hs
  rw [mem_Ico] at hs
  rw [weight, if_neg (by omega), mul_zero]

theorem rest_last (k t : ℕ) (h : t ≤ 256 * k) : rest z k t = 0 := by
  rw [rest, Finset.Ico_eq_empty (by omega), Finset.sum_empty]

/-- The attention of one chain at query `t`, coordinate `d`. -/
def attn (d t : ℕ) : EReal := part z v 0 d t

end Cert.Stick

end
-- ==== Proof.TileValue.lean ====
/-
  One tile of the kernel's attention over the extended reals, read at an index: the stick-breaking of one block of keys.
-/
module

public import proofs.«01_k».proof.Proof.Tile
public import proofs.«01_k».proof.Proof.Stick
public import Idealize.ShloMosaic.Lib.Pointwise
public import Idealize.ShloMosaic.Lib.WordCmp
public import Idealize.ShloMosaic.Lib.IdealHost

@[expose] public section

set_option maxRecDepth 16384

noncomputable section

namespace Cert.KernelIdeal.Tile

open Idealize.ShloMosaic Idealize.ShloMosaic.TcCoe Idealize.SL.Sem Cert.KernelIdeal.Gen Finset

/-- The clamp denotes no bound. -/
theorem clamp_eq : Named.named (F := Ideal) κ "clamp" (φ := .f32) 0x42C80000#32 = (⊤ : EReal) :=
  IdealRules.named_const.ideal_named_scalar _ _ _ _ rfl

/-- The scale denotes the reciprocal of `ln 2`. -/
theorem log2e_eq : Named.named (F := Ideal) κ "log2e" (φ := .f32) 0x3FB8AA3B#32 = Cert.Stick.invLn2 :=
  IdealRules.named_const.ideal_named_scalar _ _ _ _ rfl

theorem tz_apply (K Q : Vec Ideal S1x256x256 .bf16) (s t : Fin 256) :
    tz K Q (ix2 s t) = ∑ e : Fin 256, K (ix3 0 s e) * Q (ix3 0 e t) := by
  pointwise [tz]

theorem tp_apply (z : FVec Ideal S256x256 .f32) (s t : Fin 256) : tp z (ix2 s t) = Cert.Stick.sp (z (ix2 s t)) := by
  pointwise [tp]
  rw [clamp_eq, log2e_eq, min_top_right]
  rfl

theorem keep_apply (x : FVec Ideal S256x256 .f32) (s t : Fin 256) : keep x (ix2 s t) = if s.val < t.val then x (ix2 s t) else 0 := by
  pointwise [keep, past]
  have hs := s.isLt
  have ht := t.isLt
  rw [WordCmp.cmpi_slt_ofNat (by omega) (by omega)]
  by_cases h : s.val < t.val
  · rw [if_pos h, decide_eq_true h]; rfl
  · rw [if_neg h, decide_eq_false h]; rfl

theorem tcs_apply (us : Vec Ideal S256x256 .bf16) (p : FVec Ideal S256x256 .f32) (s t : Fin 256) :
    tcs us p (ix2 s t) = ∑ j : Fin 256, us (ix2 s j) * p (ix2 j t) := by
  pointwise [tcs]

theorem tw_apply (us : Vec Ideal S256x256 .bf16) (z p : FVec Ideal S256x256 .f32) (s t : Fin 256) :
    tw us z p (ix2 s t) = Ideal.exp2 (z (ix2 s t) - p (ix2 s t) - tcs us p (ix2 s t)) := by
  pointwise [tw]
  rfl

theorem tpv_apply (V : Vec Ideal S1x1x64x256 .bf16) (w : FVec Ideal S256x256 .f32) (d : Fin 64) (t : Fin 256) :
    tpv V w (ix2 d t) = ∑ j : Fin 256, V (ix4 0 0 d j) * w (ix2 j t) := by
  pointwise [tpv]

theorem rNext_apply (us : Vec Ideal S256x256 .bf16) (p : FVec Ideal S256x256 .f32) (r : FVec Ideal S1x256 .f32) (t : Fin 256) :
    rNext us p r (ix2 0 t) = r (ix2 0 t) + tcs us p (ix2 0 t) + p (ix2 0 t) := by
  pointwise [rNext]

theorem aNext_apply (pv : FVec Ideal S64x256 .f32) (r : FVec Ideal S1x256 .f32) (a : FVec Ideal S64x256 .f32) (d : Fin 64) (t : Fin 256) :
    aNext pv r a (ix2 d t) = a (ix2 d t) + pv (ix2 d t) * Ideal.exp2 (-(r (ix2 0 t))) := by
  pointwise [aNext]
  rw [zero_sub]
  rfl

end Cert.KernelIdeal.Tile
-- ==== Proof.StepValue.lean ====
/-
  What the tiles of one chain make of its running sum and its accumulator, over the extended reals: the attention
  restricted to the keys from a block on.
-/
module

public import proofs.«01_k».proof.Proof.TileValue

@[expose] public section

set_option maxRecDepth 16384

noncomputable section

namespace Cert.KernelIdeal.Tile

open Idealize.ShloMosaic Idealize.ShloMosaic.TcCoe Idealize.SL.Sem Cert.KernelIdeal.Gen Finset Cert.Stick

/-- The running sum and the accumulator are those of the keys from block `kb` on, for the queries of block `q`. -/
structure Holds (z v : ℕ → ℕ → EReal) (q kb : ℕ) (s : FVec Ideal S1x256 .f32 × FVec Ideal S64x256 .f32) : Prop where
  rest : ∀ t : Fin 256, s.1 (ix2 0 t) = Cert.Stick.rest z kb (256 * q + t.val)
  part : ∀ (d : Fin 64) (t : Fin 256), s.2 (ix2 d t) = Cert.Stick.part z v kb d.val (256 * q + t.val)

/-- A matrix of logits times the ones above the diagonal. -/
theorem tcs_eq (z : ℕ → ℕ → EReal) (q kb : ℕ) (us : Vec Ideal S256x256 .bf16) (p : FVec Ideal S256x256 .f32)
    (hu : ∀ i j : Fin 256, us (ix2 i j) = if i.val < j.val then 1 else 0)
    (hp : ∀ s t : Fin 256, p (ix2 s t) = mp z kb s.val (256 * q + t.val)) (s t : Fin 256) :
    tcs us p (ix2 s t) = cs z kb s.val (256 * q + t.val) := by
  rw [tcs_apply]
  unfold cs
  rw [← Fin.sum_univ_eq_sum_range (fun j => (if s.val < j then (1 : EReal) else 0) * mp z kb j (256 * q + t.val)) 256]
  refine Finset.sum_congr (M := EReal) rfl fun j _ => ?_
  rw [hu, hp]

variable (arg4 : Memref sig .tc .vmem S4x4096x256 .bf16) (arg5 : Memref sig .tc .vmem S4x16x256x256 .bf16)
  (arg6 : Memref sig .tc .vmem S256x256 .bf16) (arg8 : Memref sig .tc .vmem S16x256x256 .bf16)
  (X4 : BufTy.Contents (Elt Ideal) arg4.view.ty) (X5 : BufTy.Contents (Elt Ideal) arg5.view.ty)
  (X6 : BufTy.Contents (Elt Ideal) arg6.view.ty) (X8 : BufTy.Contents (Elt Ideal) arg8.view.ty)

/-- What chain `c` reads at the tile `t` is block `kb` of its logits and of its values. -/
structure Reads (z v : ℕ → ℕ → EReal) (q c kb : ℕ) (t : Blk) : Prop where
  lt : kb < 16
  logits : ∀ s t' : Fin 256, tz (ldK arg4 X4 t c) (ldQ arg8 X8 c) (ix2 s t') = z (256 * kb + s.val) (256 * q + t'.val)
  values : ∀ (d : Fin 64) (j : Fin 256), ldV arg5 X5 t c (ix4 0 0 d j) = v d.val (256 * kb + j.val)

variable {z v : ℕ → ℕ → EReal} {q c kb : ℕ}

/-- One tile takes the keys from block `kb + 1` on to those from block `kb` on. -/
theorem step_holds (hu : ∀ i j : Fin 256, ldU arg6 X6 (ix2 i j) = if i.val < j.val then 1 else 0)
    (k : FVec Ideal S256x256 .f32 → FVec Ideal S256x256 .f32) (t : Blk) (hr : Reads arg4 arg5 arg8 X4 X5 X8 z v q c kb t)
    (hk : ∀ x (s t : Fin 256), k x (ix2 s t) = if 256 * kb + s.val < 256 * q + t.val then x (ix2 s t) else 0)
    (s : FVec Ideal S1x256 .f32 × FVec Ideal S64x256 .f32) (h : Holds z v q (kb + 1) s) :
    Holds z v q kb (step arg4 arg5 arg6 arg8 X4 X5 X6 X8 k c s t) := by
  have hp : ∀ s t' : Fin 256, k (tp (tz (ldK arg4 X4 t c) (ldQ arg8 X8 c))) (ix2 s t') = mp z kb s.val (256 * q + t'.val) := by
    intro s t'
    rw [hk, tp_apply, hr.logits]
    rfl
  have hw : ∀ s t' : Fin 256, k (tw (ldU arg6 X6) (tz (ldK arg4 X4 t c) (ldQ arg8 X8 c))
      (k (tp (tz (ldK arg4 X4 t c) (ldQ arg8 X8 c))))) (ix2 s t') = bw z kb s.val (256 * q + t'.val) := by
    intro s t'
    rw [hk, tw_apply, hr.logits, hp, tcs_eq z q kb _ _ hu hp]
    rfl
  refine ⟨fun t' => ?_, fun d t' => ?_⟩
  · show rNext _ _ _ _ = _
    rw [rNext_apply, hp, tcs_eq z q kb _ _ hu hp, h.rest, add_assoc]
    exact rest_step z kb _
  · show aNext _ _ _ _ = _
    rw [aNext_apply, h.part, h.rest, tpv_apply]
    rw [← part_step z v kb d.val _ hr.lt]
    congr 2
    rw [← Fin.sum_univ_eq_sum_range (fun j => v d.val (256 * kb + j) * bw z kb j (256 * q + t'.val)) 256]
    refine Finset.sum_congr (M := EReal) rfl fun j _ => ?_
    rw [hw, hr.values]

/-- The diagonal tile. -/
theorem step_keep (hu : ∀ i j : Fin 256, ldU arg6 X6 (ix2 i j) = if i.val < j.val then 1 else 0) (t : Blk)
    (hr : Reads arg4 arg5 arg8 X4 X5 X8 z v q c q t)
    (s : FVec Ideal S1x256 .f32 × FVec Ideal S64x256 .f32) (h : Holds z v q (q + 1) s) :
    Holds z v q q (step arg4 arg5 arg6 arg8 X4 X5 X6 X8 keep c s t) :=
  step_holds arg4 arg5 arg6 arg8 X4 X5 X6 X8 hu keep t hr (fun x s t => by
    rw [keep_apply]
    refine if_congr ?_ rfl rfl
    omega) s h

/-- A tile of earlier keys. -/
theorem step_id (hu : ∀ i j : Fin 256, ldU arg6 X6 (ix2 i j) = if i.val < j.val then 1 else 0) (t : Blk) (hq : kb < q)
    (hr : Reads arg4 arg5 arg8 X4 X5 X8 z v q c kb t)
    (s : FVec Ideal S1x256 .f32 × FVec Ideal S64x256 .f32) (h : Holds z v q (kb + 1) s) :
    Holds z v q kb (step arg4 arg5 arg6 arg8 X4 X5 X6 X8 id c s t) :=
  step_holds arg4 arg5 arg6 arg8 X4 X5 X6 X8 hu id t hr (fun x s t => by
    have := s.isLt
    rw [if_pos (by omega)]
    rfl) s h

/-- Tiles of successive blocks, from block `kb + n` on down to block `kb`. -/
theorem steps_id (hu : ∀ i j : Fin 256, ldU arg6 X6 (ix2 i j) = if i.val < j.val then 1 else 0) :
    ∀ (ts : List Blk) (n : ℕ), ts.length + kb = n → n ≤ q →
      (∀ (j : ℕ) (hj : j < ts.length), Reads arg4 arg5 arg8 X4 X5 X8 z v q c (n - 1 - j) ts[j]) →
      ∀ s : FVec Ideal S1x256 .f32 × FVec Ideal S64x256 .f32, Holds z v q n s →
        Holds z v q kb (ts.foldl (step arg4 arg5 arg6 arg8 X4 X5 X6 X8 id c) s)
  | [], n, hn, _, _, s, h => by
    have : n = kb := by simpa using hn.symm
    exact this ▸ h
  | t :: ts, n, hn, hq, hr, s, h => by
    rw [List.foldl_cons]
    rw [List.length_cons] at hn
    refine steps_id hu ts (n - 1) (by omega) (by omega) (fun j hj => ?_) _ ?_
    · have := hr (j + 1) (by simpa using hj)
      rw [show n - 1 - 1 - j = n - 1 - (j + 1) by omega]
      exact this
    · refine step_id arg4 arg5 arg6 arg8 X4 X5 X6 X8 hu t (by omega) (hr 0 (by simp)) s ?_
      rw [show n - 1 - 0 + 1 = n by omega]
      exact h

end Cert.KernelIdeal.Tile
-- ==== Proof.Trip.lean ====
/-
  One trip of the kernel's loop: four tiles of every chain.
-/
module

public import proofs.«01_k».proof.Proof.Tile

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

/-- The key block of the `u`-th tile of a trip. -/
def blkT (i : grid0.Coords) (k : Fin (k0_t1_loop i).trips) (u : Fin 4) : Blk where
  ko := k0_off21 i k (BitVec.ofNat 32 u.val) 1
  vo := k0_off23 i k (BitVec.ofNat 32 u.val) 1
  hk := by have h := k0_off21_inb i k u 1; simpa [S1x256x256, S4x4096x256] using h
  hv := by have h := k0_off23_inb i k u 1; simp [S1x1x64x256, S4x16x256x256] at h; omega

variable (𝒱 : Variants) (c : Dev nD) (bd : Option 𝒱.V) (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg7 : Memref sig .tc .vmem S4x256x256 .bf16) (harg7 : arg7.IsWhole)
  (arg8 : Memref sig .tc .vmem S16x256x256 .bf16) (harg8 : arg8.IsWhole)
  (arg9 : Memref sig .tc .vmem S16x64x256 .f32) (harg9 : arg9.IsWhole)
  (arg10 : Memref sig .tc .vmem S16x1x256 .f32) (harg10 : arg10.IsWhole)
  (arg2 : BitVec 32) (v590 : FVec F S256x256 .bf16) (v592 : FVec F S256x256 .f32) (v619 : FVec F S64x256 .f32)
  (v936 : FVec F S1x256 .f32) (v938 : FVec F S64x256 .f32) (v941 : FVec F S1x256 .f32)
  (X4 : BufTy.Contents (Elt F) arg4.view.ty) (X5 : BufTy.Contents (Elt F) arg5.view.ty)
  (X6 : BufTy.Contents (Elt F) arg6.view.ty) (X8 : BufTy.Contents (Elt F) arg8.view.ty)

/-- Chain `c`'s accumulator in the contents `f`. -/
def rdA (f : BufTy.Contents (Elt F) arg9.view.ty) (c : ℕ) : Vec F S1x64x256 .f32 :=
  View.readAt (Elt F) arg9.view (boxA c).toLoadRect f

/-- Chain `c`'s running sum in the contents `f`. -/
def rdR (f : BufTy.Contents (Elt F) arg10.view.ty) (c : ℕ) : Vec F S1x1x256 .f32 :=
  View.readAt (Elt F) arg10.view (boxR c).toLoadRect f

/-- The tiles of a trip, in the order taken. -/
def blks (k : Fin (k0_t1_loop i).trips) : List Blk := [blkT i k 0, blkT i k 1, blkT i k 2, blkT i k 3]

set_option maxHeartbeats 4000000 in
/-- What a trip stores in the accumulators: four tiles of each chain. -/
theorem trip_A (k : Fin (k0_t1_loop i).trips) (f9 : BufTy.Contents (Elt F) arg9.view.ty)
    (f10 : BufTy.Contents (Elt F) arg10.view.ty) :
    (tripL_k0_t1 (F := F) 𝒱 c bd i arg3 harg3 arg4 harg4 arg5 harg5 arg6 harg6 arg7 harg7 arg8 harg8 arg9 harg9
      arg10 harg10 arg2 v590 v592 v619 v936 v938 v941 X4 X5 X6 X8 k f9 f10).1
    = pcA (fun n => stA arg4 arg5 arg6 arg8 X4 X5 X6 X8 id n (blks i k) (rdR arg10 f10 n) (rdA arg9 f9 n)) 16 := by
  dsimp only [tripL_k0_t1]
  unfold trip_k0_t1
  rfl

set_option maxHeartbeats 4000000 in
/-- What a trip stores in the running sums: four tiles of each chain. -/
theorem trip_R (k : Fin (k0_t1_loop i).trips) (f9 : BufTy.Contents (Elt F) arg9.view.ty)
    (f10 : BufTy.Contents (Elt F) arg10.view.ty) :
    (tripL_k0_t1 (F := F) 𝒱 c bd i arg3 harg3 arg4 harg4 arg5 harg5 arg6 harg6 arg7 harg7 arg8 harg8 arg9 harg9
      arg10 harg10 arg2 v590 v592 v619 v936 v938 v941 X4 X5 X6 X8 k f9 f10).2
    = pcR (fun n => stR arg4 arg5 arg6 arg8 X4 X5 X6 X8 id n (blks i k) (rdR arg10 f10 n) (rdA arg9 f9 n)) 16 := by
  dsimp only [tripL_k0_t1]
  unfold trip_k0_t1
  rfl

end Cert.KernelIdeal.Tile
-- ==== Proof.Round.lean ====
/-
  What the body stores, case by case, as rounds over the sixteen chains: the staged queries, the diagonal tile, the loop's
  trips, the tail groups and the results.
-/
module

public import proofs.«01_k».proof.Proof.Trip
public import proofs.«01_k».proof.Proof.Gen.KernelIdeal.Frame

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

/-- The rectangle of chain `c` of the staged queries. -/
abbrev boxQ (c : ℕ) : Rect S16x256x256 := Rect.unit ![c % 16, 0, 0] S1x256x256.size (inbQ c)

/-- The stores of the staged queries of the chains before `n`, last first, of the values `f`. -/
def pcQ (f : ℕ → FVec F S1x256x256 .bf16) : ℕ → List (View.Piece (Elt F) S16x256x256 .bf16)
  | 0 => []
  | n + 1 => ⟨boxQ n, f n⟩ :: pcQ f n

/-- Chain `c`'s rows of a window of four batches by four heads lie in the window. -/
theorem inbO (c : ℕ) :
    ∀ a, (![c / 4 % 4, 64 * (c % 4), 0] : Fin 3 → ℕ) a + S1x64x256.size a ≤ S4x256x256.size a := by
  intro a; fin_cases a <;> simp [S1x64x256, S4x256x256] <;> omega

/-- Chain `c`'s rows of the window of queries lie in the window. -/
theorem inbq (c : ℕ) :
    ∀ a, (![c / 4 % 4, 0, 64 * (c % 4), 0] : Fin 4 → ℕ) a + S1x1x64x256.size a ≤ S4x1x256x256.size a := by
  intro a; fin_cases a <;> simp [S1x1x64x256, S4x1x256x256] <;> omega

/-- The stores of the results of the chains before `n`, last first, of the values `f`. -/
def pcO (f : ℕ → FVec F S1x64x256 .bf16) : ℕ → List (View.Piece (Elt F) S4x256x256 .bf16)
  | 0 => []
  | n + 1 => ⟨Rect.unit ![n / 4 % 4, 64 * (n % 4), 0] S1x64x256.size (inbO n), f n⟩ :: pcO f n

/-- The queries `q` where the head is `h`, zero elsewhere. -/
def pick (h n : ℕ) (q : FVec F S64x256 .bf16) : FVec F S64x256 .bf16 :=
  if n % 4 = h then q else broadcast S64x256 (Scalar.ofBits .bf16 0x0000#16)

/-- A chain's queries staged among zeros at the rows of its head. -/
def stQ (n : ℕ) (q : FVec F S64x256 .bf16) : FVec F S1x256x256 .bf16 :=
  shapeCast S1x256x256 (concatenate S256x256 0 [⟨S64x256, pick 0 n q⟩, ⟨S64x256, pick 1 n q⟩, ⟨S64x256, pick 2 n q⟩,
    ⟨S64x256, pick 3 n q⟩] concatenates_S64x256_S64x256_S64x256_S64x256_S256x256_d0) shapeCasts_S256x256_S1x256x256

/-- A chain's result: its accumulator, rounded. -/
def stO (a : Vec F S1x64x256 .f32) : FVec F S1x64x256 .bf16 :=
  shapeCast S1x64x256 (truncf .bf16 (shapeCast S64x256 a shapeCasts_S1x64x256_S64x256) bitsLt_bf16_f32)
    shapeCasts_S64x256_S1x64x256

/-- The key block of the diagonal tile. -/
def blkD (i : grid0.Coords) : Blk where
  ko := k0_off1 i 1
  vo := k0_off3 i 1
  hk := by have h := k0_off1_inb i 1; simpa [S1x256x256, S4x4096x256] using h
  hv := by have h := k0_off3_inb i 1; simp [S1x1x64x256, S4x16x256x256] at h; omega

/-- The key block of the `u`-th tile of the tail of two. -/
def blk2 (i : grid0.Coords) (h : cond0_0 i) (u : Fin 2) : Blk where
  ko := k0_off61 i (BitVec.ofNat 32 u.val) 1
  vo := k0_off63 i (BitVec.ofNat 32 u.val) 1
  hk := by have h := k0_off61_inb i h u 1; simpa [S1x256x256, S4x4096x256] using h
  hv := by have h := k0_off63_inb i h u 1; simp [S1x1x64x256, S4x16x256x256] at h; omega

/-- The key block of the tail of one. -/
def blk1 (i : grid0.Coords) (h : cond0_1 i) : Blk where
  ko := k0_off81 i 1
  vo := k0_off83 i 1
  hk := by have h := k0_off81_inb i h 1; simpa [S1x256x256, S4x4096x256] using h
  hv := by have h := k0_off83_inb i h 1; simp [S1x1x64x256, S4x16x256x256] at h; omega

end Cert.KernelIdeal.Tile
-- ==== Proof.Cases.lean ====
/-
  The body's stores into its results, in each of its four cases, as rounds over the chains.
-/
module

public import proofs.«01_k».proof.Proof.Round

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

variable (c : Dev nD) (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg7 : Memref sig .tc .vmem S4x256x256 .bf16) (harg7 : arg7.IsWhole)
  (arg8 : Memref sig .tc .vmem S16x256x256 .bf16) (harg8 : arg8.IsWhole)
  (arg9 : Memref sig .tc .vmem S16x64x256 .f32) (harg9 : arg9.IsWhole)
  (arg10 : Memref sig .tc .vmem S16x1x256 .f32) (harg10 : arg10.IsWhole)

/-- The stores into the accumulators and into the running sums so far, last first. -/
abbrev Log (F : FTy → Type) [FloatOps F] : Type :=
  List (View.Piece (Elt F) S16x64x256 .f32) × List (View.Piece (Elt F) S16x1x256 .f32)

/-- The contents of the accumulators after the stores `L`. -/
abbrev atA (L : Log F) : BufTy.Contents (Elt F) arg9.view.ty := arg9.view.writes (Elt F) arg9.view.junk L.1

/-- The contents of the running sums after the stores `L`. -/
abbrev atR (L : Log F) : BufTy.Contents (Elt F) arg10.view.ty := arg10.view.writes (Elt F) arg10.view.junk L.2

/-- The stores with which the body starts: zeros everywhere. -/
def start : Log F :=
  ([⟨Rect.unit ![0, 0, 0] S16x64x256.size inb_S16x64x256_S16x64x256_0_0_0,
      shapeCast S16x64x256 (broadcast S16x64x256 (Scalar.ofBits .f32 0x00000000#32)) shapeCasts_S16x64x256_S16x64x256⟩],
   [⟨Rect.unit ![0, 0, 0] S16x1x256.size inb_S16x1x256_S16x1x256_0_0_0,
      shapeCast S16x1x256 (broadcast S16x1x256 (Scalar.ofBits .f32 0x00000000#32)) shapeCasts_S16x1x256_S16x1x256⟩])

section

variable (X4 : BufTy.Contents (Elt F) arg4.view.ty) (X5 : BufTy.Contents (Elt F) arg5.view.ty)
  (X6 : BufTy.Contents (Elt F) arg6.view.ty) (X8 : BufTy.Contents (Elt F) arg8.view.ty)

/-- The stores after the tiles `ts` of the chains before `n` are added to the stores `L`. -/
def round (k : FVec F S256x256 .f32 → FVec F S256x256 .f32) (ts : List Blk) (L : Log F) : ℕ → Log F
  | 0 => L
  | n + 1 =>
    (⟨boxA n, stA arg4 arg5 arg6 arg8 X4 X5 X6 X8 k n ts (rdR arg10 (atR arg10 (round k ts L n)) n)
        (rdA arg9 (atA arg9 (round k ts L n)) n)⟩ :: (round k ts L n).1,
     ⟨boxR n, stR arg4 arg5 arg6 arg8 X4 X5 X6 X8 k n ts (rdR arg10 (atR arg10 (round k ts L n)) n)
        (rdA arg9 (atA arg9 (round k ts L n)) n)⟩ :: (round k ts L n).2)

/-- The stores `M` after the stores `L`. -/
abbrev after (M L : Log F) : Log F := (M.1 ++ L.1, M.2 ++ L.2)

/-- The stores after the diagonal tile of every chain. -/
def diag : Log F := round arg4 arg5 arg6 arg8 arg9 arg10 X4 X5 X6 X8 keep [blkD i] start 16

/-- The stores of the loop's first `k` trips after the stores `L`. -/
def trips (L : Log F) : ℕ → Log F
  | 0 => ([], [])
  | k + 1 =>
    if h : k < (k0_t1_loop i).trips then
      after
        (pcA (fun n => stA arg4 arg5 arg6 arg8 X4 X5 X6 X8 id n (blks i ⟨k, h⟩)
            (rdR arg10 (arg10.view.writes (Elt F) (atR arg10 L) (trips L k).2) n)
            (rdA arg9 (arg9.view.writes (Elt F) (atA arg9 L) (trips L k).1) n)) 16,
         pcR (fun n => stR arg4 arg5 arg6 arg8 X4 X5 X6 X8 id n (blks i ⟨k, h⟩)
            (rdR arg10 (arg10.view.writes (Elt F) (atR arg10 L) (trips L k).2) n)
            (rdA arg9 (arg9.view.writes (Elt F) (atA arg9 L) (trips L k).1) n)) 16)
        (trips L k)
    else trips L k

/-- The stores after the loop, begun after the stores `L`. -/
def loops (L : Log F) : Log F :=
  after (trips i arg4 arg5 arg6 arg8 arg9 arg10 X4 X5 X6 X8 L (k0_t1_loop i).trips) L

/-- The loop's trips store what the recursion over them lists, whatever the values carried in. -/
theorem pb_eq (w1 : FVec F S256x256 .bf16) (w2 : FVec F S256x256 .f32) (w3 : FVec F S64x256 .f32) (w4 : FVec F S1x256 .f32)
    (w5 : FVec F S64x256 .f32) (w6 : FVec F S1x256 .f32) (L : Log F) (k : ℕ) (hk : k ≤ (k0_t1_loop i).trips) :
    pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (atA arg9 L) (atR arg10 L) k
    = trips i arg4 arg5 arg6 arg8 arg9 arg10 X4 X5 X6 X8 L k := by
  induction k with
  | zero => rfl
  | succ k ih =>
    have h : k < (k0_t1_loop i).trips := hk
    rw [pb_k0_t1_succ (F := F) Variants.none c none i arg3 harg3 arg4 harg4 arg5 harg5 arg6 harg6 arg7 harg7 arg8 harg8 arg9
      harg9 arg10 harg10 (BitVec.ofNat 32 (i 2).val) w1 w2 w3 w4 w5 w6 X4 X5 X6 X8 (atA arg9 L) (atR arg10 L) ⟨k, h⟩,
      trip_A, trip_R, ih h.le, trips, dif_pos h]

/-- The remainder loop takes no trip. -/
theorem trips2_zero : ∀ i : grid0.Coords, (k0_t2_loop i).trips = 0 := by decide +kernel

/-- The body's stores into its results when the accumulators are left by the stores `L`. -/
def results (L : Log F) : List (View.Piece (Elt F) S4x256x256 .bf16) :=
  pcO (fun n => stO (rdA arg9 (atA arg9 L) n)) 16

end

/-- The staged queries' contents. -/
def staged (x0 : Vec F S4x1x256x256 .bf16) : BufTy.Contents (Elt F) arg8.view.ty :=
  arg8.view.writes (Elt F) arg8.view.junk (pcQ (fun n => stQ n (shapeCast S64x256
    (View.readAt (Elt F) arg3.view
      (Rect.unit (s := S4x1x256x256) ![n / 4 % 4, 0, 64 * (n % 4), 0] S1x1x64x256.size (inbq n)).toLoadRect (harg3.unread x0))
    shapeCasts_S1x1x64x256_S64x256)) 16)

section

variable (X4 : BufTy.Contents (Elt F) arg4.view.ty) (X5 : BufTy.Contents (Elt F) arg5.view.ty)
  (X6 : BufTy.Contents (Elt F) arg6.view.ty) (X8 : BufTy.Contents (Elt F) arg8.view.ty)

/-- A round's next two stores, over a log known to be the round's so far. -/
theorem round_cons {k : FVec F S256x256 .f32 → FVec F S256x256 .f32} {ts : List Blk} {L : Log F} {n : ℕ}
    {A a : List (View.Piece (Elt F) S16x64x256 .f32)} {R r : List (View.Piece (Elt F) S16x1x256 .f32)}
    {p : View.Piece (Elt F) S16x64x256 .f32} {q : View.Piece (Elt F) S16x1x256 .f32}
    (hA : A = p :: a) (hR : R = q :: r)
    (hp : p = ⟨boxA n, stA arg4 arg5 arg6 arg8 X4 X5 X6 X8 k n ts (rdR arg10 (arg10.view.writes (Elt F) arg10.view.junk r) n)
        (rdA arg9 (arg9.view.writes (Elt F) arg9.view.junk a) n)⟩)
    (hq : q = ⟨boxR n, stR arg4 arg5 arg6 arg8 X4 X5 X6 X8 k n ts (rdR arg10 (arg10.view.writes (Elt F) arg10.view.junk r) n)
        (rdA arg9 (arg9.view.writes (Elt F) arg9.view.junk a) n)⟩)
    (h : (a, r) = round arg4 arg5 arg6 arg8 arg9 arg10 X4 X5 X6 X8 k ts L n) :
    ((A, R) : Log F) = round arg4 arg5 arg6 arg8 arg9 arg10 X4 X5 X6 X8 k ts L (n + 1) := by
  obtain ⟨rfl, rfl⟩ := Prod.mk.inj h
  subst hA hR hp hq
  rfl

/-- The stores after both loops, over a log known to be the one before. -/
theorem loops_of {w1 : FVec F S256x256 .bf16} {w2 : FVec F S256x256 .f32} {w3 : FVec F S64x256 .f32} {w4 : FVec F S1x256 .f32}
    {w5 : FVec F S64x256 .f32} {w6 : FVec F S1x256 .f32} {u1 u2 : BitVec 32} {L : Log F}
    {A a : List (View.Piece (Elt F) S16x64x256 .f32)} {R r : List (View.Piece (Elt F) S16x1x256 .f32)}
    (hA : A = (pb_k0_t2 (F := F) Variants.none c none i arg3 harg3 arg4 harg4 arg5 harg5 arg6 harg6 arg7 harg7 arg8 harg8 arg9 harg9
      arg10 harg10 (BitVec.ofNat 32 (i 2).val) u1 u2 1#32 X4 X5 X6 X8
      (arg9.view.writes (Elt F) arg9.view.junk ((pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (arg9.view.writes (Elt F) arg9.view.junk a)
      (arg10.view.writes (Elt F) arg10.view.junk r) (k0_t1_loop i).trips).1 ++ a))
      (arg10.view.writes (Elt F) arg10.view.junk ((pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (arg9.view.writes (Elt F) arg9.view.junk a)
      (arg10.view.writes (Elt F) arg10.view.junk r) (k0_t1_loop i).trips).2 ++ r)) (k0_t2_loop i).trips).1 ++ ((pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (arg9.view.writes (Elt F) arg9.view.junk a)
      (arg10.view.writes (Elt F) arg10.view.junk r) (k0_t1_loop i).trips).1 ++ a))
    (hR : R = (pb_k0_t2 (F := F) Variants.none c none i arg3 harg3 arg4 harg4 arg5 harg5 arg6 harg6 arg7 harg7 arg8 harg8 arg9 harg9
      arg10 harg10 (BitVec.ofNat 32 (i 2).val) u1 u2 1#32 X4 X5 X6 X8
      (arg9.view.writes (Elt F) arg9.view.junk ((pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (arg9.view.writes (Elt F) arg9.view.junk a)
      (arg10.view.writes (Elt F) arg10.view.junk r) (k0_t1_loop i).trips).1 ++ a))
      (arg10.view.writes (Elt F) arg10.view.junk ((pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (arg9.view.writes (Elt F) arg9.view.junk a)
      (arg10.view.writes (Elt F) arg10.view.junk r) (k0_t1_loop i).trips).2 ++ r)) (k0_t2_loop i).trips).2 ++ ((pb_k0_t1 (F := F) Variants.none c none i arg3 harg3 arg4 harg4 arg5 harg5 arg6 harg6 arg7 harg7 arg8 harg8 arg9 harg9
      arg10 harg10 (BitVec.ofNat 32 (i 2).val) w1 w2 w3 w4 w5 w6 X4 X5 X6 X8 (arg9.view.writes (Elt F) arg9.view.junk a)
      (arg10.view.writes (Elt F) arg10.view.junk r) (k0_t1_loop i).trips).2 ++ r))
    (h : (a, r) = L) :
    ((A, R) : Log F) = loops i arg4 arg5 arg6 arg8 arg9 arg10 X4 X5 X6 X8 L := by
  subst h hA hR
  rw [trips2_zero i]
  have e := pb_eq (F := F) c i arg3 harg3 arg4 harg4 arg5 harg5 arg6 harg6 arg7 harg7 arg8 harg8 arg9 harg9 arg10 harg10 X4 X5 X6 X8 w1 w2 w3 w4 w5 w6 (a, r) _ le_rfl
  dsimp only at e
  rw [e]
  rfl

/-- The results, over the log known to be the accumulators'. -/
theorem results_of {M : Log F} {a : List (View.Piece (Elt F) S16x64x256 .f32)} {r : List (View.Piece (Elt F) S16x1x256 .f32)}
    (h : (a, r) = M) :
    pcO (fun n => stO (rdA arg9 (arg9.view.writes (Elt F) arg9.view.junk a) n)) 16 = results arg9 M := by
  subst h; rfl

end

variable (x0 : Vec F S4x1x256x256 .bf16) (x1 : Vec F S4x4096x256 .bf16) (x2 : Vec F S4x16x256x256 .bf16) (x3 : Vec F S256x256 .bf16)

/-- The stores after the diagonal tile and the loop. -/
def full : Log F :=
  loops i arg4 arg5 arg6 arg8 arg9 arg10 (harg4.unread x1) (harg5.unread x2) (harg6.unread x3) (staged arg3 harg3 arg8 x0)
    (diag i arg4 arg5 arg6 arg8 arg9 arg10 (harg4.unread x1) (harg5.unread x2) (harg6.unread x3) (staged arg3 harg3 arg8 x0))

/-- The stores after a tail group of the tiles `ts`. -/
def tail (ts : List Blk) (L : Log F) : Log F :=
  round arg4 arg5 arg6 arg8 arg9 arg10 (harg4.unread x1) (harg5.unread x2) (harg6.unread x3) (staged arg3 harg3 arg8 x0) id ts L 16

end Cert.KernelIdeal.Tile
-- ==== Proof.Loads.lean ====
/-
  Loads after stores through rectangles of the same size. Nothing here names a program.
-/
module

public import Idealize.ShloMosaic.Lib.Pointwise
public import Idealize.ShloMosaic.Lib.WritesUnit

@[expose] public section

noncomputable section

namespace Cert.Stick

open Idealize.ShloMosaic

variable {F : FTy → Type} {sig : RefSig}

/-- A load through the rectangle just stored reads what was stored. -/
theorem readAt_hit {ki : Kind} {sp : Space} {s : Shape} {e : EltTy} (v : View sig ki sp s e) (f : v.ty.Contents (Elt F)) {off size : Fin s.rank → ℕ}
    (inb : ∀ a, off a + size a ≤ s.size a) (w : (Rect.unit off size inb).shape.Idx → Elt F e) (L : List (View.Piece (Elt F) s e)) :
    v.readAt (Elt F) (Rect.unit off size inb).toLoadRect (v.writes (Elt F) f (⟨Rect.unit off size inb, w⟩ :: L)) = w := by
  funext j
  rw [View.readAt_apply]
  refine View.read_writes_cons_unit_of_mem v f inb w L _ j rfl fun a => ?_
  show off a + 1 * (j a).val = _
  omega

/-- A load through a rectangle at another place of the first axis does not see the store. -/
theorem readAt_miss {ki : Kind} {sp : Space} {s : Shape} {e : EltTy} (v : View sig ki sp s e) (f : v.ty.Contents (Elt F)) {off size off' size' : Fin s.rank → ℕ}
    (inb : ∀ a, off a + size a ≤ s.size a) (inb' : ∀ a, off' a + size' a ≤ s.size a)
    (w : (Rect.unit off' size' inb').shape.Idx → Elt F e) (L : List (View.Piece (Elt F) s e))
    (a : Fin s.rank) (h : off a + size a ≤ off' a ∨ off' a + size' a ≤ off a) :
    v.readAt (Elt F) (Rect.unit off size inb).toLoadRect (v.writes (Elt F) f (⟨Rect.unit off' size' inb', w⟩ :: L))
      = v.readAt (Elt F) (Rect.unit off size inb).toLoadRect (v.writes (Elt F) f L) := by
  funext j
  rw [View.readAt_apply, View.readAt_apply]
  refine View.read_writes_cons_unit_of_not_mem v f inb' w L _ rfl a ?_
  have hj : (((Rect.unit off size inb).toLoadRect.idx j) a).val = off a + (j a).val := by
    show off a + 1 * (j a).val = _
    omega
  have := (j a).isLt
  have : (j a).val < size a := this
  rw [hj]
  omega

end Cert.Stick
-- ==== Proof.Reads.lean ====
/-
  What the rounds of stores leave in the scratch, read chain by chain.
-/
module

public import proofs.«01_k».proof.Proof.Cases
public import proofs.«01_k».proof.Proof.Loads

@[expose] public section

set_option maxRecDepth 16384

noncomputable section

namespace Cert.KernelIdeal.Tile

open Idealize.ShloMosaic Idealize.ShloMosaic.TcCoe Idealize.SL.Sem Cert.KernelIdeal.Gen Cert.Stick

variable {F : FTy → Type} [FloatOps F] [Named F]

variable (i : grid0.Coords) (arg4 : Memref sig .tc .vmem S4x4096x256 .bf16) (arg5 : Memref sig .tc .vmem S4x16x256x256 .bf16)
  (arg6 : Memref sig .tc .vmem S256x256 .bf16) (arg8 : Memref sig .tc .vmem S16x256x256 .bf16)
  (arg9 : Memref sig .tc .vmem S16x64x256 .f32) (arg10 : Memref sig .tc .vmem S16x1x256 .f32)

theorem rdA_hit (f : BufTy.Contents (Elt F) arg9.view.ty) (w : FVec F S1x64x256 .f32) (L : List (View.Piece (Elt F) S16x64x256 .f32)) (c : ℕ) :
    rdA arg9 (arg9.view.writes (Elt F) f (⟨boxA c, w⟩ :: L)) c = w := readAt_hit (F := F) arg9.view f _ w L

theorem rdR_hit (f : BufTy.Contents (Elt F) arg10.view.ty) (w : FVec F S1x1x256 .f32) (L : List (View.Piece (Elt F) S16x1x256 .f32)) (c : ℕ) :
    rdR arg10 (arg10.view.writes (Elt F) f (⟨boxR c, w⟩ :: L)) c = w := readAt_hit (F := F) arg10.view f _ w L

theorem rdA_miss (f : BufTy.Contents (Elt F) arg9.view.ty) (w : FVec F S1x64x256 .f32) (L : List (View.Piece (Elt F) S16x64x256 .f32)) (c n : ℕ)
    (h : c % 16 ≠ n % 16) :
    rdA arg9 (arg9.view.writes (Elt F) f (⟨boxA n, w⟩ :: L)) c = rdA arg9 (arg9.view.writes (Elt F) f L) c :=
  readAt_miss (F := F) arg9.view f _ _ w L 0 (by
    show c % 16 + 1 ≤ n % 16 ∨ n % 16 + 1 ≤ c % 16
    omega)

theorem rdR_miss (f : BufTy.Contents (Elt F) arg10.view.ty) (w : FVec F S1x1x256 .f32) (L : List (View.Piece (Elt F) S16x1x256 .f32)) (c n : ℕ)
    (h : c % 16 ≠ n % 16) :
    rdR arg10 (arg10.view.writes (Elt F) f (⟨boxR n, w⟩ :: L)) c = rdR arg10 (arg10.view.writes (Elt F) f L) c :=
  readAt_miss (F := F) arg10.view f _ _ w L 0 (by
    show c % 16 + 1 ≤ n % 16 ∨ n % 16 + 1 ≤ c % 16
    omega)

/-- Chain `c`'s accumulator after the stores of the chains before `n`. -/
theorem rdA_pcA (f : BufTy.Contents (Elt F) arg9.view.ty) (g : ℕ → FVec F S1x64x256 .f32) (c : ℕ) :
    ∀ n, c < n → n ≤ 16 → rdA arg9 (arg9.view.writes (Elt F) f (pcA g n)) c = g c
  | 0, h, _ => absurd h (Nat.not_lt_zero _)
  | n + 1, h, hn => by
    unfold pcA
    by_cases e : c = n
    · subst e; exact rdA_hit arg9 f _ _ c
    · rw [rdA_miss arg9 f _ _ c n (by omega)]
      exact rdA_pcA f g c n (by omega) (by omega)

/-- Chain `c`'s running sum after the stores of the chains before `n`. -/
theorem rdR_pcR (f : BufTy.Contents (Elt F) arg10.view.ty) (g : ℕ → FVec F S1x1x256 .f32) (c : ℕ) :
    ∀ n, c < n → n ≤ 16 → rdR arg10 (arg10.view.writes (Elt F) f (pcR g n)) c = g c
  | 0, h, _ => absurd h (Nat.not_lt_zero _)
  | n + 1, h, hn => by
    unfold pcR
    by_cases e : c = n
    · subst e; exact rdR_hit arg10 f _ _ c
    · rw [rdR_miss arg10 f _ _ c n (by omega)]
      exact rdR_pcR f g c n (by omega) (by omega)

/-- Chain `c`'s staged queries. -/
theorem ldQ_pcQ (f : BufTy.Contents (Elt F) arg8.view.ty) (g : ℕ → FVec F S1x256x256 .bf16) (c : ℕ) :
    ∀ n, c < n → n ≤ 16 → ldQ arg8 (arg8.view.writes (Elt F) f (pcQ g n)) c = g c
  | 0, h, _ => absurd h (Nat.not_lt_zero _)
  | n + 1, h, hn => by
    unfold pcQ
    by_cases e : c = n
    · subst e; exact readAt_hit (F := F) arg8.view f _ _ _
    · refine (readAt_miss (F := F) arg8.view f (inbQ c) (inbQ n) _ _ 0 ?_).trans (ldQ_pcQ f g c n (by omega) (by omega))
      show c % 16 + 1 ≤ n % 16 ∨ n % 16 + 1 ≤ c % 16
      omega

section

variable (X4 : BufTy.Contents (Elt F) arg4.view.ty) (X5 : BufTy.Contents (Elt F) arg5.view.ty)
  (X6 : BufTy.Contents (Elt F) arg6.view.ty) (X8 : BufTy.Contents (Elt F) arg8.view.ty)

/-- A chain not yet reached by a round is as before it. -/
theorem round_before (k : FVec F S256x256 .f32 → FVec F S256x256 .f32) (ts : List Blk) (L : Log F) (c : ℕ) (hc : c < 16) :
    ∀ n, n ≤ c →
      rdA arg9 (atA arg9 (round arg4 arg5 arg6 arg8 arg9 arg10 X4 X5 X6 X8 k ts L n)) c = rdA arg9 (atA arg9 L) c
      ∧ rdR arg10 (atR arg10 (round arg4 arg5 arg6 arg8 arg9 arg10 X4 X5 X6 X8 k ts L n)) c = rdR arg10 (atR arg10 L) c
  | 0, _ => ⟨rfl, rfl⟩
  | n + 1, h => by
    have ih := round_before k ts L c hc n (by omega)
    refine ⟨?_, ?_⟩
    · unfold round
      exact (rdA_miss arg9 _ _ _ c n (by omega)).trans ih.1
    · unfold round
      exact (rdR_miss arg10 _ _ _ c n (by omega)).trans ih.2

/-- A chain's accumulator and running sum after a round: its own tiles, from what it held before. -/
theorem round_at (k : FVec F S256x256 .f32 → FVec F S256x256 .f32) (ts : List Blk) (L : Log F) (c : ℕ) :
    ∀ n, c < n → n ≤ 16 →
      rdA arg9 (atA arg9 (round arg4 arg5 arg6 arg8 arg9 arg10 X4 X5 X6 X8 k ts L n)) c
        = stA arg4 arg5 arg6 arg8 X4 X5 X6 X8 k c ts (rdR arg10 (atR arg10 L) c) (rdA arg9 (atA arg9 L) c)
      ∧ rdR arg10 (atR arg10 (round arg4 arg5 arg6 arg8 arg9 arg10 X4 X5 X6 X8 k ts L n)) c
        = stR arg4 arg5 arg6 arg8 X4 X5 X6 X8 k c ts (rdR arg10 (atR arg10 L) c) (rdA arg9 (atA arg9 L) c)
  | 0, h, _ => absurd h (Nat.not_lt_zero _)
  | n + 1, h, hn => by
    by_cases e : c = n
    · subst e
      have hb := round_before arg4 arg5 arg6 arg8 arg9 arg10 X4 X5 X6 X8 k ts L c (by omega) c le_rfl
      refine ⟨?_, ?_⟩
      · conv_lhs => unfold round
        refine (rdA_hit arg9 _ _ _ c).trans ?_
        rw [hb.1, hb.2]
      · conv_lhs => unfold round
        refine (rdR_hit arg10 _ _ _ c).trans ?_
        rw [hb.1, hb.2]
    · have ih := round_at k ts L c n (by omega) (by omega)
      refine ⟨?_, ?_⟩
      · conv_lhs => unfold round
        exact (rdA_miss arg9 _ _ _ c n (by omega)).trans ih.1
      · conv_lhs => unfold round
        exact (rdR_miss arg10 _ _ _ c n (by omega)).trans ih.2

/-- A chain's accumulator and running sum after one more trip. -/
theorem trips_at (L : Log F) (c : ℕ) (hc : c < 16) (k : ℕ) (hk : k < (k0_t1_loop i).trips) :
    rdA arg9 (atA arg9 (after (trips i arg4 arg5 arg6 arg8 arg9 arg10 X4 X5 X6 X8 L (k + 1)) L)) c
        = stA arg4 arg5 arg6 arg8 X4 X5 X6 X8 id c (blks i ⟨k, hk⟩)
            (rdR arg10 (atR arg10 (after (trips i arg4 arg5 arg6 arg8 arg9 arg10 X4 X5 X6 X8 L k) L)) c)
            (rdA arg9 (atA arg9 (after (trips i arg4 arg5 arg6 arg8 arg9 arg10 X4 X5 X6 X8 L k) L)) c)
      ∧ rdR arg10 (atR arg10 (after (trips i arg4 arg5 arg6 arg8 arg9 arg10 X4 X5 X6 X8 L (k + 1)) L)) c
        = stR arg4 arg5 arg6 arg8 X4 X5 X6 X8 id c (blks i ⟨k, hk⟩)
            (rdR arg10 (atR arg10 (after (trips i arg4 arg5 arg6 arg8 arg9 arg10 X4 X5 X6 X8 L k) L)) c)
            (rdA arg9 (atA arg9 (after (trips i arg4 arg5 arg6 arg8 arg9 arg10 X4 X5 X6 X8 L k) L)) c) := by
  have eA : ∀ M : Log F, atA arg9 (after M L) = arg9.view.writes (Elt F) (atA arg9 L) M.1 := fun M => View.writes_append ..
  have eR : ∀ M : Log F, atR arg10 (after M L) = arg10.view.writes (Elt F) (atR arg10 L) M.2 := fun M => View.writes_append ..
  rw [eA, eA, eR, eR, trips, dif_pos hk]
  refine ⟨?_, ?_⟩
  · dsimp only [after]
    rw [View.writes_append]
    exact rdA_pcA arg9 _ _ c 16 hc le_rfl
  · dsimp only [after]
    rw [View.writes_append]
    exact rdR_pcR arg10 _ _ c 16 hc le_rfl

end

/-- The accumulators start at zero. -/
theorem start_A (c : ℕ) (j : S1x64x256.Idx) : rdA arg9 (atA arg9 (start (F := F))) c j = FloatOps.ofBits .f32 0x00000000#32 := by
  have h := View.readAt_apply (Val := Elt F) (v := arg9.view) (boxA c).toLoadRect (atA arg9 (start (F := F))) j
  refine h.trans ?_
  refine (View.read_writes_cons_unit_of_mem arg9.view _ _ _ [] _ ((boxA c).toLoadRect.idx j) rfl fun a => ?_).trans rfl
  fin_cases a <;> exact (Nat.zero_add _).symm

/-- The running sums start at zero. -/
theorem start_R (c : ℕ) (j : S1x1x256.Idx) : rdR arg10 (atR arg10 (start (F := F))) c j = FloatOps.ofBits .f32 0x00000000#32 := by
  have h := View.readAt_apply (Val := Elt F) (v := arg10.view) (boxR c).toLoadRect (atR arg10 (start (F := F))) j
  refine h.trans ?_
  refine (View.read_writes_cons_unit_of_mem arg10.view _ _ _ [] _ ((boxR c).toLoadRect.idx j) rfl fun a => ?_).trans rfl
  fin_cases a <;> exact (Nat.zero_add _).symm

end Cert.KernelIdeal.Tile
-- ==== Proof.Offsets.lean ====
/-
  The key blocks the body visits, in its order: the query's own block, then the earlier ones down to block zero.
-/
module

public import proofs.«01_k».proof.Proof.Round

@[expose] public section

set_option maxRecDepth 16384

noncomputable section

namespace Cert.KernelIdeal.Tile

open Idealize.ShloMosaic Idealize.ShloMosaic.TcCoe Idealize.SL.Sem Cert.KernelIdeal.Gen

/-- A tile's rows and its block of values are block `kb`. -/
structure Blk.At (t : Blk) (kb : ℕ) : Prop where
  ko : t.ko = 256 * kb
  vo : t.vo = kb

theorem trips_eq : ∀ i : grid0.Coords, (k0_t1_loop i).trips = (i 2).val / 4 := by decide +kernel

theorem q_lt (i : grid0.Coords) : (i 2).val < 16 := (i 2).isLt

theorem offT : ∀ (i : grid0.Coords) (k : Fin (k0_t1_loop i).trips) (u : Fin 4),
    k0_off21 i k (BitVec.ofNat 32 u.val) 1 = 256 * ((i 2).val - 1 - 4 * k.val - u.val)
    ∧ k0_off23 i k (BitVec.ofNat 32 u.val) 1 = (i 2).val - 1 - 4 * k.val - u.val := by decide +kernel

theorem off2 : ∀ i : grid0.Coords, k0_cond1 i = 1#1 → ∀ u : Fin 2,
    k0_off61 i (BitVec.ofNat 32 u.val) 1 = 256 * ((i 2).val % 4 - 1 - u.val)
    ∧ k0_off63 i (BitVec.ofNat 32 u.val) 1 = (i 2).val % 4 - 1 - u.val := by decide +kernel

theorem off1 : ∀ i : grid0.Coords, k0_cond2 i = 1#1 → k0_off81 i 1 = 0 ∧ k0_off83 i 1 = 0 := by decide +kernel

theorem blkD_at (i : grid0.Coords) : (blkD i).At (i 2).val :=
  ⟨congrFun (k0_off1_eq i) 1, congrFun (k0_off3_eq i) 1⟩

theorem blkT_at (i : grid0.Coords) (k : Fin (k0_t1_loop i).trips) (u : Fin 4) : (blkT i k u).At ((i 2).val - 1 - 4 * k.val - u.val) :=
  ⟨(offT i k u).1, (offT i k u).2⟩

theorem blk2_at (i : grid0.Coords) (h : cond0_0 i) (u : Fin 2) : (blk2 i h u).At ((i 2).val % 4 - 1 - u.val) :=
  ⟨(off2 i h u).1, (off2 i h u).2⟩

theorem blk1_at (i : grid0.Coords) (h : cond0_1 i) : (blk1 i h).At 0 :=
  ⟨(off1 i h).1, (off1 i h).2⟩

theorem cond2 : ∀ i : grid0.Coords, k0_cond1 i = 1#1 ↔ ((i 2).val % 4 = 2 ∨ (i 2).val % 4 = 3) := by decide +kernel
theorem cond1 : ∀ i : grid0.Coords, k0_cond2 i = 1#1 ↔ (i 2).val % 2 = 1 := by decide +kernel

end Cert.KernelIdeal.Tile
-- ==== Proof.Body.lean ====
/-
  What the body leaves of each chain over the extended reals: the whole attention of its queries.
-/
module

public import proofs.«01_k».proof.Proof.StepValue
public import proofs.«01_k».proof.Proof.Reads
public import proofs.«01_k».proof.Proof.Offsets

@[expose] public section

set_option maxRecDepth 16384

noncomputable section

namespace Cert.KernelIdeal.Tile

open Idealize.ShloMosaic Idealize.ShloMosaic.TcCoe Idealize.SL.Sem Cert.KernelIdeal.Gen Cert.Stick

/-- A running sum and an accumulator as loaded, without their leading axes. -/
def flat (r : Vec Ideal S1x1x256 .f32) (a : Vec Ideal S1x64x256 .f32) : FVec Ideal S1x256 .f32 × FVec Ideal S64x256 .f32 :=
  (shapeCast S1x256 r shapeCasts_S1x1x256_S1x256, shapeCast S64x256 a shapeCasts_S1x64x256_S64x256)

theorem flat_store (s : FVec Ideal S1x256 .f32 × FVec Ideal S64x256 .f32) :
    flat (shapeCast S1x1x256 s.1 shapeCasts_S1x256_S1x1x256) (shapeCast S1x64x256 s.2 shapeCasts_S64x256_S1x64x256) = s := by
  refine Prod.ext ?_ ?_
  · funext j
    idx_vars j
    pointwise [flat]
  · funext j
    idx_vars j
    pointwise [flat]

variable (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg8 : Memref sig .tc .vmem S16x256x256 .bf16)
  (arg9 : Memref sig .tc .vmem S16x64x256 .f32)
  (arg10 : Memref sig .tc .vmem S16x1x256 .f32)

/-- After the stores `L` every chain holds the attention restricted to the keys from block `n` on. -/
def Good (z v : ℕ → ℕ → ℕ → EReal) (q n : ℕ) (L : Log Ideal) : Prop :=
  ∀ c, c < 16 → Holds (z c) (v c) q n (flat (rdR arg10 (atR arg10 L) c) (rdA arg9 (atA arg9 L) c))

section

variable (X4 : BufTy.Contents (Elt Ideal) arg4.view.ty) (X5 : BufTy.Contents (Elt Ideal) arg5.view.ty)
  (X6 : BufTy.Contents (Elt Ideal) arg6.view.ty) (X8 : BufTy.Contents (Elt Ideal) arg8.view.ty)
  {z v : ℕ → ℕ → ℕ → EReal} {q : ℕ}

/-- The operands the tiles read: the ones above the diagonal, and the logits and values of each chain block by block. -/
structure Operands (z v : ℕ → ℕ → ℕ → EReal) (q : ℕ) : Prop where
  ones : ∀ a b : Fin 256, ldU arg6 X6 (ix2 a b) = if a.val < b.val then 1 else 0
  reads : ∀ c, c < 16 → ∀ (t : Blk) (kb : ℕ), t.At kb → Reads arg4 arg5 arg8 X4 X5 X8 (z c) (v c) q c kb t

/-- What the tiles `ts` store for a chain, as loaded again. -/
theorem flat_steps (k : FVec Ideal S256x256 .f32 → FVec Ideal S256x256 .f32) (c : ℕ) (ts : List Blk) (r : Vec Ideal S1x1x256 .f32)
    (a : Vec Ideal S1x64x256 .f32) :
    flat (stR arg4 arg5 arg6 arg8 X4 X5 X6 X8 k c ts r a) (stA arg4 arg5 arg6 arg8 X4 X5 X6 X8 k c ts r a)
      = ts.foldl (step arg4 arg5 arg6 arg8 X4 X5 X6 X8 k c) (flat r a) :=
  flat_store _

/-- At the start the keys after the query's own block count for nothing. -/
theorem good_start : Good arg9 arg10 z v q (q + 1) (start (F := Ideal)) := by
  intro c hc
  refine ⟨fun t => ?_, fun d t => ?_⟩
  · rw [rest_last _ _ _ (by have := t.isLt; omega)]
    have e : ∀ r : Vec Ideal S1x1x256 .f32, (∀ j, r j = (0 : EReal)) →
        shapeCast S1x256 r shapeCasts_S1x1x256_S1x256 (ix2 0 t) = 0 := by
      intro r hr
      pointwise
      exact hr _
    exact e _ fun j => (start_R (F := Ideal) arg10 c j).trans Ideal.ofBits_zero_f32
  · rw [part_last _ _ _ _ _ (by have := t.isLt; omega)]
    have e : ∀ r : Vec Ideal S1x64x256 .f32, (∀ j, r j = (0 : EReal)) →
        shapeCast S64x256 r shapeCasts_S1x64x256_S64x256 (ix2 d t) = 0 := by
      intro r hr
      pointwise
      exact hr _
    exact e _ fun j => (start_A (F := Ideal) arg9 c j).trans Ideal.ofBits_zero_f32

variable (ho : Operands arg4 arg5 arg6 arg8 X4 X5 X6 X8 z v q)
include ho

/-- The diagonal tiles. -/
theorem good_diag (hq : q = (i 2).val) : Good arg9 arg10 z v q q (diag i arg4 arg5 arg6 arg8 arg9 arg10 X4 X5 X6 X8) := by
  intro c hc
  have h := round_at arg4 arg5 arg6 arg8 arg9 arg10 X4 X5 X6 X8 keep [blkD i] start c 16 hc le_rfl
  unfold diag
  rw [h.1, h.2, flat_steps]
  exact step_keep arg4 arg5 arg6 arg8 X4 X5 X6 X8 ho.ones (blkD i)
    (ho.reads c hc (blkD i) q (hq ▸ blkD_at i)) _ (good_start arg9 arg10 c hc)

/-- A round of tiles of successive earlier blocks. -/
theorem good_round {n : ℕ} {L : Log Ideal} (h : Good arg9 arg10 z v q n L) (hn : n ≤ q) (ts : List Blk) (hl : ts.length ≤ n)
    (ht : ∀ (j : ℕ) (hj : j < ts.length), ts[j].At (n - 1 - j)) :
    Good arg9 arg10 z v q (n - ts.length) (round arg4 arg5 arg6 arg8 arg9 arg10 X4 X5 X6 X8 id ts L 16) := by
  intro c hc
  have e := round_at arg4 arg5 arg6 arg8 arg9 arg10 X4 X5 X6 X8 id ts L c 16 hc le_rfl
  rw [e.1, e.2, flat_steps]
  exact steps_id arg4 arg5 arg6 arg8 X4 X5 X6 X8 ho.ones ts n (by omega) hn
    (fun j hj => ho.reads c hc _ _ (ht j hj)) _ (h c hc)

/-- The loop's first `k` trips. -/
theorem good_trips {L : Log Ideal} (hq : q = (i 2).val) (h : Good arg9 arg10 z v q q L) :
    ∀ k, k ≤ (k0_t1_loop i).trips →
      Good arg9 arg10 z v q (q - 4 * k) (after (trips i arg4 arg5 arg6 arg8 arg9 arg10 X4 X5 X6 X8 L k) L)
  | 0, _ => h
  | k + 1, hk => by
    have ih := good_trips hq h k (by omega)
    have hk' : k < (i 2).val / 4 := by rw [← trips_eq]; exact hk
    intro c hc
    have e := trips_at i arg4 arg5 arg6 arg8 arg9 arg10 X4 X5 X6 X8 L c hc k hk
    rw [e.1, e.2, flat_steps]
    refine steps_id arg4 arg5 arg6 arg8 X4 X5 X6 X8 ho.ones (blks i ⟨k, hk⟩) (q - 4 * k) (by show 4 + _ = _; omega) (by omega)
      (fun j hj => ho.reads c hc _ _ ?_) _ (ih c hc)
    have hj4 : j < 4 := hj
    rw [show q - 4 * k - 1 - j = (i 2).val - 1 - 4 * k - j by omega]
    have hb := fun u => blkT_at i ⟨k, hk⟩ u
    match j, hj4 with
    | 0, _ => exact hb 0
    | 1, _ => exact hb 1
    | 2, _ => exact hb 2
    | 3, _ => exact hb 3

/-- After the loop the blocks of the tail are left. -/
theorem good_loops {L : Log Ideal} (hq : q = (i 2).val) (h : Good arg9 arg10 z v q q L) :
    Good arg9 arg10 z v q (q % 4) (loops i arg4 arg5 arg6 arg8 arg9 arg10 X4 X5 X6 X8 L) := by
  have e := good_trips i arg4 arg5 arg6 arg8 arg9 arg10 X4 X5 X6 X8 ho hq h _ le_rfl
  have : q - 4 * (k0_t1_loop i).trips = q % 4 := by rw [trips_eq, ← hq]; omega
  rw [this] at e
  exact e

end

section

variable (x0 : Vec Ideal S4x1x256x256 .bf16) (x1 : Vec Ideal S4x4096x256 .bf16) (x2 : Vec Ideal S4x16x256x256 .bf16)
  (x3 : Vec Ideal S256x256 .bf16) {z v : ℕ → ℕ → ℕ → EReal}
  (ho : Operands arg4 arg5 arg6 arg8 (harg4.unread x1) (harg5.unread x2) (harg6.unread x3) (staged arg3 harg3 arg8 x0) z v (i 2).val)
include ho

theorem good_full : Good arg9 arg10 z v (i 2).val ((i 2).val % 4)
    (full i arg3 harg3 arg4 harg4 arg5 harg5 arg6 harg6 arg8 arg9 arg10 x0 x1 x2 x3) :=
  good_loops i arg4 arg5 arg6 arg8 arg9 arg10 _ _ _ _ ho rfl (good_diag i arg4 arg5 arg6 arg8 arg9 arg10 _ _ _ _ ho rfl)

theorem good_A (h0 : ¬cond0_0 i) (h1 : ¬cond0_1 i) : Good arg9 arg10 z v (i 2).val 0
    (full i arg3 harg3 arg4 harg4 arg5 harg5 arg6 harg6 arg8 arg9 arg10 x0 x1 x2 x3) := by
  have h := good_full i arg3 harg3 arg4 harg4 arg5 harg5 arg6 harg6 arg8 arg9 arg10 x0 x1 x2 x3 ho
  have a := mt (cond2 i).2 h0
  have b := mt (cond1 i).2 h1
  rwa [show (i 2).val % 4 = 0 by omega] at h

theorem good_B (h0 : ¬cond0_0 i) (h1 : cond0_1 i) : Good arg9 arg10 z v (i 2).val 0
    (tail arg3 harg3 arg4 harg4 arg5 harg5 arg6 harg6 arg8 arg9 arg10 x0 x1 x2 x3 [blk1 i h1]
      (full i arg3 harg3 arg4 harg4 arg5 harg5 arg6 harg6 arg8 arg9 arg10 x0 x1 x2 x3)) := by
  have h := good_full i arg3 harg3 arg4 harg4 arg5 harg5 arg6 harg6 arg8 arg9 arg10 x0 x1 x2 x3 ho
  have a := mt (cond2 i).2 h0
  have b := (cond1 i).1 h1
  rw [show (i 2).val % 4 = 1 by omega] at h
  refine good_round arg4 arg5 arg6 arg8 arg9 arg10 _ _ _ _ ho h (by omega) [blk1 i h1] le_rfl fun j hj => ?_
  match j, hj with
  | 0, _ => exact blk1_at i h1

theorem good_C' (h0 : cond0_0 i) : Good arg9 arg10 z v (i 2).val ((i 2).val % 4 - 2)
    (tail arg3 harg3 arg4 harg4 arg5 harg5 arg6 harg6 arg8 arg9 arg10 x0 x1 x2 x3 [blk2 i h0 0, blk2 i h0 1]
      (full i arg3 harg3 arg4 harg4 arg5 harg5 arg6 harg6 arg8 arg9 arg10 x0 x1 x2 x3)) := by
  have h := good_full i arg3 harg3 arg4 harg4 arg5 harg5 arg6 harg6 arg8 arg9 arg10 x0 x1 x2 x3 ho
  have a := (cond2 i).1 h0
  refine good_round arg4 arg5 arg6 arg8 arg9 arg10 _ _ _ _ ho h (by omega) [blk2 i h0 0, blk2 i h0 1] (by show 2 ≤ _; omega) fun j hj => ?_
  match j, hj with
  | 0, _ => exact blk2_at i h0 0
  | 1, _ => exact blk2_at i h0 1

theorem good_C (h0 : cond0_0 i) (h1 : ¬cond0_1 i) : Good arg9 arg10 z v (i 2).val 0
    (tail arg3 harg3 arg4 harg4 arg5 harg5 arg6 harg6 arg8 arg9 arg10 x0 x1 x2 x3 [blk2 i h0 0, blk2 i h0 1]
      (full i arg3 harg3 arg4 harg4 arg5 harg5 arg6 harg6 arg8 arg9 arg10 x0 x1 x2 x3)) := by
  have h := good_C' i arg3 harg3 arg4 harg4 arg5 harg5 arg6 harg6 arg8 arg9 arg10 x0 x1 x2 x3 ho h0
  have a := (cond2 i).1 h0
  have b := mt (cond1 i).2 h1
  rwa [show (i 2).val % 4 - 2 = 0 by omega] at h

theorem good_D (h0 : cond0_0 i) (h1 : cond0_1 i) : Good arg9 arg10 z v (i 2).val 0
    (tail arg3 harg3 arg4 harg4 arg5 harg5 arg6 harg6 arg8 arg9 arg10 x0 x1 x2 x3 [blk1 i h1]
      (tail arg3 harg3 arg4 harg4 arg5 harg5 arg6 harg6 arg8 arg9 arg10 x0 x1 x2 x3 [blk2 i h0 0, blk2 i h0 1]
        (full i arg3 harg3 arg4 harg4 arg5 harg5 arg6 harg6 arg8 arg9 arg10 x0 x1 x2 x3))) := by
  have h := good_C' i arg3 harg3 arg4 harg4 arg5 harg5 arg6 harg6 arg8 arg9 arg10 x0 x1 x2 x3 ho h0
  have a := (cond2 i).1 h0
  have b := (cond1 i).1 h1
  rw [show (i 2).val % 4 - 2 = 1 by omega] at h
  refine good_round arg4 arg5 arg6 arg8 arg9 arg10 _ _ _ _ ho h (by omega) [blk1 i h1] le_rfl fun j hj => ?_
  match j, hj with
  | 0, _ => exact blk1_at i h1

end

end Cert.KernelIdeal.Tile
-- ==== Proof.Spec.lean ====
/-
  The queries, keys and values as the stick-breaking sums of Proof/Stick.lean read them: the two-based logit of key
  position `s` for query position `t` in a head, and a head's values, over the positions `0 … 4095`.
-/
module

public import Idealize.ShloMosaic.Lib.Pointwise
public import proofs.«01_k».proof.Proof.Stick

@[expose] public section

noncomputable section

namespace Cert.Stick

open Idealize.ShloMosaic

/-- The queries' (and the values') array: batch, block of 256 positions, head and feature together, position in the block. -/
abbrev SQ : Shape := ⟨4, ![4, 16, 1024, 256]⟩
/-- The keys' array: batch, position, head and feature together. -/
abbrev SK : Shape := ⟨3, ![4, 4096, 1024]⟩
/-- The result's array: batch, head and feature together, position. -/
abbrev SO : Shape := ⟨3, ![4, 1024, 4096]⟩

/-- The row of head `h`, feature `e`. -/
def row (h : Fin 16) (e : Fin 64) : Fin 1024 := ⟨64 * h.val + e.val, by have := h.isLt; have := e.isLt; omega⟩
/-- The block that position `t` lies in. -/
def blk (t : ℕ) : Fin 16 := ⟨t / 256 % 16, Nat.mod_lt _ (by omega)⟩
/-- The place of position `t` in its block. -/
def plc (t : ℕ) : Fin 256 := ⟨t % 256, Nat.mod_lt _ (by omega)⟩
/-- Position `s`. -/
def pos (s : ℕ) : Fin 4096 := ⟨s % 4096, Nat.mod_lt _ (by omega)⟩

/-- The logit of key `s` for query `t` in batch `b`, head `h`. -/
def logit (q : SQ.Idx → EReal) (k : SK.Idx → EReal) (b : Fin 4) (h : Fin 16) (s t : ℕ) : EReal :=
  ∑ e : Fin 64, q (ix4 b (blk t) (row h e) (plc t)) * k (ix3 b (pos s) (row h e))

/-- Feature `d` of the value at position `s` in batch `b`, head `h`. -/
def val (v : SQ.Idx → EReal) (b : Fin 4) (h : Fin 16) (d s : ℕ) : EReal :=
  v (ix4 b (blk s) (row h ⟨d % 64, Nat.mod_lt _ (by omega)⟩) (plc s))

/-- The attention's result, feature `d` of head `h` at position `t` of batch `b`. -/
def result (q : SQ.Idx → EReal) (k : SK.Idx → EReal) (v : SQ.Idx → EReal) (b : Fin 4) (h : Fin 16) (d : Fin 64) (t : Fin 4096) : EReal :=
  attn (logit q k b h) (val v b h) d t

end Cert.Stick
-- ==== Proof.Inputs.lean ====
/-
  What a tile reads of the body's input windows: the keys, the values, the ones above the diagonal, and the queries
  staged among zeros.
-/
module

public import proofs.«01_k».proof.Proof.Body
public import proofs.«01_k».proof.Proof.Spec

@[expose] public section

set_option maxRecDepth 16384

noncomputable section

namespace Cert.KernelIdeal.Tile

open Idealize.ShloMosaic Idealize.ShloMosaic.TcCoe Idealize.SL.Sem Cert.KernelIdeal.Gen Cert.Stick

variable
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg8 : Memref sig .tc .vmem S16x256x256 .bf16)
  (x0 : Vec Ideal S4x1x256x256 .bf16) (x1 : Vec Ideal S4x4096x256 .bf16) (x2 : Vec Ideal S4x16x256x256 .bf16)
  (x3 : Vec Ideal S256x256 .bf16)

/-- The batch of chain `c`. -/
def bat (c : ℕ) : Fin 4 := ⟨c / 4 % 4, Nat.mod_lt _ (by omega)⟩
/-- The row of feature `e` of chain `c`'s head among the four heads of a window. -/
def sub (c : ℕ) (e : Fin 64) : Fin 256 := ⟨64 * (c % 4) + e.val, by have := e.isLt; omega⟩

theorem ldK_apply (t : Blk) (kb : ℕ) (hkb : t.At kb) (hlt : kb < 16) (c : ℕ) (s e : Fin 256) :
    ldK arg4 (harg4.unread x1) t c (ix3 0 s e) = x1 (ix3 (bat c) (pos (256 * kb + s.val)) e) := by
  unfold ldK
  rw [View.readAt_apply, Memref.IsWhole.read_unread]
  congr 1
  funext a
  have hs := s.isLt
  refine Fin.ext ?_
  match a with
  | ⟨0, _⟩ => rfl
  | ⟨1, _⟩ =>
    show t.ko + 1 * s.val = (256 * kb + s.val) % 4096
    rw [hkb.ko]; omega
  | ⟨2, _⟩ =>
    show 0 + 1 * e.val = e.val
    omega

theorem ldV_apply (t : Blk) (kb : ℕ) (hkb : t.At kb) (hlt : kb < 16) (c : ℕ) (d : Fin 64) (j : Fin 256) :
    ldV arg5 (harg5.unread x2) t c (ix4 0 0 d j) = x2 (ix4 (bat c) (blk (256 * kb + j.val)) (sub c d) (plc (256 * kb + j.val))) := by
  unfold ldV
  rw [View.readAt_apply, Memref.IsWhole.read_unread]
  congr 1
  funext a
  have hj := j.isLt
  refine Fin.ext ?_
  match a with
  | ⟨0, _⟩ => rfl
  | ⟨1, _⟩ =>
    show t.vo + 1 * 0 = (256 * kb + j.val) / 256 % 16
    rw [hkb.vo]; omega
  | ⟨2, _⟩ =>
    show 64 * (c % 4) + 1 * d.val = 64 * (c % 4) + d.val
    omega
  | ⟨3, _⟩ =>
    show 0 + 1 * j.val = (256 * kb + j.val) % 256
    omega

theorem ldU_apply (a b : Fin 256) : ldU arg6 (harg6.unread x3) (ix2 a b) = x3 (ix2 a b) := by
  unfold ldU
  rw [View.readAt_apply, Memref.IsWhole.read_unread]
  congr 1
  funext k
  refine Fin.ext ?_
  match k with
  | ⟨0, _⟩ =>
    show 0 + 1 * a.val = a.val
    omega
  | ⟨1, _⟩ =>
    show 0 + 1 * b.val = b.val
    omega

theorem pick_apply (h n : ℕ) (q : FVec Ideal S64x256 .bf16) (j : S64x256.Idx) :
    pick h n q j = if n % 4 = h then q j else (0 : EReal) := by
  unfold pick
  split_ifs
  · rfl
  · exact Ideal.ofBits_zero_bf16

/-- A staged chain: its queries at the rows of its head, zero elsewhere. -/
theorem stQ_apply (c : ℕ) (q : FVec Ideal S64x256 .bf16) (h : Fin 4) (e : Fin 64) (t : Fin 256) (r : Fin 256) (hr : r.val = 64 * h.val + e.val) :
    stQ c q (ix3 0 r t) = if c % 4 = h.val then q (ix2 e t) else (0 : EReal) := by
  have key : stQ c q (ix3 0 r t) = pick h.val c q (ix2 e t) := by
    pointwise [stQ]
    have he := e.isLt
    match h, hr with
    | ⟨0, _⟩, hr =>
      have hr : r.val = 64 * 0 + e.val := hr
      rw [dif_pos (by omega)]
      exact congrArg (fun x => pick 0 c q (ix2 x t)) (Fin.ext (show r.val = e.val by omega))
    | ⟨1, _⟩, hr =>
      have hr : r.val = 64 * 1 + e.val := hr
      rw [dif_neg (by omega), dif_pos (by omega)]
      exact congrArg (fun x => pick 1 c q (ix2 x t)) (Fin.ext (show r.val - 64 = e.val by omega))
    | ⟨2, _⟩, hr =>
      have hr : r.val = 64 * 2 + e.val := hr
      rw [dif_neg (by omega), dif_neg (by omega), dif_pos (by omega)]
      exact congrArg (fun x => pick 2 c q (ix2 x t)) (Fin.ext (show r.val - 64 - 64 = e.val by omega))
    | ⟨3, _⟩, hr =>
      have hr : r.val = 64 * 3 + e.val := hr
      rw [dif_neg (by omega), dif_neg (by omega), dif_neg (by omega)]
      exact congrArg (fun x => pick 3 c q (ix2 x t)) (Fin.ext (show r.val - 64 - 64 - 64 = e.val by omega))
  rw [key, pick_apply]

theorem ldQ_apply (c : ℕ) (hc : c < 16) (h : Fin 4) (e : Fin 64) (t : Fin 256) (r : Fin 256) (hr : r.val = 64 * h.val + e.val) :
    ldQ arg8 (staged arg3 harg3 arg8 x0) c (ix3 0 r t) = if c % 4 = h.val then x0 (ix4 (bat c) 0 (sub c e) t) else (0 : EReal) := by
  unfold staged
  rw [ldQ_pcQ arg8 _ _ c 16 hc le_rfl, stQ_apply _ _ h e t r hr]
  refine if_congr Iff.rfl ?_ rfl
  have g : ∀ w : Vec Ideal S1x1x64x256 .bf16, shapeCast S64x256 w shapeCasts_S1x1x64x256_S64x256 (ix2 e t) = w (ix4 0 0 e t) := by
    intro w
    pointwise
  rw [g, View.readAt_apply, Memref.IsWhole.read_unread]
  congr 1
  funext a
  refine Fin.ext ?_
  match a with
  | ⟨0, _⟩ => rfl
  | ⟨1, _⟩ => rfl
  | ⟨2, _⟩ =>
    show 64 * (c % 4) + 1 * e.val = 64 * (c % 4) + e.val
    omega
  | ⟨3, _⟩ =>
    show 0 + 1 * t.val = t.val
    omega

/-- A sum over 256 rows that are zero outside one head's is the sum over that head's. -/
theorem sum_head (f : Fin 256 → EReal) (g : Fin 64 → EReal) (h0 : Fin 4)
    (hf : ∀ (h : Fin 4) (e : Fin 64) (r : Fin 256), r.val = 64 * h.val + e.val → f r = if h0 = h then g e else 0) :
    ∑ r, f r = ∑ e, g e := by
  rw [← Equiv.sum_comp (finProdFinEquiv (m := 4) (n := 64)) f, Fintype.sum_prod_type, Finset.sum_eq_single h0]
  · refine Finset.sum_congr rfl fun e _ => ?_
    rw [hf h0 e _ (by simp [finProdFinEquiv]; omega), if_pos rfl]
  · intro h _ hne
    refine Finset.sum_eq_zero fun e _ => ?_
    rw [hf h e _ (by simp [finProdFinEquiv]; omega), if_neg hne.symm]
  · intro h; exact absurd (Finset.mem_univ _) h

/-- The operands of the body, of chains whose logits and values are those of its windows. -/
theorem operands (q : ℕ) (z v : ℕ → ℕ → ℕ → EReal)
    (hu : ∀ a b : Fin 256, x3 (ix2 a b) = if a.val < b.val then (1 : EReal) else 0)
    (hz : ∀ c, c < 16 → ∀ (s : ℕ) (t : Fin 256), s < 4096 →
      z c s (256 * q + t.val) = ∑ e : Fin 64, x0 (ix4 (bat c) 0 (sub c e) t) * x1 (ix3 (bat c) (pos s) (sub c e)))
    (hv : ∀ c, c < 16 → ∀ (d : Fin 64) (s : ℕ), s < 4096 → v c d.val s = x2 (ix4 (bat c) (blk s) (sub c d) (plc s)))
    (hlt : ∀ (t : Blk) (kb : ℕ), t.At kb → kb < 16) :
    Operands arg4 arg5 arg6 arg8 (harg4.unread x1) (harg5.unread x2) (harg6.unread x3) (staged arg3 harg3 arg8 x0) z v q := by
  refine ⟨fun a b => ?_, fun c hc t kb hkb => ⟨hlt t kb hkb, fun s t' => ?_, fun d j => ?_⟩⟩
  · rw [ldU_apply, hu]
  · have hs := s.isLt
    have hk := hlt t kb hkb
    rw [tz_apply, hz c hc _ _ (by omega)]
    have := sum_head (fun e => ldK arg4 (harg4.unread x1) t c (ix3 0 s e) * ldQ arg8 (staged arg3 harg3 arg8 x0) c (ix3 0 e t'))
      (fun e => x0 (ix4 (bat c) 0 (sub c e) t') * x1 (ix3 (bat c) (pos (256 * kb + s.val)) (sub c e))) ⟨c % 4, Nat.mod_lt _ (by omega)⟩ ?_
    · exact this
    · intro h e r hr
      rw [ldK_apply arg4 harg4 x1 t kb hkb hk c s r, ldQ_apply arg3 harg3 arg8 x0 c hc h e t' r hr]
      by_cases hh : c % 4 = h.val
      · rw [if_pos hh, if_pos (Fin.ext hh), mul_comm]
        have : r = sub c e := Fin.ext (by rw [hr, ← hh]; rfl)
        rw [this]
      · rw [if_neg hh, if_neg (fun e => hh (congrArg Fin.val e)), mul_zero]
  · have hk := hlt t kb hkb
    have hj := j.isLt
    rw [ldV_apply arg5 harg5 x2 t kb hkb hk, hv c hc d _ (by omega)]

theorem at_lt (t : Blk) (kb : ℕ) (h : t.At kb) : kb < 16 := h.vo ▸ t.hv

end Cert.KernelIdeal.Tile
-- ==== Proof.Ones.lean ====
/-
  The kernel's literal matrix: ones above the diagonal.
-/
module

public import proofs.«01_k».proof.Proof.Gen.KernelIdeal.Launch
public import Idealize.ShloMosaic.Lib.Pointwise
public import Idealize.ShloMosaic.Lib.IdealHost

@[expose] public section

set_option maxRecDepth 65536

noncomputable section

namespace Cert.KernelIdeal.Tile

open Idealize.ShloMosaic Cert.KernelIdeal Cert.KernelIdeal.Gen

/-- Entry `n` of the literal, row after row, is a one above the diagonal and a zero elsewhere. -/
def oneAt (n : ℕ) : Bool :=
  decide (lit0 ⟨n % 65536, Nat.mod_lt _ (by omega)⟩ = if n / 256 % 256 < n % 256 then 0x3F80#16 else 0x0000#16)

/-- The rows from `32 a` up to `32 a + 31` are so. -/
def Rows (a : ℕ) : Prop := ∀ (r : Fin 32) (c : Fin 256), oneAt (256 * (32 * a + r.val) + c.val) = true

instance (a : ℕ) : Decidable (Rows a) := inferInstanceAs (Decidable (∀ (r : Fin 32) (c : Fin 256), oneAt (256 * (32 * a + r.val) + c.val) = true))

theorem rows0 : Rows 0 := by decide +kernel
theorem rows1 : Rows 1 := by decide +kernel
theorem rows2 : Rows 2 := by decide +kernel
theorem rows3 : Rows 3 := by decide +kernel
theorem rows4 : Rows 4 := by decide +kernel
theorem rows5 : Rows 5 := by decide +kernel
theorem rows6 : Rows 6 := by decide +kernel
theorem rows7 : Rows 7 := by decide +kernel

/-- All the rows are so. -/
theorem rows : ∀ a : Fin 8, Rows a.val
  | ⟨0, _⟩ => rows0
  | ⟨1, _⟩ => rows1
  | ⟨2, _⟩ => rows2
  | ⟨3, _⟩ => rows3
  | ⟨4, _⟩ => rows4
  | ⟨5, _⟩ => rows5
  | ⟨6, _⟩ => rows6
  | ⟨7, _⟩ => rows7

theorem oneAt_all (r c : Fin 256) : oneAt (256 * r.val + c.val) = true := by
  have hr := r.isLt
  have h := rows ⟨r.val / 32, by omega⟩ ⟨r.val % 32, by omega⟩ c
  dsimp only at h
  rwa [show 32 * (r.val / 32) + r.val % 32 = r.val by omega] at h

/-- The literal's entry at row `r` and column `c`. -/
theorem ones_apply (r c : Fin 256) :
    Ideal.ofBits .bf16 (lit0 (S256x256.rowMajor (ix2 r c))) = if r.val < c.val then (1 : EReal) else 0 := by
  have hr := r.isLt
  have hc := c.isLt
  have h := of_decide_eq_true (oneAt_all r c)
  have hi : S256x256.rowMajor (ix2 r c) = ⟨(256 * r.val + c.val) % 65536, Nat.mod_lt _ (by omega)⟩ := by
    refine Fin.ext ?_
    have e : (S256x256.rowMajor (ix2 r c)).val = 256 * r.val + c.val := by
      rw [Shape.rowMajor_val_two]
      show r.val * 256 + c.val = _
      omega
    rw [e]
    show _ = (256 * r.val + c.val) % 65536
    omega
  rw [hi, h, show (256 * r.val + c.val) / 256 % 256 = r.val by omega, show (256 * r.val + c.val) % 256 = c.val by omega]
  split_ifs
  · exact Ideal.ofBits_one_bf16
  · exact Ideal.ofBits_zero_bf16

end Cert.KernelIdeal.Tile
-- ==== Proof.Blocks.lean ====
/-
  The blocks of the arguments at a grid point, read at an index.
-/
module

public import proofs.«01_k».proof.Proof.Gen.KernelIdeal.Frame.Runs
public import proofs.«01_k».proof.Proof.Spec
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem Cert.Stick

theorem N_eq : cfg0.N = 64 := rfl

/-- The group of heads and the block of queries of a grid point. -/
theorem coords_eq : ∀ t : Fin grid0.N, (grid0.coords t 1).val = t.val / 16 ∧ (grid0.coords t 2).val = t.val % 16 := by decide +kernel

theorem index0 : ∀ t : Fin grid0.N, win0_0.index t 0 = 0 ∧ win0_0.index t 1 = t.val % 16 ∧ win0_0.index t 2 = t.val / 16 ∧ win0_0.index t 3 = 0 := by
  decide +kernel
theorem index1 : ∀ t : Fin grid0.N, win0_1.index t 0 = 0 ∧ win0_1.index t 1 = 0 ∧ win0_1.index t 2 = t.val / 16 := by decide +kernel
theorem index2 : ∀ t : Fin grid0.N, win0_2.index t 0 = 0 ∧ win0_2.index t 1 = 0 ∧ win0_2.index t 2 = t.val / 16 ∧ win0_2.index t 3 = 0 := by
  decide +kernel
theorem index3 : ∀ t : Fin grid0.N, win0_3.index t 0 = 0 ∧ win0_3.index t 1 = 0 := by decide +kernel
theorem index4 : ∀ t : Fin grid0.N, win0_4.index t 0 = 0 ∧ win0_4.index t 1 = t.val / 16 ∧ win0_4.index t 2 = t.val % 16 := by decide +kernel

/-- A row of a grid point's window, in the array. -/
def rowAt (t : Fin cfg0.N) (r : Fin 256) : Fin 1024 := ⟨256 * (t.val / 16) + r.val, by
  have := t.isLt; have := N_eq; have := r.isLt; omega⟩

variable (m : (ℓ : Loc nD τ sig) → Buf (Elt Ideal) ℓ)

theorem iblk0_apply (c : Dev nD) (t : Fin cfg0.N) (b : Fin 4) (r j : Fin 256) :
    (iblk m c 0 t : Vec Ideal S4x1x256x256 .bf16) (ix4 b 0 r j)
      = (m ((c : Thread nD τ).loc main_arg0) : Vec Ideal S4x16x1024x256 .bf16) (ix4 b ⟨t.val % 16, Nat.mod_lt _ (by omega)⟩ (rowAt t r) j) := by
  obtain ⟨h0, h1, h2, h3⟩ := index0 t
  unfold iblk
  rw [View.read_apply]
  refine (congrFun (V_main_arg0 m c) _).trans ?_
  congr 1
  funext a
  refine Fin.ext ?_
  match a with
  | ⟨0, _⟩ => show win0_0.index t 0 * 4 + 1 * b.val = b.val; rw [h0]; omega
  | ⟨1, _⟩ => show win0_0.index t 1 * 1 + 1 * 0 = t.val % 16; rw [h1]; omega
  | ⟨2, _⟩ => show win0_0.index t 2 * 256 + 1 * r.val = 256 * (t.val / 16) + r.val; rw [h2]; omega
  | ⟨3, _⟩ => show win0_0.index t 3 * 256 + 1 * j.val = j.val; rw [h3]; omega

theorem iblk1_apply (c : Dev nD) (t : Fin cfg0.N) (b : Fin 4) (s : Fin 4096) (r : Fin 256) :
    (iblk m c 1 t : Vec Ideal S4x4096x256 .bf16) (ix3 b s r)
      = (m ((c : Thread nD τ).loc main_arg1) : Vec Ideal S4x4096x1024 .bf16) (ix3 b s (rowAt t r)) := by
  obtain ⟨h0, h1, h2⟩ := index1 t
  unfold iblk
  rw [View.read_apply]
  refine (congrFun (V_main_arg1 m c) _).trans ?_
  congr 1
  funext a
  refine Fin.ext ?_
  match a with
  | ⟨0, _⟩ => show win0_1.index t 0 * 4 + 1 * b.val = b.val; rw [h0]; omega
  | ⟨1, _⟩ => show win0_1.index t 1 * 4096 + 1 * s.val = s.val; rw [h1]; omega
  | ⟨2, _⟩ => show win0_1.index t 2 * 256 + 1 * r.val = 256 * (t.val / 16) + r.val; rw [h2]; omega

theorem iblk2_apply (c : Dev nD) (t : Fin cfg0.N) (b : Fin 4) (k : Fin 16) (r j : Fin 256) :
    (iblk m c 2 t : Vec Ideal S4x16x256x256 .bf16) (ix4 b k r j)
      = (m ((c : Thread nD τ).loc main_arg2) : Vec Ideal S4x16x1024x256 .bf16) (ix4 b k (rowAt t r) j) := by
  obtain ⟨h0, h1, h2, h3⟩ := index2 t
  unfold iblk
  rw [View.read_apply]
  refine (congrFun (V_main_arg2 m c) _).trans ?_
  congr 1
  funext a
  refine Fin.ext ?_
  match a with
  | ⟨0, _⟩ => show win0_2.index t 0 * 4 + 1 * b.val = b.val; rw [h0]; omega
  | ⟨1, _⟩ => show win0_2.index t 1 * 16 + 1 * k.val = k.val; rw [h1]; omega
  | ⟨2, _⟩ => show win0_2.index t 2 * 256 + 1 * r.val = 256 * (t.val / 16) + r.val; rw [h2]; omega
  | ⟨3, _⟩ => show win0_2.index t 3 * 256 + 1 * j.val = j.val; rw [h3]; omega

theorem V_cst (c : Dev nD) : (V m c main_cst : Vec Ideal S256x256 .bf16) = fun i => Ideal.ofBits .bf16 (lit0 (S256x256.rowMajor i)) := by
  unfold V
  rfl

theorem iblk3_apply (c : Dev nD) (t : Fin cfg0.N) (r j : Fin 256) :
    (iblk m c 3 t : Vec Ideal S256x256 .bf16) (ix2 r j) = Ideal.ofBits .bf16 (lit0 (S256x256.rowMajor (ix2 r j))) := by
  obtain ⟨h0, h1⟩ := index3 t
  unfold iblk
  rw [View.read_apply]
  refine (congrFun (V_cst m c) _).trans ?_
  congr 3
  funext a
  refine Fin.ext ?_
  match a with
  | ⟨0, _⟩ => show win0_3.index t 0 * 256 + 1 * r.val = r.val; rw [h0]; omega
  | ⟨1, _⟩ => show win0_3.index t 1 * 256 + 1 * j.val = j.val; rw [h1]; omega

end Cert.KernelIdeal.Blocks
-- ==== Proof.CaseA.lean ====
/-
  The body's stores into its results in case A, as rounds over the chains.
-/
module

public import proofs.«01_k».proof.Proof.Cases

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

variable (c : Dev nD) (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg7 : Memref sig .tc .vmem S4x256x256 .bf16) (harg7 : arg7.IsWhole)
  (arg8 : Memref sig .tc .vmem S16x256x256 .bf16) (harg8 : arg8.IsWhole)
  (arg9 : Memref sig .tc .vmem S16x64x256 .f32) (harg9 : arg9.IsWhole)
  (arg10 : Memref sig .tc .vmem S16x1x256 .f32) (harg10 : arg10.IsWhole)

variable (x0 : Vec F S4x1x256x256 .bf16) (x1 : Vec F S4x4096x256 .bf16) (x2 : Vec F S4x16x256x256 .bf16) (x3 : Vec F S256x256 .bf16)

set_option maxHeartbeats 8000000 in
/-- Case A: no tail. -/
theorem run_A (hc0 : ¬cond0_0 i) (hc1 : ¬cond0_1 i) :
      (kernelRun0_A c i arg3 harg3 arg4 harg4 arg5 harg5 arg6 harg6 arg7 harg7 arg8 harg8 arg9 harg9 arg10 harg10 hc0 hc1
        x0 x1 x2 x3).1
      = results arg9 (full i arg3 harg3 arg4 harg4 arg5 harg5 arg6 harg6 arg8 arg9 arg10 x0 x1 x2 x3) := by
  unfold kernelRun0_A
  refine results_of arg9 (loops_of (F := F) c i arg3 harg3 arg4 harg4 arg5 harg5 arg6 harg6 arg7 harg7 arg8 harg8 arg9 harg9 arg10 harg10
      (harg4.unread x1) (harg5.unread x2) (harg6.unread x3) (staged arg3 harg3 arg8 x0) rfl rfl ?_)
  iterate 16 refine round_cons (F := F) arg4 arg5 arg6 arg8 arg9 arg10 (harg4.unread x1) (harg5.unread x2) (harg6.unread x3) (staged arg3 harg3 arg8 x0) rfl rfl rfl rfl ?_
  rfl

end Cert.KernelIdeal.Tile
-- ==== Proof.CaseB.lean ====
/-
  The body's stores into its results in case B, as rounds over the chains.
-/
module

public import proofs.«01_k».proof.Proof.Cases

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

variable (c : Dev nD) (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg7 : Memref sig .tc .vmem S4x256x256 .bf16) (harg7 : arg7.IsWhole)
  (arg8 : Memref sig .tc .vmem S16x256x256 .bf16) (harg8 : arg8.IsWhole)
  (arg9 : Memref sig .tc .vmem S16x64x256 .f32) (harg9 : arg9.IsWhole)
  (arg10 : Memref sig .tc .vmem S16x1x256 .f32) (harg10 : arg10.IsWhole)

variable (x0 : Vec F S4x1x256x256 .bf16) (x1 : Vec F S4x4096x256 .bf16) (x2 : Vec F S4x16x256x256 .bf16) (x3 : Vec F S256x256 .bf16)

set_option maxHeartbeats 8000000 in
/-- Case B: the tail of one. -/
theorem run_B (hc0 : ¬cond0_0 i) (hc1 : cond0_1 i) :
      (kernelRun0_B c i arg3 harg3 arg4 harg4 arg5 harg5 arg6 harg6 arg7 harg7 arg8 harg8 arg9 harg9 arg10 harg10 hc0 hc1
        x0 x1 x2 x3).1
      = results arg9 (tail arg3 harg3 arg4 harg4 arg5 harg5 arg6 harg6 arg8 arg9 arg10 x0 x1 x2 x3 [blk1 i hc1] (full i arg3 harg3 arg4 harg4 arg5 harg5 arg6 harg6 arg8 arg9 arg10 x0 x1 x2 x3)) := by
  unfold kernelRun0_B
  refine results_of arg9 (round_cons (F := F) arg4 arg5 arg6 arg8 arg9 arg10 (harg4.unread x1) (harg5.unread x2) (harg6.unread x3) (staged arg3 harg3 arg8 x0) rfl rfl rfl rfl ?_)
  iterate 15 refine round_cons (F := F) arg4 arg5 arg6 arg8 arg9 arg10 (harg4.unread x1) (harg5.unread x2) (harg6.unread x3) (staged arg3 harg3 arg8 x0) rfl rfl rfl rfl ?_
  refine loops_of (F := F) c i arg3 harg3 arg4 harg4 arg5 harg5 arg6 harg6 arg7 harg7 arg8 harg8 arg9 harg9 arg10 harg10
    (harg4.unread x1) (harg5.unread x2) (harg6.unread x3) (staged arg3 harg3 arg8 x0) rfl rfl ?_
  iterate 16 refine round_cons (F := F) arg4 arg5 arg6 arg8 arg9 arg10 (harg4.unread x1) (harg5.unread x2) (harg6.unread x3) (staged arg3 harg3 arg8 x0) rfl rfl rfl rfl ?_
  rfl

end Cert.KernelIdeal.Tile
-- ==== Proof.CaseC.lean ====
/-
  The body's stores into its results in case C, as rounds over the chains.
-/
module

public import proofs.«01_k».proof.Proof.Cases

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

variable (c : Dev nD) (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg7 : Memref sig .tc .vmem S4x256x256 .bf16) (harg7 : arg7.IsWhole)
  (arg8 : Memref sig .tc .vmem S16x256x256 .bf16) (harg8 : arg8.IsWhole)
  (arg9 : Memref sig .tc .vmem S16x64x256 .f32) (harg9 : arg9.IsWhole)
  (arg10 : Memref sig .tc .vmem S16x1x256 .f32) (harg10 : arg10.IsWhole)

variable (x0 : Vec F S4x1x256x256 .bf16) (x1 : Vec F S4x4096x256 .bf16) (x2 : Vec F S4x16x256x256 .bf16) (x3 : Vec F S256x256 .bf16)

set_option maxHeartbeats 8000000 in
/-- Case C: the tail of two. -/
theorem run_C (hc0 : cond0_0 i) (hc1 : ¬cond0_1 i) :
      (kernelRun0_C c i arg3 harg3 arg4 harg4 arg5 harg5 arg6 harg6 arg7 harg7 arg8 harg8 arg9 harg9 arg10 harg10 hc0 hc1
        x0 x1 x2 x3).1
      = results arg9 (tail arg3 harg3 arg4 harg4 arg5 harg5 arg6 harg6 arg8 arg9 arg10 x0 x1 x2 x3 [blk2 i hc0 0, blk2 i hc0 1] (full i arg3 harg3 arg4 harg4 arg5 harg5 arg6 harg6 arg8 arg9 arg10 x0 x1 x2 x3)) := by
  unfold kernelRun0_C
  refine results_of arg9 (round_cons (F := F) arg4 arg5 arg6 arg8 arg9 arg10 (harg4.unread x1) (harg5.unread x2) (harg6.unread x3) (staged arg3 harg3 arg8 x0) rfl rfl rfl rfl ?_)
  iterate 15 refine round_cons (F := F) arg4 arg5 arg6 arg8 arg9 arg10 (harg4.unread x1) (harg5.unread x2) (harg6.unread x3) (staged arg3 harg3 arg8 x0) rfl rfl rfl rfl ?_
  refine loops_of (F := F) c i arg3 harg3 arg4 harg4 arg5 harg5 arg6 harg6 arg7 harg7 arg8 harg8 arg9 harg9 arg10 harg10
    (harg4.unread x1) (harg5.unread x2) (harg6.unread x3) (staged arg3 harg3 arg8 x0) rfl rfl ?_
  iterate 16 refine round_cons (F := F) arg4 arg5 arg6 arg8 arg9 arg10 (harg4.unread x1) (harg5.unread x2) (harg6.unread x3) (staged arg3 harg3 arg8 x0) rfl rfl rfl rfl ?_
  rfl

end Cert.KernelIdeal.Tile
-- ==== Proof.CaseD.lean ====
/-
  The body's stores into its results in case D, as rounds over the chains.
-/
module

public import proofs.«01_k».proof.Proof.Cases

@[expose] public section

set_option maxRecDepth 16384

noncomputable section

namespace Cert.KernelIdeal.Tile

open Idealize.ShloMosaic Idealize.ShloMosaic.TcCoe Idealize.SL.Sem Cert.KernelIdeal.Gen

variable {F : FTy → Type} [FloatOps F] [Named F]

variable (c : Dev nD) (i : grid0.Coords)
  (arg3 : Memref sig .tc .vmem S4x1x256x256 .bf16) (harg3 : arg3.IsWhole)
  (arg4 : Memref sig .tc .vmem S4x4096x256 .bf16) (harg4 : arg4.IsWhole)
  (arg5 : Memref sig .tc .vmem S4x16x256x256 .bf16) (harg5 : arg5.IsWhole)
  (arg6 : Memref sig .tc .vmem S256x256 .bf16) (harg6 : arg6.IsWhole)
  (arg7 : Memref sig .tc .vmem S4x256x256 .bf16) (harg7 : arg7.IsWhole)
  (arg8 : Memref sig .tc .vmem S16x256x256 .bf16) (harg8 : arg8.IsWhole)
  (arg9 : Memref sig .tc .vmem S16x64x256 .f32) (harg9 : arg9.IsWhole)
  (arg10 : Memref sig .tc .vmem S16x1x256 .f32) (harg10 : arg10.IsWhole)

variable (x0 : Vec F S4x1x256x256 .bf16) (x1 : Vec F S4x4096x256 .bf16) (x2 : Vec F S4x16x256x256 .bf16) (x3 : Vec F S256x256 .bf16)

set_option maxHeartbeats 8000000 in
/-- Case D: both tails. -/
theorem run_D (hc0 : cond0_0 i) (hc1 : cond0_1 i) :
      (kernelRun0_D c i arg3 harg3 arg4 harg4 arg5 harg5 arg6 harg6 arg7 harg7 arg8 harg8 arg9 harg9 arg10 harg10 hc0 hc1
        x0 x1 x2 x3).1
      = results arg9 (tail arg3 harg3 arg4 harg4 arg5 harg5 arg6 harg6 arg8 arg9 arg10 x0 x1 x2 x3 [blk1 i hc1] (tail arg3 harg3 arg4 harg4 arg5 harg5 arg6 harg6 arg8 arg9 arg10 x0 x1 x2 x3 [blk2 i hc0 0, blk2 i hc0 1] (full i arg3 harg3 arg4 harg4 arg5 harg5 arg6 harg6 arg8 arg9 arg10 x0 x1 x2 x3))) := by
  unfold kernelRun0_D
  refine results_of arg9 (round_cons (F := F) arg4 arg5 arg6 arg8 arg9 arg10 (harg4.unread x1) (harg5.unread x2) (harg6.unread x3) (staged arg3 harg3 arg8 x0) rfl rfl rfl rfl ?_)
  iterate 15 refine round_cons (F := F) arg4 arg5 arg6 arg8 arg9 arg10 (harg4.unread x1) (harg5.unread x2) (harg6.unread x3) (staged arg3 harg3 arg8 x0) rfl rfl rfl rfl ?_
  iterate 16 refine round_cons (F := F) arg4 arg5 arg6 arg8 arg9 arg10 (harg4.unread x1) (harg5.unread x2) (harg6.unread x3) (staged arg3 harg3 arg8 x0) rfl rfl rfl rfl ?_
  refine loops_of (F := F) c i arg3 harg3 arg4 harg4 arg5 harg5 arg6 harg6 arg7 harg7 arg8 harg8 arg9 harg9 arg10 harg10
    (harg4.unread x1) (harg5.unread x2) (harg6.unread x3) (staged arg3 harg3 arg8 x0) rfl rfl ?_
  iterate 16 refine round_cons (F := F) arg4 arg5 arg6 arg8 arg9 arg10 (harg4.unread x1) (harg5.unread x2) (harg6.unread x3) (staged arg3 harg3 arg8 x0) rfl rfl rfl rfl ?_
  rfl

end Cert.KernelIdeal.Tile
-- ==== Proof.Result.lean ====
/-
  What a grid point writes back: the attention of its heads and queries.
-/
module

public import proofs.«01_k».proof.Proof.Inputs
public import proofs.«01_k».proof.Proof.Ones
public import proofs.«01_k».proof.Proof.Blocks
public import proofs.«01_k».proof.Proof.CaseA
public import proofs.«01_k».proof.Proof.CaseB
public import proofs.«01_k».proof.Proof.CaseC
public import proofs.«01_k».proof.Proof.CaseD
public import proofs.«01_k».proof.Proof.Gen.KernelIdeal.Value

@[expose] public section

set_option maxRecDepth 16384

noncomputable section

namespace Cert.KernelIdeal.Tile

open Cert.KernelIdeal Cert.KernelIdeal.Gen Idealize.ShloMosaic Idealize.ShloMosaic.TcCoe Idealize.SL.Sem Cert.Stick
open Cert.KernelIdeal.Blocks

/-- The result window after the stores of the chains before `n`, at a row of one of them. -/
theorem read_pcO {ki : Kind} {sp : Space} (w : View sig ki sp S4x256x256 .bf16) (f : w.ty.Contents (Elt Ideal))
    (g : ℕ → FVec Ideal S1x64x256 .bf16) (c : ℕ) (b : Fin 4) (r j : Fin 256) (d : Fin 64) (hb : b.val = c / 4) (hr : r.val = 64 * (c % 4) + d.val) :
    ∀ n, c < n → n ≤ 16 → w.read (Elt Ideal) (w.writes (Elt Ideal) f (pcO g n)) (ix3 b r j) = g c (ix3 0 d j)
  | 0, h, _ => absurd h (Nat.not_lt_zero _)
  | n + 1, h, hn => by
    have hd := d.isLt
    unfold pcO
    by_cases e : c = n
    · subst e
      refine View.read_writes_cons_unit_of_mem w f _ (g c) _ _ (ix3 0 d j) rfl fun a => ?_
      match a with
      | ⟨0, _⟩ => show b.val = c / 4 % 4 + 0; omega
      | ⟨1, _⟩ => show r.val = 64 * (c % 4) + d.val; omega
      | ⟨2, _⟩ => show j.val = 0 + j.val; omega
    · refine Eq.trans ?_ (read_pcO w f g c b r j d hb hr n (by omega) (by omega))
      by_cases hc : c / 4 = n / 4
      · refine View.read_writes_cons_unit_of_not_mem w f _ (g n) _ _ rfl 1 ?_
        show r.val < 64 * (n % 4) ∨ 64 * (n % 4) + 64 ≤ r.val
        omega
      · refine View.read_writes_cons_unit_of_not_mem w f _ (g n) _ _ rfl 0 ?_
        show b.val < n / 4 % 4 ∨ n / 4 % 4 + 1 ≤ b.val
        omega

/-- The result window, when every chain holds its whole attention. -/
theorem read_results {ki : Kind} {sp : Space} (w : View sig ki sp S4x256x256 .bf16) (f : w.ty.Contents (Elt Ideal))
    (arg9 : Memref sig .tc .vmem S16x64x256 .f32) (arg10 : Memref sig .tc .vmem S16x1x256 .f32)
    {z v : ℕ → ℕ → ℕ → EReal} {q : ℕ} {L : Log Ideal} (h : Good arg9 arg10 z v q 0 L) (b h' : Fin 4) (d : Fin 64) (r j : Fin 256)
    (hr : r.val = 64 * h'.val + d.val) :
    w.read (Elt Ideal) (w.writes (Elt Ideal) f (results arg9 L)) (ix3 b r j)
      = attn (z (4 * b.val + h'.val)) (v (4 * b.val + h'.val)) d.val (256 * q + j.val) := by
  have hb := b.isLt
  have hh := h'.isLt
  unfold results
  rw [read_pcO w f _ (4 * b.val + h'.val) b r j d (by omega) (by omega) 16 (by omega) le_rfl]
  have e : ∀ a : Vec Ideal S1x64x256 .f32, stO a (ix3 0 d j) = shapeCast S64x256 a shapeCasts_S1x64x256_S64x256 (ix2 d j) := by
    intro a
    pointwise [stO]
  rw [e]
  exact (h _ (by omega)).part d j

/-- The head of a chain at a grid point. -/
def headOf (t : Fin cfg0.N) (c : ℕ) : Fin 16 := ⟨(4 * (t.val / 16) + c % 4) % 16, Nat.mod_lt _ (by omega)⟩

theorem row_sub (t : Fin cfg0.N) (c : ℕ) (e : Fin 64) : rowAt t (sub c e) = row (headOf t c) e := by
  have := t.isLt
  have := N_eq
  refine Fin.ext ?_
  show 256 * (t.val / 16) + (64 * (c % 4) + e.val) = 64 * ((4 * (t.val / 16) + c % 4) % 16) + e.val
  omega

variable (m : (ℓ : Loc nD τ sig) → Buf (Elt Ideal) ℓ)

/-- The logits of a chain at a grid point. -/
def zOf (c : Dev nD) (t : Fin cfg0.N) (n : ℕ) : ℕ → ℕ → EReal :=
  logit (m ((c : Thread nD τ).loc main_arg0)) (m ((c : Thread nD τ).loc main_arg1)) (bat n) (headOf t n)
/-- The values of a chain at a grid point. -/
def vOf (c : Dev nD) (t : Fin cfg0.N) (n : ℕ) : ℕ → ℕ → EReal :=
  val (m ((c : Thread nD τ).loc main_arg2)) (bat n) (headOf t n)

/-- The tiles of a grid point read the logits and values of its chains. -/
theorem operands_at (c : Dev nD) (t : Fin cfg0.N)
    (arg3 : Memref sig .tc .vmem S4x1x256x256 .bf16) (harg3 : arg3.IsWhole)
    (arg4 : Memref sig .tc .vmem S4x4096x256 .bf16) (harg4 : arg4.IsWhole)
    (arg5 : Memref sig .tc .vmem S4x16x256x256 .bf16) (harg5 : arg5.IsWhole)
    (arg6 : Memref sig .tc .vmem S256x256 .bf16) (harg6 : arg6.IsWhole)
    (arg8 : Memref sig .tc .vmem S16x256x256 .bf16) :
    Operands arg4 arg5 arg6 arg8 (harg4.unread (iblk m c 1 t)) (harg5.unread (iblk m c 2 t)) (harg6.unread (iblk m c 3 t))
      (staged arg3 harg3 arg8 (iblk m c 0 t)) (zOf m c t) (vOf m c t) (grid0.coords t 2).val := by
  have ht : t.val < 64 := t.isLt
  have hq := (coords_eq t).2
  refine operands arg3 harg3 arg4 harg4 arg5 harg5 arg6 harg6 arg8 (iblk m c 0 t) (iblk m c 1 t) (iblk m c 2 t) (iblk m c 3 t)
    (grid0.coords t 2).val (zOf m c t) (vOf m c t) (fun a b => ?_) (fun n hn s j hs => ?_) (fun n hn d s hs => ?_) at_lt
  · rw [iblk3_apply, ones_apply]
  · unfold zOf logit
    refine Finset.sum_congr (M := EReal) rfl fun e _ => ?_
    have hj := j.isLt
    have e1 : blk (256 * (grid0.coords t 2).val + j.val) = ⟨t.val % 16, Nat.mod_lt _ (by omega)⟩ := Fin.ext (by
      show (256 * (grid0.coords t 2).val + j.val) / 256 % 16 = t.val % 16
      omega)
    have e2 : plc (256 * (grid0.coords t 2).val + j.val) = j := Fin.ext (by
      show (256 * (grid0.coords t 2).val + j.val) % 256 = j.val
      omega)
    rw [iblk0_apply, iblk1_apply, row_sub, e1, e2]
  · unfold vOf val
    rw [iblk2_apply, row_sub]
    have hd : (⟨d.val % 64, Nat.mod_lt _ (by omega)⟩ : Fin 64) = d := Fin.ext (Nat.mod_eq_of_lt d.isLt)
    rw [hd]

/-- The whole result: the attention of the arguments. -/
def attention (c : Dev nD) : Vec Ideal S4x1024x4096 .bf16 := fun i =>
  result (m ((c : Thread nD τ).loc main_arg0)) (m ((c : Thread nD τ).loc main_arg1)) (m ((c : Thread nD τ).loc main_arg2))
    (i 0) ⟨(i 1).val / 64 % 16, Nat.mod_lt _ (by omega)⟩ ⟨(i 1).val % 64, Nat.mod_lt _ (by omega)⟩ (i 2)

/-- An index of a grid point's result window, in the array. -/
theorem window_apply (G : Vec Ideal S4x1024x4096 .bf16) (t : Fin cfg0.N) (b : Fin 4) (r j : Fin 256) :
    (((cfg0.win 4).blk t).view.read (Elt Ideal) G : Vec Ideal S4x256x256 .bf16) (ix3 b r j)
      = G (ix3 b (rowAt t r) (pos (256 * (t.val % 16) + j.val))) := by
  obtain ⟨h0, h1, h2⟩ := index4 t
  rw [View.read_apply]
  show G _ = G _
  congr 1
  funext a
  refine Fin.ext ?_
  have hj := j.isLt
  match a with
  | ⟨0, _⟩ => show win0_4.index t 0 * 4 + 1 * b.val = b.val; rw [h0]; omega
  | ⟨1, _⟩ => show win0_4.index t 1 * 256 + 1 * r.val = 256 * (t.val / 16) + r.val; rw [h1]; omega
  | ⟨2, _⟩ => show win0_4.index t 2 * 256 + 1 * j.val = (256 * (t.val % 16) + j.val) % 4096; rw [h2]; omega

/-- Stores of whole attentions read back as the block of the result. -/
theorem block_eq (c : Dev nD) (t : Fin cfg0.N) (arg9 : Memref sig .tc .vmem S16x64x256 .f32) (arg10 : Memref sig .tc .vmem S16x1x256 .f32)
    {L : Log Ideal} (h : Good arg9 arg10 (zOf m c t) (vOf m c t) (grid0.coords t 2).val 0 L) :
    VO0_4.read (Elt Ideal) (VO0_4.writes (Elt Ideal) VO0_4.junk (results arg9 L))
      = (((cfg0.win 4).blk t).view.read (Elt Ideal) (attention m c) : Vec Ideal S4x256x256 .bf16) := by
  funext i
  idx_vars i
  rw [window_apply]
  have hr := i1.isLt
  have hj := i2.isLt
  have hb := i0.isLt
  have ht : t.val < 64 := t.isLt
  rw [read_results VO0_4 _ arg9 arg10 h i0 ⟨i1.val / 64, by omega⟩ ⟨i1.val % 64, by omega⟩ i1 i2 (by show i1.val = 64 * (i1.val / 64) + i1.val % 64; omega)]
  unfold attention result zOf vOf
  have e1 : bat (4 * i0.val + i1.val / 64) = i0 := Fin.ext (by show (4 * i0.val + i1.val / 64) / 4 % 4 = i0.val; omega)
  have e2 : headOf t (4 * i0.val + i1.val / 64) = ⟨(256 * (t.val / 16) + i1.val) / 64 % 16, Nat.mod_lt _ (by omega)⟩ := Fin.ext (by
    show (4 * (t.val / 16) + (4 * i0.val + i1.val / 64) % 4) % 16 = (256 * (t.val / 16) + i1.val) / 64 % 16
    omega)
  have e3 : i1.val % 64 = (256 * (t.val / 16) + i1.val) % 64 := by omega
  have e4 : 256 * (grid0.coords t 2).val + i2.val = (256 * (t.val % 16) + i2.val) % 4096 := by
    rw [(coords_eq t).2]; omega
  dsimp only
  rw [e1, e2, e3, e4]
  rfl

/-- What a grid point writes back is the block of the attention. -/
theorem flushed_eq (c : Dev nD) (t : Fin cfg0.N) :
    (dats m 0 c).flushed 4 t = ((cfg0.win 4).blk t).view.read (Elt Ideal) (attention m c) := by
  by_cases h0 : t.val % 4 = 2 ∨ t.val % 4 = 3 <;> by_cases h1 : t.val % 2 = 1
  · rw [Value.flushed4_D m c t h0 h1]
    unfold out0_D_4
    rw [run_D]
    exact block_eq m c t _ _ (good_D _ _ _ _ _ _ _ _ _ _ _ _ _ _ _ _ (operands_at m c t _ _ _ _ _ _ _ _ _) _ _)
  · rw [Value.flushed4_C m c t h0 h1]
    unfold out0_C_4
    rw [run_C]
    exact block_eq m c t _ _ (good_C _ _ _ _ _ _ _ _ _ _ _ _ _ _ _ _ (operands_at m c t _ _ _ _ _ _ _ _ _) _ (fun h => h1 ((hcond0_1 t).mp h)))
  · rw [Value.flushed4_B m c t h0 h1]
    unfold out0_B_4
    rw [run_B]
    exact block_eq m c t _ _ (good_B _ _ _ _ _ _ _ _ _ _ _ _ _ _ _ _ (operands_at m c t _ _ _ _ _ _ _ _ _) (fun h => h0 ((hcond0_0 t).mp h)) _)
  · rw [Value.flushed4_A m c t h0 h1]
    unfold out0_A_4
    rw [run_A]
    exact block_eq m c t _ _ (good_A _ _ _ _ _ _ _ _ _ _ _ _ _ _ _ _ (operands_at m c t _ _ _ _ _ _ _ _ _) (fun h => h0 ((hcond0_0 t).mp h)) (fun h => h1 ((hcond0_1 t).mp h)))

/-- Every index of the result lies in some grid point's block. -/
theorem covered (i : S4x1024x4096.Idx) :
    ∃ t : Fin cfg0.N, (cfg0.win 4).flush t = true ∧ i ∈ ((cfg0.win 4).blk t).view.set := by
  have i0 : (i 0).val < 4 := (i 0).isLt
  have i1 : (i 1).val < 1024 := (i 1).isLt
  have i2 : (i 2).val < 4096 := (i 2).isLt
  let t : Fin cfg0.N := ⟨16 * ((i 1).val / 256) + (i 2).val / 256, by rw [N_eq]; omega⟩
  have tv : t.val = 16 * ((i 1).val / 256) + (i 2).val / 256 := rfl
  obtain ⟨h0, h1, h2⟩ := index4 t
  refine ⟨t, flush0_4 t, ?_⟩
  show i ∈ ((View.whole main_v0).slice (win0_4.rect t)).set
  rw [View.set_slice_whole, Rect.mem_set_unit]
  intro a
  match a with
  | ⟨0, _⟩ =>
    show win0_4.index t 0 * 4 ≤ (i 0).val ∧ (i 0).val < win0_4.index t 0 * 4 + 4
    rw [h0]; omega
  | ⟨1, _⟩ =>
    show win0_4.index t 1 * 256 ≤ (i 1).val ∧ (i 1).val < win0_4.index t 1 * 256 + 256
    rw [h1]; omega
  | ⟨2, _⟩ =>
    show win0_4.index t 2 * 256 ≤ (i 2).val ∧ (i 2).val < win0_4.index t 2 * 256 + 256
    rw [h2]; omega

/-- The result array ends holding the attention of the arguments. -/
theorem final (c : Dev nD) : (dats m 0 c).arrAt 4 cfg0.N = attention m c :=
  (dats m 0 c).arrAt_eq_of_cover 4 (attention m c) (fun t _ => flushed_eq m c t) covered

end Cert.KernelIdeal.Tile
-- ==== Proof.Window.lean ====
/-
  The running sum from the right along the last of four axes, as jax's `cumsum(reverse=True)` prints it, read at an
  entry. Nothing here names a program.
-/
module

public import Idealize.ShloMosaic.Lib.Pointwise

@[expose] public section

noncomputable section

namespace Cert.Stick

open Idealize.ShloMosaic

theorem foldl_add_finRange {n : ℕ} (g : Fin n → EReal) (a : EReal) :
    (List.finRange n).foldl (fun r i => r + g i) a = a + ∑ i, g i := by
  have key : ∀ (l : List (Fin n)) (a : EReal), l.foldl (fun r i => r + g i) a = a + (l.map g).sum := by
    intro l
    induction l with
    | nil => simp
    | cons b l ih => intro a; simp [ih, add_assoc]
  rw [key, ← List.ofFn_eq_map, List.sum_ofFn]

/-- The host's window sum with a window as long as the last axis, padded on the right: entry `(a, b, c, s)` is the sum of
    the entries `(a, b, c, j)` with `s ≤ j`. -/
theorem windowSum_right {A B C N : ℕ} (hi : Fin 4 → ℕ)
    (x : (⟨4, ![A, B, C, N]⟩ : Shape).Idx → EReal)
    (h : (⟨4, ![A, B, C, N]⟩ : Shape).ReduceWindows ![1, 1, 1, N] ![1, 1, 1, 1] ![0, 0, 0, 0] hi ⟨4, ![A, B, C, N]⟩)
    (a : Fin A) (b : Fin B) (c : Fin C) (s : Fin N) (g : ℕ → EReal) (hg : ∀ j : Fin N, x (ix4 a b c j) = g j) :
    Ideal.hostReduceWindowAdd ![1, 1, 1, N] ![1, 1, 1, 1] ![0, 0, 0, 0] hi h x 0 (ix4 a b c s)
      = ∑ j ∈ Finset.Ico s.val N, g j := by
  let W : Shape := ⟨4, ![1, 1, 1, N]⟩
  have key : ∀ i : W.Idx, (i 0).val = 0 ∧ (i 1).val = 0 ∧ (i 2).val = 0 := fun i =>
    ⟨Nat.lt_one_iff.1 (i 0).isLt, Nat.lt_one_iff.1 (i 1).isLt, Nat.lt_one_iff.1 (i 2).isLt⟩
  let e : Fin N ≃ W.Idx :=
    { toFun := fun k => ix4 (0 : Fin 1) (0 : Fin 1) (0 : Fin 1) k
      invFun := fun i => i 3
      right_inv := fun i => by
        obtain ⟨h0, h1, h2⟩ := key i
        funext q
        match q with
        | ⟨0, _⟩ => exact Fin.ext h0.symm
        | ⟨1, _⟩ => exact Fin.ext h1.symm
        | ⟨2, _⟩ => exact Fin.ext h2.symm
        | ⟨3, _⟩ => rfl
      left_inv := fun k => rfl }
  unfold Ideal.hostReduceWindowAdd Host.reduceWindow
  refine (foldl_add_finRange _ _).trans ?_
  rw [zero_add]
  have hs := s.isLt
  refine (Finset.sum_congr rfl fun n _ => (?_ : _ = (fun i : W.Idx => if s.val + (i 3).val < N then g (s.val + (i 3).val) else 0) (W.rowMajor.symm n))).trans ?_
  · obtain ⟨h0, h1, h2⟩ := key (W.rowMajor.symm n)
    change _ = if s.val + (W.rowMajor.symm n 3).val < N then g (s.val + (W.rowMajor.symm n 3).val) else 0
    split
    · next hin =>
      have h3 := (hin 3).2
      change s.val * 1 + (W.rowMajor.symm n 3).val - 0 < N at h3
      rw [if_pos (by omega)]
      refine Eq.trans (congrArg x (funext fun q => Fin.ext ?_)) (hg ⟨s.val + (W.rowMajor.symm n 3).val, by omega⟩)
      match q with
      | ⟨0, _⟩ => show a.val * 1 + (W.rowMajor.symm n 0).val - 0 = a.val; omega
      | ⟨1, _⟩ => show b.val * 1 + (W.rowMajor.symm n 1).val - 0 = b.val; omega
      | ⟨2, _⟩ => show c.val * 1 + (W.rowMajor.symm n 2).val - 0 = c.val; omega
      | ⟨3, _⟩ => show s.val * 1 + (W.rowMajor.symm n 3).val - 0 = s.val + (W.rowMajor.symm n 3).val; omega
    · next hin =>
      rw [if_neg]
      intro hlt
      refine hin fun q => ⟨?_, ?_⟩
      · match q with
        | ⟨0, _⟩ => exact Nat.zero_le _
        | ⟨1, _⟩ => exact Nat.zero_le _
        | ⟨2, _⟩ => exact Nat.zero_le _
        | ⟨3, _⟩ => exact Nat.zero_le _
      · have := a.isLt; have := b.isLt; have := c.isLt
        match q with
        | ⟨0, _⟩ => show a.val * 1 + (W.rowMajor.symm n 0).val - 0 < A; omega
        | ⟨1, _⟩ => show b.val * 1 + (W.rowMajor.symm n 1).val - 0 < B; omega
        | ⟨2, _⟩ => show c.val * 1 + (W.rowMajor.symm n 2).val - 0 < C; omega
        | ⟨3, _⟩ => show s.val * 1 + (W.rowMajor.symm n 3).val - 0 < N; omega
  rw [Equiv.sum_comp W.rowMajor.symm (fun i : W.Idx => if s.val + (i 3).val < N then g (s.val + (i 3).val) else 0), ← Equiv.sum_comp e]
  show ∑ k : Fin N, (if s.val + k.val < N then g (s.val + k.val) else 0) = _
  rw [Fin.sum_univ_eq_sum_range (fun k => if s.val + k < N then g (s.val + k) else 0) N, ← Finset.sum_filter,
    Finset.sum_Ico_eq_sum_range]
  refine Finset.sum_congr (Finset.ext fun k => ?_) fun _ _ => rfl
  simp only [Finset.mem_filter, Finset.mem_range]
  omega

end Cert.Stick
-- ==== Proof.RefValue.lean ====
/-
  The reference's result, read at an index: it is the stick-breaking attention of Proof/Stick.lean.
-/
module

public import proofs.«01_k».proof.Proof.Gen.ReferenceIdeal.Run
public import proofs.«01_k».proof.Proof.Spec
public import proofs.«01_k».proof.Proof.Window
public import Idealize.ShloMosaic.Lib.IdealHost
public import Idealize.ShloMosaic.Lib.WordCmp

@[expose] public section

noncomputable section

namespace Cert.ReferenceIdeal.Value

open Cert.ReferenceIdeal Cert.ReferenceIdeal.Gen Idealize.ShloMosaic Cert.Stick

/-- The reference's queries (and values) by batch, head, position, feature. -/
def heads (x : FVec Ideal S4x16x1024x256 .bf16) : FVec Ideal S4x16x4096x64 .f32 :=
  transpose S4x16x4096x64 [0, 2, 1, 3] (shapeCast S4x4096x16x64 (shapeCast S4x4096x1024 (transpose S4x16x256x1024 [0, 1, 3, 2] (extf .f32 x bitsLt_bf16_f32) transposes_S4x16x1024x256_S4x16x256x1024_0_1_3_2) shapeCasts_S4x16x256x1024_S4x4096x1024) shapeCasts_S4x4096x1024_S4x4096x16x64) transposes_S4x4096x16x64_S4x16x4096x64_0_2_1_3

/-- The reference's keys by batch, head, position, feature. -/
def keys (x : FVec Ideal S4x4096x1024 .bf16) : FVec Ideal S4x16x4096x64 .f32 :=
  transpose S4x16x4096x64 [0, 2, 1, 3] (shapeCast S4x4096x16x64 (extf .f32 x bitsLt_bf16_f32) shapeCasts_S4x4096x1024_S4x4096x16x64) transposes_S4x4096x16x64_S4x16x4096x64_0_2_1_3

/-- The reference's logits. -/
def logits (q k : FVec Ideal S4x16x4096x64 .f32) : FVec Ideal S4x16x4096x4096 .f32 :=
  mulf (Host.dotGeneral dot_S4x16x4096x64_S4x16x4096x64_S4x16x4096x4096_3_3_2_2_01_01 none q k) (broadcastInDim S4x16x4096x4096 ![] bcast_S_S4x16x4096x4096 (id (Host.log (constant S_ .f32 0x40000000#32))))

/-- The reference's scalar zero at every index. -/
def zeros : FVec Ideal S4x16x4096x4096 .f32 := broadcastInDim S4x16x4096x4096 ![] bcast_S_S4x16x4096x4096 (constant S_ .f32 0x00000000#32)

/-- The reference's softplus. -/
def splus (x : FVec Ideal S4x16x4096x4096 .f32) : FVec Ideal S4x16x4096x4096 .f32 :=
  select (cmpf .une (subf x zeros) (subf x zeros)) (addf x zeros) (addf (maximumf x zeros) (Host.log1p (Host.exp (Host.negf (Host.absf (subf x zeros))))))

/-- The reference's log of the sigmoid. -/
def logSigmoid (x : FVec Ideal S4x16x4096x4096 .f32) : FVec Ideal S4x16x4096x4096 .f32 :=
  Host.negf (splus (Host.negf x))

/-- The reference's mask of the keys before a query. -/
def past : IVec S4x16x4096x4096 1 :=
  broadcastInDim S4x16x4096x4096 ![2, 3] bcast_S4096x4096_S4x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The reference's logs of what a key leaves over. -/
def left (z : FVec Ideal S4x16x4096x4096 .f32) : FVec Ideal S4x16x4096x4096 .f32 :=
  select past (logSigmoid (Host.negf z)) zeros

/-- Their running sums from the right. -/
def sums (l : FVec Ideal S4x16x4096x4096 .f32) : FVec Ideal S4x16x4096x4096 .f32 :=
  Host.reduceWindowAdd ![1, 1, 1, 4096] ![1, 1, 1, 1] ![0, 0, 0, 0] ![0, 0, 0, 4095] l (broadcastInDim S_ ![] bcast_S_S_ (constant S_ .f32 0x00000000#32)) reduceWindows_S4x16x4096x4096_S4x16x4096x4096_w1s1p0_0_w1s1p0_0_w1s1p0_0_w4096s1p0_4095 h_S_

/-- The reference's weights. -/
def weights (z : FVec Ideal S4x16x4096x4096 .f32) : FVec Ideal S4x16x4096x4096 .f32 :=
  select past (Host.exp (subf (addf (logSigmoid z) (sums (left z))) (left z))) zeros

/-- The reference's result. -/
def out (w : FVec Ideal S4x16x4096x4096 .f32) (v : FVec Ideal S4x16x4096x64 .f32) : FVec Ideal S4x1024x4096 .bf16 :=
  truncf .bf16 (shapeCast S4x1024x4096 (transpose S4x16x64x4096 [0, 1, 3, 2] (Host.dotGeneral dot_S4x16x4096x4096_S4x16x4096x64_S4x16x4096x64_3_2_2_3_01_01 none w v) transposes_S4x16x4096x64_S4x16x64x4096_0_1_3_2) shapeCasts_S4x16x64x4096_S4x1024x4096) bitsLt_bf16_f32

/-- The run's result term is the composition of these. -/
theorem res_eq (m : (ℓ : Loc nD τ sig) → Buf (Elt Ideal) ℓ) (c : Dev nD) :
    res_out0 m c = out (weights (logits (heads (m ((c.tc : Thread nD τ).loc main_arg0))) (keys (m ((c.tc : Thread nD τ).loc main_arg1)))))
      (heads (m ((c.tc : Thread nD τ).loc main_arg2))) := by
  unfold res_out0 res_main_v37 out weights sums left past logSigmoid splus zeros logits heads keys
  rfl

/-- The reference's queries and values, read at an index. -/
theorem heads_apply (x : FVec Ideal S4x16x1024x256 .bf16) (b : Fin 4) (h : Fin 16) (t : Fin 4096) (e : Fin 64) :
    heads x (ix4 b h t e) = x (ix4 b (blk t) (row h e) (plc t)) := by
  pointwise [heads]
  have ht := t.isLt
  congr 2
  · exact Fin.ext (show t.val / 256 = t.val / 256 % 16 by omega)
  · exact Fin.ext (show h.val * 64 + e.val = 64 * h.val + e.val by omega)

/-- The reference's keys, read at an index. -/
theorem keys_apply (x : FVec Ideal S4x4096x1024 .bf16) (b : Fin 4) (h : Fin 16) (s : Fin 4096) (e : Fin 64) :
    keys x (ix4 b h s e) = x (ix3 b (pos s) (row h e)) := by
  pointwise [keys]
  congr 2
  · exact Fin.ext (Nat.mod_eq_of_lt s.isLt).symm
  · exact Fin.ext (show h.val * 64 + e.val = 64 * h.val + e.val by omega)

/-- The exact value of the word of 2.0. -/
theorem ofBits_two_f32 : Ideal.ofBits .f32 0x40000000#32 = ((2 : ℝ) : EReal) := by
  simp [Ideal.ofBits, Ideal.ieee]
  rw [← EReal.coe_mul]; norm_num

/-- The logarithm of the reference's constant is `ln 2`. -/
theorem log_two : Ideal.log (Ideal.ofBits .f32 0x40000000#32) = ln2 := by
  rw [ofBits_two_f32, Ideal.log_coe, if_neg (by norm_num)]; rfl

/-- The reference's logits, read at an index. -/
theorem logits_apply (q k : FVec Ideal S4x16x4096x64 .f32) (b : Fin 4) (h : Fin 16) (s t : Fin 4096) :
    logits q k (ix4 b h t s) = (∑ e : Fin 64, q (ix4 b h t e) * k (ix4 b h s e)) * ln2 := by
  pointwise [logits]
  rw [← log_two]; rfl

/-- The reference's softplus, read at an index. -/
theorem splus_apply (x : FVec Ideal S4x16x4096x4096 .f32) (j : S4x16x4096x4096.Idx) :
    splus x j = softplus (x j) := by
  pointwise [splus, zeros]
  rw [if_neg (fun h => h rfl)]; rfl

/-- The reference's mask, read at an index. -/
theorem past_apply (b : Fin 4) (h : Fin 16) (s t : Fin 4096) :
    past (ix4 b h t s) = BitVec.ofBool (decide (s.val < t.val)) := by
  pointwise [past]
  have hs := s.isLt; have ht := t.isLt
  exact WordCmp.cmpi_slt_ofNat (by omega) (by omega)

/-- A masked value of the reference, read at an index. -/
theorem masked_apply (x : FVec Ideal S4x16x4096x4096 .f32) (b : Fin 4) (h : Fin 16) (s t : Fin 4096) :
    select past x zeros (ix4 b h t s) = if s.val < t.val then x (ix4 b h t s) else 0 := by
  pointwise [zeros]
  rw [past_apply]
  by_cases hst : s.val < t.val <;> simp [hst, Scalar.select]

/-- The reference's result from its weights, read at an index. -/
theorem out_apply (w : FVec Ideal S4x16x4096x4096 .f32) (v : FVec Ideal S4x16x4096x64 .f32) (b : Fin 4) (h : Fin 16) (d : Fin 64) (t : Fin 4096) :
    out w v (ix3 b (row h d) t) = ∑ s : Fin 4096, w (ix4 b h t s) * v (ix4 b h s d) := by
  pointwise [out]
  have hd := d.isLt
  have e1 : ∀ p, (⟨(row h d).val / 64, p⟩ : Fin 16) = h := fun p => Fin.ext (show (64 * h.val + d.val) / 64 = h.val by omega)
  have e2 : ∀ p, (⟨(row h d).val % 64, p⟩ : Fin 64) = d := fun p => Fin.ext (show (64 * h.val + d.val) % 64 = d.val by omega)
  simp only [e1, e2]

section
variable (q : FVec Ideal S4x16x1024x256 .bf16) (k : FVec Ideal S4x4096x1024 .bf16)

/-- The reference's logit at an index is `ln 2` times the two-based logit. -/
theorem logits_eq (b : Fin 4) (h : Fin 16) (s t : Fin 4096) :
    logits (heads q) (keys k) (ix4 b h t s) = logit q k b h s t * ln2 := by
  rw [logits_apply]
  congr 1
  exact Finset.sum_congr rfl fun e _ => by rw [heads_apply, keys_apply]

/-- What the reference leaves over at a key, read at an index. -/
theorem left_apply (b : Fin 4) (h : Fin 16) (s t : Fin 4096) :
    left (logits (heads q) (keys k)) (ix4 b h t s) = if s.val < t.val then -(sp (logit q k b h s t) * ln2) else 0 := by
  unfold left
  rw [masked_apply]
  by_cases hst : s.val < t.val
  · rw [if_pos hst, if_pos hst]
    show -(splus _ (ix4 b h t s)) = _
    rw [splus_apply]
    show -(softplus (- -(logits (heads q) (keys k) (ix4 b h t s)))) = _
    rw [neg_neg, logits_eq, softplus_eq]
  · rw [if_neg hst, if_neg hst]

theorem ln2_nonneg : 0 ≤ ln2 := EReal.coe_nonneg.2 log2_pos.le
theorem ln2_ne_top : ln2 ≠ ⊤ := EReal.coe_ne_top _

/-- The reference's running sum, read at an index before the query: what its key and the later ones leave over. -/
theorem sums_apply (b : Fin 4) (h : Fin 16) (s t : Fin 4096) (hst : s.val < t.val) :
    sums (left (logits (heads q) (keys k))) (ix4 b h t s)
      = -((sp (logit q k b h s t) + ∑ j ∈ Finset.Ico (s.val + 1) t.val, sp (logit q k b h j t)) * ln2) := by
  have h0 : ∀ i : S_.Idx, (broadcastInDim S_ ![] bcast_S_S_ (constant S_ .f32 0x00000000#32) : FVec Ideal S_ .f32) i = 0 := fun i => by
    pointwise
  unfold sums Host.reduceWindowAdd
  rw [Ideal.hostReduceWindowAdd_def, h0]
  refine (windowSum_right (A := 4) (B := 16) (C := 4096) (N := 4096) ![0, 0, 0, 4095] _ _ b h t s (fun j => if j < t.val then -(sp (logit q k b h j t) * ln2) else 0)
    fun j => left_apply q k b h j t).trans ?_
  have ht := t.isLt
  rw [← Finset.sum_filter, ← Finset.sum_eq_sum_Ico_succ_bot (f := fun j => sp (logit q k b h j t)) hst,
    sum_mul_of_nonneg _ _ ln2_nonneg ln2_ne_top, neg_sum _ _ fun j => mul_nonneg (sp_nonneg _) ln2_nonneg]
  refine Finset.sum_congr (Finset.ext fun j => ?_) fun _ _ => rfl
  simp only [Finset.mem_filter, Finset.mem_Ico]
  omega

/-- The reference's weight, read at an index. -/
theorem weights_apply (b : Fin 4) (h : Fin 16) (s t : Fin 4096) :
    weights (logits (heads q) (keys k)) (ix4 b h t s) = weight (logit q k b h) s t := by
  unfold weights weight
  rw [masked_apply]
  by_cases hst : s.val < t.val
  · rw [if_pos hst, if_pos hst]
    show Ideal.exp (-(splus _ (ix4 b h t s)) + sums _ (ix4 b h t s) - left _ (ix4 b h t s)) = _
    rw [splus_apply, sums_apply q k b h s t hst, left_apply, if_pos hst]
    show Ideal.exp (-(softplus (-(logits (heads q) (keys k) (ix4 b h t s)))) + _ - _) = _
    rw [logits_eq, ← softplus_eq, weight_eq _ _ (sum_nonneg' _ _ fun _ _ => sp_nonneg _)]
  · rw [if_neg hst, if_neg hst]

end

/-- The reference's result, read at an index, is the stick-breaking attention of its arguments. -/
theorem res_apply (m : (ℓ : Loc nD τ sig) → Buf (Elt Ideal) ℓ) (c : Dev nD) (b : Fin 4) (h : Fin 16) (d : Fin 64) (t : Fin 4096) :
    (res_out0 m c : FVec Ideal S4x1024x4096 .bf16) (ix3 b (row h d) t)
      = result (m ((c.tc : Thread nD τ).loc main_arg0)) (m ((c.tc : Thread nD τ).loc main_arg1)) (m ((c.tc : Thread nD τ).loc main_arg2)) b h d t := by
  rw [res_eq, out_apply]
  unfold result attn part
  rw [Nat.mul_zero, ← Finset.range_eq_Ico, ← Fin.sum_univ_eq_sum_range (fun s => val _ b h d s * weight _ s t) 4096]
  refine Finset.sum_congr (M := EReal) rfl fun s _ => ?_
  rw [weights_apply, heads_apply, mul_comm]
  have hd : (⟨d.val % 64, Nat.mod_lt _ (by omega)⟩ : Fin 64) = d := Fin.ext (Nat.mod_eq_of_lt d.isLt)
  unfold val
  rw [hd]

end Cert.ReferenceIdeal.Value
-- ==== Proof.Frames.lean ====
/-
  The frames of the three programs and the claim that naming the kernel's two constants is the rule's rewriting.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel runs to the end and leaves its arguments as they were. -/
theorem frame_p : Cert.quiescent_Kernel := fun m ρ _ => Cert.Kernel.Gen.frame m ρ

/-- So does the kernel with its two constants named. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each of the kernel's two named constants is the value its name states. -/
theorem preserves : Cert.preserves_Kernel_KernelIdeal :=
  ⟨IdealRules.named_const.statement Cert.KernelIdeal.κ "clamp" .f32 0x42C80000#32 ⊤ rfl,
   IdealRules.named_const.statement Cert.KernelIdeal.κ "log2e" .f32 0x3FB8AA3B#32 _ rfl⟩

end Cert.Proof

end
-- ==== Proof.Algebra.lean ====
/-
  The kernel and the reference end with the same result: both compute the stick-breaking attention of the arguments.
-/
module

public import proofs.«01_k».proof.Proof.Result
public import proofs.«01_k».proof.Proof.RefValue
public import proofs.«01_k».proof.Proof.Frames

@[expose] public section

set_option maxRecDepth 16384

noncomputable section

namespace Cert.Proof

open Idealize.ShloMosaic Idealize.ShloMosaic.TcCoe Idealize.SL.Sem Cert.Stick

/-- The reference's result is the attention the kernel's blocks make up, of arguments that agree. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Value.res_out0 m' c : FVec Ideal Cert.ReferenceIdeal.S4x1024x4096 .bf16)
      = Cert.KernelIdeal.Tile.attention m c := by
  funext i
  idx_vars i
  have h := i1.isLt
  have e : i1 = row ⟨i1.val / 64 % 16, Nat.mod_lt _ (by omega)⟩ ⟨i1.val % 64, Nat.mod_lt _ (by omega)⟩ := Fin.ext (by
    show i1.val = 64 * (i1.val / 64 % 16) + i1.val % 64
    omega)
  refine (congrArg (fun x => (Cert.ReferenceIdeal.Value.res_out0 m' c : FVec Ideal Cert.ReferenceIdeal.S4x1024x4096 .bf16) (ix3 i0 x i2)) e).trans ?_
  refine (Cert.ReferenceIdeal.Value.res_apply m' c _ _ _ _).trans ?_
  rw [h0, h1, h2]
  rfl

/-- Over the extended reals the kernel and the reference end with equal results, and each leaves its arguments as they
    were. -/
theorem algebraic : Cert.algebraic_KernelIdeal_ReferenceIdeal := by
  intro m ρ m' ρ' _ hagree
  refine ⟨fun c => Cert.KernelIdeal.Tile.attention m c,
    (θ_run Cert.KernelIdeal.defs _ _).mono (fun r h c => ⟨(h c).1.trans (Cert.KernelIdeal.Tile.final m c), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨h0, h1, h2⟩ := hagree c
  exact reference_eq m m' c h0 h1 h2

end Cert.Proof
-- ==== Proof.Frames2.lean ====
/-
  The frames of the projection's three programs and the claim that naming its constant is the rule's rewriting.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

noncomputable section

namespace Cert.Proof

open Idealize.ShloMosaic Idealize.SL.Sem

instance factsK2 : Cert.Kernel2.Facts := Cert.Kernel2.Gen.facts
instance factsKI2 : Cert.Kernel2Ideal.Facts := Cert.Kernel2Ideal.Gen.facts
instance factsRI2 : Cert.Reference2Ideal.Facts := Cert.Reference2Ideal.Gen.facts

/-- The projection runs to the end and leaves its arguments as they were. -/
theorem frame_p2 : Cert.quiescent_Kernel2 := fun m ρ _ => Cert.Kernel2.Gen.frame m ρ

/-- So does the projection with its constant named. -/
theorem frame_pi2 : Cert.quiescent_Kernel2Ideal := fun m ρ _ => Cert.Kernel2Ideal.Gen.frame m ρ

/-- So does its reference. -/
theorem frame_ri2 : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- The projection's named constant is the value its name states. -/
theorem preserves2 : Cert.preserves_Kernel2_Kernel2Ideal :=
  IdealRules.named_const.statement Cert.Kernel2Ideal.κ "qscale" .f32 0x3E38AA3B#32 _ rfl

end Cert.Proof

end
-- ==== Proof.Proj.lean ====
/-
  The projection of the layer's input: what a call's four results are, as sums over the model's width.
-/
module

public import proofs.«01_k».proof.Proof.Spec

@[expose] public section

noncomputable section

namespace Cert.Proj

open Idealize.ShloMosaic Cert.Stick

/-- The weights' array: layer, input feature, output feature (queries, keys, values, gate in a row). -/
abbrev SW : Shape := ⟨3, ![2, 1024, 4096]⟩

/-- Feature `e` of the projection with the first layer's weights at position `s` of batch `b`. -/
def proj (x : SK.Idx → EReal) (w : SW.Idx → EReal) (b : Fin 4) (s e : ℕ) : EReal :=
  ∑ d : Fin 1024, x (ix3 b (pos s) d) * w (ix3 0 d (pos e))

/-- The factor of the queries. -/
def qscale : EReal := (((8 * (Real.log 2))⁻¹ : ℝ) : EReal)

/-- The keys: batch, position, feature. -/
def keysOf (x : SK.Idx → EReal) (w : SW.Idx → EReal) : SK.Idx → EReal :=
  fun i => proj x w (i 0) (i 1).val (1024 + (i 2).val)
/-- The scaled queries: batch, block of positions, feature, place in the block. -/
def queriesOf (x : SK.Idx → EReal) (w : SW.Idx → EReal) : SQ.Idx → EReal :=
  fun i => proj x w (i 0) (256 * (i 1).val + (i 3).val) (i 2).val * qscale
/-- The values, in the queries' order. -/
def valuesOf (x : SK.Idx → EReal) (w : SW.Idx → EReal) : SQ.Idx → EReal :=
  fun i => proj x w (i 0) (256 * (i 1).val + (i 3).val) (2048 + (i 2).val)
/-- The gate: batch, feature, position. -/
def gateOf (x : SK.Idx → EReal) (w : SW.Idx → EReal) : SO.Idx → EReal :=
  fun i => proj x w (i 0) (i 2).val (3072 + (i 1).val)

end Cert.Proj
-- ==== Proof.Body2.lean ====
/-
  What the projection's body stores for a block of positions, read at an index.
-/
module

public import proofs.«01_k».proof.Proof.Gen.Kernel2Ideal.Value
public import proofs.«01_k».proof.Proof.Loads
public import proofs.«01_k».proof.Proof.Proj

@[expose] public section

set_option maxRecDepth 16384

noncomputable section

namespace Cert.Kernel2Ideal.Rows

open Cert.Kernel2Ideal Cert.Kernel2Ideal.Gen Idealize.ShloMosaic Idealize.ShloMosaic.TcCoe Idealize.SL.Sem Cert.Stick Cert.Proj

/-- The scale denotes the queries' factor. -/
theorem qscale_eq : Named.named (F := Ideal) κ "qscale" (φ := .f32) 0x3E38AA3B#32 = qscale :=
  IdealRules.named_const.ideal_named_scalar _ _ _ _ rfl

/-- Feature `e` of a block's projection, for its position `r`. -/
def part (x0 : Vec Ideal S1x512x1024 .f32) (x1 : Vec Ideal S1x1024x4096 .f32) (r : Fin 512) (e : ℕ) : EReal :=
  ∑ d : Fin 1024, x0 (ix3 0 r d) * x1 (ix3 0 d (pos e))

theorem pay3_apply (a : Vec Ideal S1x512x1024 .f32) (b : Vec Ideal S1x1024x1024 .f32) (r : Fin 512) (e : Fin 1024) :
    k0_pay3 a b (ix3 0 r e) = ∑ d : Fin 1024, a (ix3 0 r d) * b (ix3 0 d e) := by
  pointwise [k0_pay3, k0_pay2]

theorem pay4_apply (a : Vec Ideal S1x512x1024 .f32) (b : Vec Ideal S1x1024x1024 .f32) (r : Fin 512) (e : Fin 1024) :
    k0_pay4 a b (ix2 r e) = (∑ d : Fin 1024, a (ix3 0 r d) * b (ix3 0 d e)) * qscale := by
  pointwise [k0_pay4, k0_pay2]
  rw [qscale_eq]

theorem pay5_apply (a : Vec Ideal S1x512x1024 .f32) (b : Vec Ideal S1x1024x1024 .f32) (r : Fin 512) (e : Fin 1024) :
    k0_pay5 a b (ix2 r e) = ∑ d : Fin 1024, a (ix3 0 r d) * b (ix3 0 d e) := by
  pointwise [k0_pay5, k0_pay2]

theorem pay7_apply (a : Vec Ideal S1x512x1024 .f32) (b : Vec Ideal S1x1024x1024 .f32) (r : Fin 512) (e : Fin 1024) :
    k0_pay7 (k0_pay2 a) (k0_pay6 b) (ix2 r e) = ∑ d : Fin 1024, a (ix3 0 r d) * b (ix3 0 d e) := by
  pointwise [k0_pay7, k0_pay6, k0_pay2]

/-- The first 256 positions of a transposed block. -/
theorem pay10_apply (z : Vec Ideal S512x1024 .f32) (e : Fin 1024) (q : Fin 256) :
    k0_pay10 z (ix4 0 0 e q) = z (ix2 ⟨q.val, by have := q.isLt; omega⟩ e) := by
  pointwise [k0_pay10, k0_pay8]

theorem pay11_apply (z : Vec Ideal S512x1024 .f32) (e : Fin 1024) (q : Fin 256) :
    k0_pay11 z (ix4 0 0 e q) = z (ix2 ⟨q.val, by have := q.isLt; omega⟩ e) := by
  pointwise [k0_pay11, k0_pay9]

/-- The last 256 positions of a transposed block. -/
theorem pay12_apply (z : Vec Ideal S512x1024 .f32) (e : Fin 1024) (q : Fin 256) :
    k0_pay12 z (ix4 0 0 e q) = z (ix2 ⟨256 + q.val, by have := q.isLt; omega⟩ e) := by
  pointwise [k0_pay12, k0_pay8]

theorem pay13_apply (z : Vec Ideal S512x1024 .f32) (e : Fin 1024) (q : Fin 256) :
    k0_pay13 z (ix4 0 0 e q) = z (ix2 ⟨256 + q.val, by have := q.isLt; omega⟩ e) := by
  pointwise [k0_pay13, k0_pay9]

theorem pay14_apply (z : Vec Ideal S512x1024 .f32) (e : Fin 1024) (r : Fin 512) : k0_pay14 z (ix2 e r) = z (ix2 r e) := by
  pointwise [k0_pay14]

section
variable (arg2 : Memref sig .tc .vmem S1x512x1024 .f32) (harg2 : arg2.IsWhole) (arg3 : Memref sig .tc .vmem S1x1024x4096 .f32) (harg3 : arg3.IsWhole)
  (x0 : Vec Ideal S1x512x1024 .f32) (x1 : Vec Ideal S1x1024x4096 .f32)

/-- The load of a block of positions. -/
theorem loadX (h : ∀ a, (![0, 0, 0] : Fin 3 → ℕ) a + (![1, 512, 1024] : Fin 3 → ℕ) a ≤ S1x512x1024.size a) (r : Fin 512) (d : Fin 1024) :
    (arg2.view.readAt (Elt Ideal) (Rect.unit (s := S1x512x1024) ![0, 0, 0] ![1, 512, 1024] h).toLoadRect (harg2.unread x0) : Vec Ideal S1x512x1024 .f32) (ix3 0 r d)
      = x0 (ix3 0 r d) := by
  rw [View.readAt_apply, Memref.IsWhole.read_unread]
  congr 1
  funext a
  refine Fin.ext ?_
  match a with
  | ⟨0, _⟩ => rfl
  | ⟨1, _⟩ => show 0 + 1 * r.val = r.val; omega
  | ⟨2, _⟩ => show 0 + 1 * d.val = d.val; omega

/-- The load of 1024 of the weights' columns, from column `off` on. -/
theorem loadW (off : ℕ) (h : ∀ a, (![0, 0, off] : Fin 3 → ℕ) a + (![1, 1024, 1024] : Fin 3 → ℕ) a ≤ S1x1024x4096.size a) (hoff : off ≤ 3072)
    (d e : Fin 1024) :
    (arg3.view.readAt (Elt Ideal) (Rect.unit (s := S1x1024x4096) ![0, 0, off] ![1, 1024, 1024] h).toLoadRect (harg3.unread x1) : Vec Ideal S1x1024x1024 .f32) (ix3 0 d e)
      = x1 (ix3 0 d (pos (off + e.val))) := by
  rw [View.readAt_apply, Memref.IsWhole.read_unread]
  congr 1
  funext a
  refine Fin.ext ?_
  have he := e.isLt
  match a with
  | ⟨0, _⟩ => rfl
  | ⟨1, _⟩ => show 0 + 1 * d.val = d.val; omega
  | ⟨2, _⟩ => show off + 1 * e.val = (off + e.val) % 4096; omega

/-- The product of the two loads is the block's projection, from feature `off` on. -/
theorem part_eq (off : ℕ) (h : ∀ a, (![0, 0, 0] : Fin 3 → ℕ) a + (![1, 512, 1024] : Fin 3 → ℕ) a ≤ S1x512x1024.size a)
    (h' : ∀ a, (![0, 0, off] : Fin 3 → ℕ) a + (![1, 1024, 1024] : Fin 3 → ℕ) a ≤ S1x1024x4096.size a) (hoff : off ≤ 3072) (r : Fin 512) (e : Fin 1024) :
    (∑ d : Fin 1024, (arg2.view.readAt (Elt Ideal) (Rect.unit (s := S1x512x1024) ![0, 0, 0] ![1, 512, 1024] h).toLoadRect (harg2.unread x0) : Vec Ideal S1x512x1024 .f32) (ix3 0 r d)
        * (arg3.view.readAt (Elt Ideal) (Rect.unit (s := S1x1024x4096) ![0, 0, off] ![1, 1024, 1024] h').toLoadRect (harg3.unread x1) : Vec Ideal S1x1024x1024 .f32) (ix3 0 d e) : EReal)
      = part x0 x1 r (off + e.val) :=
  Finset.sum_congr rfl fun d _ => congrArg₂ (fun a b : EReal => a * b) (loadX arg2 harg2 x0 h r d) (loadW arg3 harg3 x1 off h' hoff d e)

end

section
variable (c : Dev nD) (i : grid0.Coords) (arg2 : Memref sig .tc .vmem S1x512x1024 .f32) (harg2 : arg2.IsWhole) (arg3 : Memref sig .tc .vmem S1x1024x4096 .f32) (harg3 : arg3.IsWhole)
  (arg4 : Memref sig .tc .vmem S1x512x1024 .bf16) (harg4 : arg4.IsWhole) (arg5 : Memref sig .tc .vmem S1x2x1024x256 .bf16) (harg5 : arg5.IsWhole)
  (arg6 : Memref sig .tc .vmem S1x2x1024x256 .bf16) (harg6 : arg6.IsWhole) (arg7 : Memref sig .tc .vmem S1x1024x512 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S512x1024 .f32) (harg10 : arg10.IsWhole)
  (x0 : Vec Ideal S1x512x1024 .f32) (x1 : Vec Ideal S1x1024x4096 .f32)

/-- The scratch of the queries holds the block's scaled queries. -/
theorem scratchQ (r : Fin 512) (e : Fin 1024) :
    (kernelRun0_A.sl.v34 c arg2 harg2 arg3 harg3 arg8 x0 x1 : Vec Ideal S512x1024 .f32) (ix2 r e) = part x0 x1 r e.val * qscale := by
  refine (congrFun (readAt_hit (F := Ideal) arg8.view _ _ _ []) _).trans ((pay4_apply _ _ r e).trans ?_)
  refine congrArg (· * qscale) ((part_eq arg2 harg2 arg3 harg3 x0 x1 0 _ inb_S1x1024x4096_S1x1024x1024_0_0_0 (by omega) r e).trans ?_)
  rw [Nat.zero_add]

/-- The scratch of the values holds the block's values. -/
theorem scratchV (r : Fin 512) (e : Fin 1024) :
    (kernelRun0_A.sl.v37 c arg2 harg2 arg3 harg3 arg9 x0 x1 : Vec Ideal S512x1024 .f32) (ix2 r e) = part x0 x1 r (2048 + e.val) := by
  refine (congrFun (readAt_hit (F := Ideal) arg9.view _ _ _ []) _).trans ((pay5_apply _ _ r e).trans ?_)
  exact part_eq arg2 harg2 arg3 harg3 x0 x1 2048 _ inb_S1x1024x4096_S1x1024x1024_0_0_2048 (by omega) r e

/-- The transposed gate. -/
theorem scratchG (r : Fin 512) (e : Fin 1024) :
    (kernelRun0_A.sl.r_2 c arg2 harg2 arg3 harg3 arg10 x0 x1 : Vec Ideal S1024x512 .bf16) (ix2 e r) = part x0 x1 r (3072 + e.val) := by
  unfold kernelRun0_A.sl.r_2
  refine (pay14_apply _ e r).trans ?_
  refine (congrFun (readAt_hit (F := Ideal) arg10.view _ _ _ []) _).trans ((pay7_apply _ _ r e).trans ?_)
  exact part_eq arg2 harg2 arg3 harg3 x0 x1 3072 _ inb_S1x1024x4096_S1x1024x1024_0_0_3072 (by omega) r e

/-- The keys' block. -/
theorem out2_apply (r : Fin 512) (e : Fin 1024) :
    out0_A_2 c i arg2 harg2 arg3 harg3 arg4 harg4 arg5 harg5 arg6 harg6 arg7 harg7 arg8 harg8 arg9 harg9 arg10 harg10 x0 x1 (ix3 0 r e)
      = part x0 x1 r (1024 + e.val) := by
  unfold out0_A_2 kernelRun0_A
  dsimp only
  refine (View.read_writes_cons_unit_of_mem VO0_2 _ _ _ _ (ix3 0 r e) (ix3 0 r e) rfl fun a => ?_).trans ?_
  · match a with
    | ⟨0, _⟩ => rfl
    | ⟨1, _⟩ => exact (Nat.zero_add _).symm
    | ⟨2, _⟩ => exact (Nat.zero_add _).symm
  · refine (pay3_apply _ _ r e).trans ?_
    exact part_eq arg2 harg2 arg3 harg3 x0 x1 1024 _ inb_S1x1024x4096_S1x1024x1024_0_0_1024 (by omega) r e

/-- Two stores of 256 positions read as one transposed block. -/
theorem halves_apply (v : View sig .tc .vmem S1x2x1024x256 .bf16) (f : v.ty.Contents (Elt Ideal))
    (h0 : ∀ a, (![0, 0, 0, 0] : Fin 4 → ℕ) a + (![1, 1, 1024, 256] : Fin 4 → ℕ) a ≤ S1x2x1024x256.size a)
    (h1 : ∀ a, (![0, 1, 0, 0] : Fin 4 → ℕ) a + (![1, 1, 1024, 256] : Fin 4 → ℕ) a ≤ S1x2x1024x256.size a)
    (w0 w1 : Vec Ideal S1x1x1024x256 .bf16) (z : Fin 512 → Fin 1024 → EReal)
    (hw0 : ∀ e q, w0 (ix4 0 0 e q) = z ⟨q.val, by have := q.isLt; omega⟩ e)
    (hw1 : ∀ e q, w1 (ix4 0 0 e q) = z ⟨256 + q.val, by have := q.isLt; omega⟩ e)
    (j : Fin 2) (e : Fin 1024) (q : Fin 256) :
    (v.read (Elt Ideal) (v.writes (Elt Ideal) f [⟨Rect.unit ![0, 1, 0, 0] ![1, 1, 1024, 256] h1, w1⟩, ⟨Rect.unit ![0, 0, 0, 0] ![1, 1, 1024, 256] h0, w0⟩])
        : Vec Ideal S1x2x1024x256 .bf16) (ix4 0 j e q)
      = z ⟨256 * j.val + q.val, by have := q.isLt; have := j.isLt; omega⟩ e := by
  match j with
  | ⟨1, _⟩ =>
    refine (View.read_writes_cons_unit_of_mem v f h1 w1 _ (ix4 0 1 e q) (ix4 0 0 e q) rfl fun a => ?_).trans (hw1 e q)
    match a with
    | ⟨0, _⟩ => rfl
    | ⟨1, _⟩ => rfl
    | ⟨2, _⟩ => exact (Nat.zero_add _).symm
    | ⟨3, _⟩ => exact (Nat.zero_add _).symm
  | ⟨0, _⟩ =>
    refine (View.read_writes_cons_unit_of_not_mem v f h1 w1 _ (ix4 0 0 e q) rfl 1 (Or.inl Nat.one_pos)).trans ?_
    refine (View.read_writes_cons_unit_of_mem v f h0 w0 _ (ix4 0 0 e q) (ix4 0 0 e q) rfl fun a => ?_).trans ((hw0 e q).trans ?_)
    · match a with
      | ⟨0, _⟩ => rfl
      | ⟨1, _⟩ => rfl
      | ⟨2, _⟩ => exact (Nat.zero_add _).symm
      | ⟨3, _⟩ => exact (Nat.zero_add _).symm
    · congr 1
      exact Fin.ext (by show q.val = 256 * 0 + q.val; omega)

/-- The queries' block. -/
theorem out3_apply (j : Fin 2) (e : Fin 1024) (q : Fin 256) :
    out0_A_3 c i arg2 harg2 arg3 harg3 arg4 harg4 arg5 harg5 arg6 harg6 arg7 harg7 arg8 harg8 arg9 harg9 arg10 harg10 x0 x1 (ix4 0 j e q)
      = part x0 x1 ⟨256 * j.val + q.val, by have := q.isLt; have := j.isLt; omega⟩ e.val * qscale := by
  unfold out0_A_3 kernelRun0_A
  dsimp only
  exact halves_apply VO0_3 _ _ _ _ _ (fun r e => part x0 x1 r e.val * qscale)
    (fun e q => (pay10_apply _ e q).trans (scratchQ c arg2 harg2 arg3 harg3 arg8 x0 x1 _ e))
    (fun e q => (pay12_apply _ e q).trans (scratchQ c arg2 harg2 arg3 harg3 arg8 x0 x1 _ e)) j e q

/-- The values' block. -/
theorem out4_apply (j : Fin 2) (e : Fin 1024) (q : Fin 256) :
    out0_A_4 c i arg2 harg2 arg3 harg3 arg4 harg4 arg5 harg5 arg6 harg6 arg7 harg7 arg8 harg8 arg9 harg9 arg10 harg10 x0 x1 (ix4 0 j e q)
      = part x0 x1 ⟨256 * j.val + q.val, by have := q.isLt; have := j.isLt; omega⟩ (2048 + e.val) := by
  unfold out0_A_4 kernelRun0_A
  dsimp only
  exact halves_apply VO0_4 _ _ _ _ _ (fun r e => part x0 x1 r (2048 + e.val))
    (fun e q => (pay11_apply _ e q).trans (scratchV c arg2 harg2 arg3 harg3 arg9 x0 x1 _ e))
    (fun e q => (pay13_apply _ e q).trans (scratchV c arg2 harg2 arg3 harg3 arg9 x0 x1 _ e)) j e q

/-- The gate's block. -/
theorem out5_apply (e : Fin 1024) (r : Fin 512) :
    out0_A_5 c i arg2 harg2 arg3 harg3 arg4 harg4 arg5 harg5 arg6 harg6 arg7 harg7 arg8 harg8 arg9 harg9 arg10 harg10 x0 x1 (ix3 0 e r)
      = part x0 x1 r (3072 + e.val) := by
  unfold out0_A_5 kernelRun0_A
  dsimp only
  refine (View.read_writes_cons_unit_of_mem VO0_5 _ _ _ _ (ix3 0 e r) (ix3 0 e r) rfl fun a => ?_).trans ?_
  · match a with
    | ⟨0, _⟩ => rfl
    | ⟨1, _⟩ => exact (Nat.zero_add _).symm
    | ⟨2, _⟩ => exact (Nat.zero_add _).symm
  · refine Eq.trans ?_ (scratchG c arg2 harg2 arg3 harg3 arg10 x0 x1 r e)
    pointwise [k0_pay1]

end

end Cert.Kernel2Ideal.Rows
-- ==== Proof.Result2.lean ====
/-
  The projection's four results: what a grid point writes back is the block of the layer's projection, and the blocks
  make up the arrays.
-/
module

public import proofs.«01_k».proof.Proof.Body2

@[expose] public section

set_option maxRecDepth 16384

noncomputable section

namespace Cert.Kernel2Ideal.Rows

open Cert.Kernel2Ideal Cert.Kernel2Ideal.Gen Idealize.ShloMosaic Idealize.ShloMosaic.TcCoe Idealize.SL.Sem Cert.Stick Cert.Proj

theorem N_eq : cfg0.N = 32 := rfl

theorem index0 : ∀ t : Fin grid0.N, win0_0.index t 0 = t.val / 8 ∧ win0_0.index t 1 = t.val % 8 ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = t.val / 8 ∧ win0_3.index t 1 = t.val % 8 ∧ win0_3.index t 2 = 0 ∧ win0_3.index t 3 = 0 := by decide +kernel
theorem index4 : ∀ t : Fin grid0.N, win0_4.index t 0 = t.val / 8 ∧ win0_4.index t 1 = t.val % 8 ∧ win0_4.index t 2 = 0 ∧ win0_4.index t 3 = 0 := by decide +kernel
theorem index5 : ∀ t : Fin grid0.N, win0_5.index t 0 = t.val / 8 ∧ win0_5.index t 1 = 0 ∧ win0_5.index t 2 = t.val % 8 := by decide +kernel

/-- The batch of a grid point. -/
def bOf (t : Fin cfg0.N) : Fin 4 := ⟨t.val / 8, by have := t.isLt; have := N_eq; omega⟩

variable (m : (ℓ : Loc nD τ sig) → Buf (Elt Ideal) ℓ)

/-- The layer's input. -/
def argX (c : Dev nD) : Vec Ideal S4x4096x1024 .f32 := m ((c : Thread nD τ).loc main_arg0)
/-- The weights. -/
def argW (c : Dev nD) : Vec Ideal S2x1024x4096 .f32 := m ((c : Thread nD τ).loc main_arg1)

theorem iblk0_apply (c : Dev nD) (t : Fin cfg0.N) (r : Fin 512) (d : Fin 1024) :
    (iblk m c 0 t : Vec Ideal S1x512x1024 .f32) (ix3 0 r d) = argX m c (ix3 (bOf t) (pos (512 * (t.val % 8) + r.val)) d) := by
  obtain ⟨h0, h1, h2⟩ := index0 t
  unfold iblk
  rw [View.read_apply]
  refine (congrFun (V_main_arg0 m c) _).trans ?_
  unfold argX
  congr 1
  funext a
  refine Fin.ext ?_
  have hr := r.isLt
  match a with
  | ⟨0, _⟩ => show win0_0.index t 0 * 1 + 1 * 0 = t.val / 8; rw [h0]; omega
  | ⟨1, _⟩ => show win0_0.index t 1 * 512 + 1 * r.val = (512 * (t.val % 8) + r.val) % 4096; rw [h1]; omega
  | ⟨2, _⟩ => show win0_0.index t 2 * 1024 + 1 * d.val = d.val; rw [h2]; omega

theorem iblk1_apply (c : Dev nD) (t : Fin cfg0.N) (d : Fin 1024) (e : Fin 4096) :
    (iblk m c 1 t : Vec Ideal S1x1024x4096 .f32) (ix3 0 d e) = argW m c (ix3 0 d e) := by
  obtain ⟨h0, h1, h2⟩ := index1 t
  unfold iblk
  rw [View.read_apply]
  refine (congrFun (V_main_arg1 m c) _).trans ?_
  unfold argW
  congr 1
  funext a
  refine Fin.ext ?_
  match a with
  | ⟨0, _⟩ => show win0_1.index t 0 * 1 + 1 * 0 = 0; rw [h0]
  | ⟨1, _⟩ => show win0_1.index t 1 * 1024 + 1 * d.val = d.val; rw [h1]; omega
  | ⟨2, _⟩ => show win0_1.index t 2 * 4096 + 1 * e.val = e.val; rw [h2]; omega

/-- A block's projection is the projection of the block's positions. -/
theorem part_iblk (c : Dev nD) (t : Fin cfg0.N) (r : Fin 512) (e : ℕ) :
    part (iblk m c 0 t) (iblk m c 1 t) r e = proj (argX m c) (argW m c) (bOf t) (512 * (t.val % 8) + r.val) e :=
  Finset.sum_congr rfl fun d _ => congrArg₂ (fun a b : EReal => a * b) (iblk0_apply m c t r d) (iblk1_apply m c t d (pos e))

/-- What a grid point writes back for window 2 is its block of the array. -/
theorem flushed2_eq (c : Dev nD) (t : Fin cfg0.N) :
    (dats m 0 c).flushed 2 t = ((cfg0.win 2).blk t).view.read (Elt Ideal) (keysOf (argX m c) (argW m c) : Vec Ideal S4x4096x1024 .bf16) := by
  rw [Value.flushed2_A m c t]
  obtain ⟨h0,h1,h2⟩ := index2 t
  have ht : t.val < 32 := t.isLt
  refine funext fun (i : S1x512x1024.Idx) => ?_
  idx_vars i
  rw [View.read_apply]
  have l0 := i0.isLt
  have l1 := i1.isLt
  have l2 := i2.isLt
  have z : i0 = 0 := Fin.ext (Nat.lt_one_iff.1 l0)
  subst z
  refine (out2_apply c _ _ _ _ _ _ _ _ _ _ _ _ _ _ _ _ _ _ _ _ _ i1 i2).trans ?_
  rw [part_iblk]
  have e : ((cfg0.win 2).blk t).view.emb (ix3 0 i1 i2) = (ix3 (bOf t) ⟨512 * (t.val % 8) + i1.val, by omega⟩ ⟨i2.val, by omega⟩ : S4x4096x1024.Idx) := by
    funext a
    refine Fin.ext ?_
    match a with
    | ⟨0, _⟩ => show win0_2.index t 0 * 1 + 1 * 0 = t.val / 8; rw [h0]; omega
    | ⟨1, _⟩ => show win0_2.index t 1 * 512 + 1 * i1.val = 512 * (t.val % 8) + i1.val; rw [h1]; omega
    | ⟨2, _⟩ => show win0_2.index t 2 * 1024 + 1 * i2.val = i2.val; rw [h2]; omega
  refine Eq.trans ?_ (congrArg (keysOf (argX m c) (argW m c)) e).symm
  unfold keysOf
  dsimp only
  rfl

/-- Every index of the array lies in some grid point's block. -/
theorem covered2 (i : S4x4096x1024.Idx) : ∃ t : Fin cfg0.N, (cfg0.win 2).flush t = true ∧ i ∈ ((cfg0.win 2).blk t).view.set := by
  have i0 : (i 0).val < 4 := (i 0).isLt
  have i1 : (i 1).val < 4096 := (i 1).isLt
  have i2 : (i 2).val < 1024 := (i 2).isLt
  let t : Fin cfg0.N := ⟨8 * (i 0).val + (i 1).val / 512, by rw [N_eq]; omega⟩
  have tv : t.val = 8 * (i 0).val + (i 1).val / 512 := rfl
  obtain ⟨h0,h1,h2⟩ := index2 t
  refine ⟨t, flush0_2 t, ?_⟩
  show i ∈ ((View.whole main_v0_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [h0]; omega
  | ⟨1, _⟩ =>
    show win0_2.index t 1 * 512 ≤ (i 1).val ∧ (i 1).val < win0_2.index t 1 * 512 + 512
    rw [h1]; omega
  | ⟨2, _⟩ =>
    show win0_2.index t 2 * 1024 ≤ (i 2).val ∧ (i 2).val < win0_2.index t 2 * 1024 + 1024
    rw [h2]; omega

/-- The array of window 2 after the run. -/
theorem final2 (c : Dev nD) : (dats m 0 c).arrAt 2 cfg0.N = (keysOf (argX m c) (argW m c) : Vec Ideal S4x4096x1024 .bf16) :=
  (dats m 0 c).arrAt_eq_of_cover 2 _ (fun t _ => flushed2_eq m c t) covered2

/-- What a grid point writes back for window 3 is its block of the array. -/
theorem flushed3_eq (c : Dev nD) (t : Fin cfg0.N) :
    (dats m 0 c).flushed 3 t = ((cfg0.win 3).blk t).view.read (Elt Ideal) (queriesOf (argX m c) (argW m c) : Vec Ideal S4x16x1024x256 .bf16) := by
  rw [Value.flushed3_A m c t]
  obtain ⟨h0,h1,h2,h3⟩ := index3 t
  have ht : t.val < 32 := t.isLt
  refine funext fun (i : S1x2x1024x256.Idx) => ?_
  idx_vars i
  rw [View.read_apply]
  have l0 := i0.isLt
  have l1 := i1.isLt
  have l2 := i2.isLt
  have l3 := i3.isLt
  have z : i0 = 0 := Fin.ext (Nat.lt_one_iff.1 l0)
  subst z
  refine (out3_apply c _ _ _ _ _ _ _ _ _ _ _ _ _ _ _ _ _ _ _ _ _ i1 i2 i3).trans ?_
  rw [part_iblk]
  have e : ((cfg0.win 3).blk t).view.emb (ix4 0 i1 i2 i3) = (ix4 (bOf t) ⟨2 * (t.val % 8) + i1.val, by omega⟩ ⟨i2.val, by omega⟩ ⟨i3.val, by omega⟩ : S4x16x1024x256.Idx) := by
    funext a
    refine Fin.ext ?_
    match a with
    | ⟨0, _⟩ => show win0_3.index t 0 * 1 + 1 * 0 = t.val / 8; rw [h0]; omega
    | ⟨1, _⟩ => show win0_3.index t 1 * 2 + 1 * i1.val = 2 * (t.val % 8) + i1.val; rw [h1]; omega
    | ⟨2, _⟩ => show win0_3.index t 2 * 1024 + 1 * i2.val = i2.val; rw [h2]; omega
    | ⟨3, _⟩ => show win0_3.index t 3 * 256 + 1 * i3.val = i3.val; rw [h3]; omega
  refine Eq.trans ?_ (congrArg (queriesOf (argX m c) (argW m c)) e).symm
  unfold queriesOf
  dsimp only
  have h : 512 * (t.val % 8) + (256 * i1.val + i3.val) = 256 * (2 * (t.val % 8) + i1.val) + i3.val := by omega
  rw [h]
  rfl

/-- Every index of the array lies in some grid point's block. -/
theorem covered3 (i : S4x16x1024x256.Idx) : ∃ t : Fin cfg0.N, (cfg0.win 3).flush t = true ∧ i ∈ ((cfg0.win 3).blk t).view.set := by
  have i0 : (i 0).val < 4 := (i 0).isLt
  have i1 : (i 1).val < 16 := (i 1).isLt
  have i2 : (i 2).val < 1024 := (i 2).isLt
  have i3 : (i 3).val < 256 := (i 3).isLt
  let t : Fin cfg0.N := ⟨8 * (i 0).val + (i 1).val / 2, by rw [N_eq]; omega⟩
  have tv : t.val = 8 * (i 0).val + (i 1).val / 2 := rfl
  obtain ⟨h0,h1,h2,h3⟩ := index3 t
  refine ⟨t, flush0_3 t, ?_⟩
  show i ∈ ((View.whole main_v0_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [h0]; omega
  | ⟨1, _⟩ =>
    show win0_3.index t 1 * 2 ≤ (i 1).val ∧ (i 1).val < win0_3.index t 1 * 2 + 2
    rw [h1]; omega
  | ⟨2, _⟩ =>
    show win0_3.index t 2 * 1024 ≤ (i 2).val ∧ (i 2).val < win0_3.index t 2 * 1024 + 1024
    rw [h2]; omega
  | ⟨3, _⟩ =>
    show win0_3.index t 3 * 256 ≤ (i 3).val ∧ (i 3).val < win0_3.index t 3 * 256 + 256
    rw [h3]; omega

/-- The array of window 3 after the run. -/
theorem final3 (c : Dev nD) : (dats m 0 c).arrAt 3 cfg0.N = (queriesOf (argX m c) (argW m c) : Vec Ideal S4x16x1024x256 .bf16) :=
  (dats m 0 c).arrAt_eq_of_cover 3 _ (fun t _ => flushed3_eq m c t) covered3

/-- What a grid point writes back for window 4 is its block of the array. -/
theorem flushed4_eq (c : Dev nD) (t : Fin cfg0.N) :
    (dats m 0 c).flushed 4 t = ((cfg0.win 4).blk t).view.read (Elt Ideal) (valuesOf (argX m c) (argW m c) : Vec Ideal S4x16x1024x256 .bf16) := by
  rw [Value.flushed4_A m c t]
  obtain ⟨h0,h1,h2,h3⟩ := index4 t
  have ht : t.val < 32 := t.isLt
  refine funext fun (i : S1x2x1024x256.Idx) => ?_
  idx_vars i
  rw [View.read_apply]
  have l0 := i0.isLt
  have l1 := i1.isLt
  have l2 := i2.isLt
  have l3 := i3.isLt
  have z : i0 = 0 := Fin.ext (Nat.lt_one_iff.1 l0)
  subst z
  refine (out4_apply c _ _ _ _ _ _ _ _ _ _ _ _ _ _ _ _ _ _ _ _ _ i1 i2 i3).trans ?_
  rw [part_iblk]
  have e : ((cfg0.win 4).blk t).view.emb (ix4 0 i1 i2 i3) = (ix4 (bOf t) ⟨2 * (t.val % 8) + i1.val, by omega⟩ ⟨i2.val, by omega⟩ ⟨i3.val, by omega⟩ : S4x16x1024x256.Idx) := by
    funext a
    refine Fin.ext ?_
    match a with
    | ⟨0, _⟩ => show win0_4.index t 0 * 1 + 1 * 0 = t.val / 8; rw [h0]; omega
    | ⟨1, _⟩ => show win0_4.index t 1 * 2 + 1 * i1.val = 2 * (t.val % 8) + i1.val; rw [h1]; omega
    | ⟨2, _⟩ => show win0_4.index t 2 * 1024 + 1 * i2.val = i2.val; rw [h2]; omega
    | ⟨3, _⟩ => show win0_4.index t 3 * 256 + 1 * i3.val = i3.val; rw [h3]; omega
  refine Eq.trans ?_ (congrArg (valuesOf (argX m c) (argW m c)) e).symm
  unfold valuesOf
  dsimp only
  have h : 512 * (t.val % 8) + (256 * i1.val + i3.val) = 256 * (2 * (t.val % 8) + i1.val) + i3.val := by omega
  rw [h]
  rfl

/-- Every index of the array lies in some grid point's block. -/
theorem covered4 (i : S4x16x1024x256.Idx) : ∃ t : Fin cfg0.N, (cfg0.win 4).flush t = true ∧ i ∈ ((cfg0.win 4).blk t).view.set := by
  have i0 : (i 0).val < 4 := (i 0).isLt
  have i1 : (i 1).val < 16 := (i 1).isLt
  have i2 : (i 2).val < 1024 := (i 2).isLt
  have i3 : (i 3).val < 256 := (i 3).isLt
  let t : Fin cfg0.N := ⟨8 * (i 0).val + (i 1).val / 2, by rw [N_eq]; omega⟩
  have tv : t.val = 8 * (i 0).val + (i 1).val / 2 := rfl
  obtain ⟨h0,h1,h2,h3⟩ := index4 t
  refine ⟨t, flush0_4 t, ?_⟩
  show i ∈ ((View.whole main_v0_2).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [h0]; omega
  | ⟨1, _⟩ =>
    show win0_4.index t 1 * 2 ≤ (i 1).val ∧ (i 1).val < win0_4.index t 1 * 2 + 2
    rw [h1]; omega
  | ⟨2, _⟩ =>
    show win0_4.index t 2 * 1024 ≤ (i 2).val ∧ (i 2).val < win0_4.index t 2 * 1024 + 1024
    rw [h2]; omega
  | ⟨3, _⟩ =>
    show win0_4.index t 3 * 256 ≤ (i 3).val ∧ (i 3).val < win0_4.index t 3 * 256 + 256
    rw [h3]; omega

/-- The array of window 4 after the run. -/
theorem final4 (c : Dev nD) : (dats m 0 c).arrAt 4 cfg0.N = (valuesOf (argX m c) (argW m c) : Vec Ideal S4x16x1024x256 .bf16) :=
  (dats m 0 c).arrAt_eq_of_cover 4 _ (fun t _ => flushed4_eq m c t) covered4

/-- What a grid point writes back for window 5 is its block of the array. -/
theorem flushed5_eq (c : Dev nD) (t : Fin cfg0.N) :
    (dats m 0 c).flushed 5 t = ((cfg0.win 5).blk t).view.read (Elt Ideal) (gateOf (argX m c) (argW m c) : Vec Ideal S4x1024x4096 .bf16) := by
  rw [Value.flushed5_A m c t]
  obtain ⟨h0,h1,h2⟩ := index5 t
  have ht : t.val < 32 := t.isLt
  refine funext fun (i : S1x1024x512.Idx) => ?_
  idx_vars i
  rw [View.read_apply]
  have l0 := i0.isLt
  have l1 := i1.isLt
  have l2 := i2.isLt
  have z : i0 = 0 := Fin.ext (Nat.lt_one_iff.1 l0)
  subst z
  refine (out5_apply c _ _ _ _ _ _ _ _ _ _ _ _ _ _ _ _ _ _ _ _ _ i1 i2).trans ?_
  rw [part_iblk]
  have e : ((cfg0.win 5).blk t).view.emb (ix3 0 i1 i2) = (ix3 (bOf t) ⟨i1.val, by omega⟩ ⟨512 * (t.val % 8) + i2.val, by omega⟩ : S4x1024x4096.Idx) := by
    funext a
    refine Fin.ext ?_
    match a with
    | ⟨0, _⟩ => show win0_5.index t 0 * 1 + 1 * 0 = t.val / 8; rw [h0]; omega
    | ⟨1, _⟩ => show win0_5.index t 1 * 1024 + 1 * i1.val = i1.val; rw [h1]; omega
    | ⟨2, _⟩ => show win0_5.index t 2 * 512 + 1 * i2.val = 512 * (t.val % 8) + i2.val; rw [h2]; omega
  refine Eq.trans ?_ (congrArg (gateOf (argX m c) (argW m c)) e).symm
  unfold gateOf
  dsimp only
  rfl

/-- Every index of the array lies in some grid point's block. -/
theorem covered5 (i : S4x1024x4096.Idx) : ∃ t : Fin cfg0.N, (cfg0.win 5).flush t = true ∧ i ∈ ((cfg0.win 5).blk t).view.set := by
  have i0 : (i 0).val < 4 := (i 0).isLt
  have i1 : (i 1).val < 1024 := (i 1).isLt
  have i2 : (i 2).val < 4096 := (i 2).isLt
  let t : Fin cfg0.N := ⟨8 * (i 0).val + (i 2).val / 512, by rw [N_eq]; omega⟩
  have tv : t.val = 8 * (i 0).val + (i 2).val / 512 := rfl
  obtain ⟨h0,h1,h2⟩ := index5 t
  refine ⟨t, flush0_5 t, ?_⟩
  show i ∈ ((View.whole main_v0_3).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [h0]; omega
  | ⟨1, _⟩ =>
    show win0_5.index t 1 * 1024 ≤ (i 1).val ∧ (i 1).val < win0_5.index t 1 * 1024 + 1024
    rw [h1]; omega
  | ⟨2, _⟩ =>
    show win0_5.index t 2 * 512 ≤ (i 2).val ∧ (i 2).val < win0_5.index t 2 * 512 + 512
    rw [h2]; omega

/-- The array of window 5 after the run. -/
theorem final5 (c : Dev nD) : (dats m 0 c).arrAt 5 cfg0.N = (gateOf (argX m c) (argW m c) : Vec Ideal S4x1024x4096 .bf16) :=
  (dats m 0 c).arrAt_eq_of_cover 5 _ (fun t _ => flushed5_eq m c t) covered5

end Cert.Kernel2Ideal.Rows
-- ==== Proof.RefValue2.lean ====
/-
  The projection's reference, read at an index.
-/
module

public import proofs.«01_k».proof.Proof.Gen.Reference2Ideal.Run
public import proofs.«01_k».proof.Proof.RefValue
public import proofs.«01_k».proof.Proof.Proj

@[expose] public section

noncomputable section

namespace Cert.Reference2Ideal.Value

open Cert.Reference2Ideal Cert.Reference2Ideal.Gen Idealize.ShloMosaic Cert.Stick Cert.Proj

variable (x : FVec Ideal S4x4096x1024 .f32) (w : FVec Ideal S2x1024x4096 .f32)

/-- The exact value of the word of 0.125. -/
theorem ofBits_eighth_f32 : Ideal.ofBits .f32 0x3E000000#32 = ((8⁻¹ : ℝ) : EReal) := by
  simp [Ideal.ofBits, Ideal.ieee]
  rw [← EReal.coe_mul]; norm_num

/-- An eighth over `ln 2` is the queries' factor. -/
theorem div_ln2 (a : EReal) : Ideal.div (a * ((8⁻¹ : ℝ) : EReal)) ln2 = a * qscale := by
  have h : ln2 ≠ 0 := by
    unfold ln2
    exact_mod_cast (Real.log_pos (by norm_num : (1 : ℝ) < 2)).ne'
  unfold Ideal.div
  rw [if_neg h, mul_assoc]
  congr 1
  unfold ln2 qscale
  rw [← EReal.coe_inv, ← EReal.coe_mul, mul_inv]

/-- The reference's projection, all four parts in a row. -/
def whole : FVec Ideal S4x4096x4096 .f32 :=
  Host.dotGeneral dot_S4x4096x1024_S1024x4096_S4x4096x4096_2_0_01_1_n_n none x (shapeCast _ (extractStridedSlice S1x1024x4096 ![0, 0, 0] w slices_S2x1024x4096_S1x1024x4096_0_0_0) shapeCasts_S1x1024x4096_S1024x4096)

theorem whole_apply (b : Fin 4) (s e : Fin 4096) : whole x w (ix3 b s e) = proj x w b s.val e.val := by
  unfold proj
  have hs : pos s.val = s := Fin.ext (Nat.mod_eq_of_lt s.isLt)
  have he : pos e.val = e := Fin.ext (Nat.mod_eq_of_lt e.isLt)
  rw [hs, he]
  pointwise [whole]

/-- The reference's keys. -/
def rk : FVec Ideal S4x4096x1024 .bf16 :=
  truncf .bf16 (extractStridedSlice S4x4096x1024 ![0, 0, 1024] (whole x w) slices_S4x4096x4096_S4x4096x1024_0_0_1024) bitsLt_bf16_f32

theorem rk_eq : rk x w = keysOf x w := by
  funext i
  idx_vars i
  pointwise [rk]
  rw [whole_apply]
  rfl

/-- The reference's queries. -/
def rq : FVec Ideal S4x16x1024x256 .bf16 :=
  truncf .bf16 (transpose S4x16x1024x256 [0, 1, 3, 2] (shapeCast _ (Host.divf (mulf (extractStridedSlice S4x4096x1024 ![0, 0, 0] (whole x w) slices_S4x4096x4096_S4x4096x1024_0_0_0) (broadcastInDim S4x4096x1024 ![] bcast_S_S4x4096x1024 (constant S_ .f32 0x3E000000#32))) (broadcastInDim S4x4096x1024 ![] bcast_S_S4x4096x1024 (id (Host.log (constant S_ .f32 0x40000000#32))))) shapeCasts_S4x4096x1024_S4x16x256x1024) transposes_S4x16x256x1024_S4x16x1024x256_0_1_3_2) bitsLt_bf16_f32

theorem rq_eq : rq x w = queriesOf x w := by
  funext i
  idx_vars i
  pointwise [rq]
  rw [whole_apply]
  refine (congrArg (Ideal.div _) Cert.ReferenceIdeal.Value.log_two).trans ?_
  rw [ofBits_eighth_f32, div_ln2]
  show proj x w i0 (i1.val * 256 + i3.val) i2.val * _ = proj x w i0 (256 * i1.val + i3.val) i2.val * _
  rw [Nat.mul_comm]

/-- The reference's values. -/
def rv : FVec Ideal S4x16x1024x256 .bf16 :=
  truncf .bf16 (transpose S4x16x1024x256 [0, 1, 3, 2] (shapeCast _ (extractStridedSlice S4x4096x1024 ![0, 0, 2048] (whole x w) slices_S4x4096x4096_S4x4096x1024_0_0_2048) shapeCasts_S4x4096x1024_S4x16x256x1024) transposes_S4x16x256x1024_S4x16x1024x256_0_1_3_2) bitsLt_bf16_f32

theorem rv_eq : rv x w = valuesOf x w := by
  funext i
  idx_vars i
  pointwise [rv]
  rw [whole_apply]
  show proj x w i0 (i1.val * 256 + i3.val) (2048 + i2.val) = proj x w i0 (256 * i1.val + i3.val) (2048 + i2.val)
  rw [Nat.mul_comm]

/-- The reference's gate. -/
def rg : FVec Ideal S4x1024x4096 .bf16 :=
  truncf .bf16 (transpose S4x1024x4096 [0, 2, 1] (extractStridedSlice S4x4096x1024 ![0, 0, 3072] (whole x w) slices_S4x4096x4096_S4x4096x1024_0_0_3072) transposes_S4x4096x1024_S4x1024x4096_0_2_1) bitsLt_bf16_f32

theorem rg_eq : rg x w = gateOf x w := by
  funext i
  idx_vars i
  pointwise [rg]
  rw [whole_apply]
  rfl

end Cert.Reference2Ideal.Value
-- ==== Proof.Algebra2.lean ====
/-
  The projection and its reference end with the same four results.
-/
module

public import proofs.«01_k».proof.Proof.Result2
public import proofs.«01_k».proof.Proof.RefValue2
public import proofs.«01_k».proof.Proof.Frames2

@[expose] public section

set_option maxRecDepth 16384

noncomputable section

namespace Cert.Proof

open Idealize.ShloMosaic Idealize.ShloMosaic.TcCoe Idealize.SL.Sem Cert.Proj Cert.Kernel2Ideal.Rows
open Cert.Reference2Ideal.Value (rk_eq rq_eq rv_eq rg_eq)

/-- Over the extended reals the projection and its reference end with equal keys, queries, values and gate, and each
    leaves its arguments as they were. -/
theorem algebraic2 : Cert.algebraic_Kernel2Ideal_Reference2Ideal := by
  intro m ρ m' ρ' _ hagree
  refine ⟨fun c => keysOf (argX m c) (argW m c), fun c => queriesOf (argX m c) (argW m c), fun c => valuesOf (argX m c) (argW m c),
    fun c => gateOf (argX m c) (argW m c),
    (θ_run Cert.Kernel2Ideal.defs _ _).mono (fun r h c => ?_) (Cert.Kernel2Ideal.Value.run_blocks (F := Ideal) m ρ),
    (θ_run Cert.Reference2Ideal.defs _ _).mono (fun r h c => ?_) (Cert.Reference2Ideal.Value.run (F := Ideal) m' ρ')⟩
  · obtain ⟨r2, r3, r4, r5, rest⟩ := h c
    exact ⟨r2.trans (final2 m c), r3.trans (final3 m c), r4.trans (final4 m c), r5.trans (final5 m c), rest⟩
  · obtain ⟨rk, rq, rv, rg, rest⟩ := h c
    obtain ⟨h0, h1⟩ := hagree c
    rw [h0, h1] at rk rq rv rg
    exact ⟨rk.trans (rk_eq (argX m c) (argW m c)), rq.trans (rq_eq (argX m c) (argW m c)), rv.trans (rv_eq (argX m c) (argW m c)),
      rg.trans (rg_eq (argX m c) (argW m c)), rest⟩

end Cert.Proof

end
-- ==== Proof.Frames3.lean ====
/-
  The frames of the output projection's three programs and the claim that idealizing it changes no operation.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

noncomputable section

namespace Cert.Proof

open Idealize.ShloMosaic Idealize.SL.Sem

instance factsK3 : Cert.Kernel3.Facts := Cert.Kernel3.Gen.facts
instance factsKI3 : Cert.Kernel3Ideal.Facts := Cert.Kernel3Ideal.Gen.facts
instance factsRI3 : Cert.Reference3Ideal.Facts := Cert.Reference3Ideal.Gen.facts

/-- The output projection runs to the end and leaves its arguments as they were. -/
theorem frame_p3 : Cert.quiescent_Kernel3 := fun m ρ _ => Cert.Kernel3.Gen.frame m ρ

/-- So does its idealization. -/
theorem frame_pi3 : Cert.quiescent_Kernel3Ideal := fun m ρ _ => Cert.Kernel3Ideal.Gen.frame m ρ

/-- So does its reference. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The idealized output projection is the output projection itself. -/
theorem preserves3 : Cert.preserves_Kernel3_Kernel3Ideal := trivial

end Cert.Proof

end
-- ==== Proof.Out.lean ====
/-
  The output projection with the normalisation: what the call's result is, as sums over the model's width.
-/
module

public import proofs.«01_k».proof.Proof.Spec

@[expose] public section

noncomputable section

namespace Cert.Out

open Idealize.ShloMosaic Cert.Stick

/-- The weights' array: layer, feature of the attention, feature of the output. -/
abbrev SWo : Shape := ⟨3, ![2, 1024, 1024]⟩
/-- The array of a gain or a bias: layer, feature. -/
abbrev SG : Shape := ⟨2, ![2, 1024]⟩

/-- The factor of the residual. -/
def alpha : EReal := Ideal.ofBits .f32 0x3FB504F3#32
/-- What is added to the variance. -/
def eps : EReal := Ideal.ofBits .f32 0x3727C5AC#32
/-- The width of the model. -/
def width : EReal := Ideal.ofBits .f32 0x44800000#32

/-- An entry of the attention's result under its gate. -/
def gated (o g : EReal) : EReal := o * (g * Ideal.div 1 (1 + Ideal.exp (-g)))

/-- The mean of a row. -/
def mean (r : Fin 1024 → EReal) : EReal := Ideal.div (∑ k : Fin 1024, r k) width

/-- Entry `d` of a row after the normalisation with gain `g` and bias `b`. -/
def norm (r : Fin 1024 → EReal) (g b : EReal) (d : Fin 1024) : EReal :=
  (r d - mean r) * Ideal.rsqrt (mean (fun k => (r k - mean r) * (r k - mean r)) + eps) * g + b

/-- The residual plus the projection of the gated attention, for position `s` of batch `b`. -/
def resid (o g : SO.Idx → EReal) (x : SK.Idx → EReal) (w : SWo.Idx → EReal) (b : Fin 4) (s : ℕ) (d : Fin 1024) : EReal :=
  alpha * x (ix3 b (pos s) d) + ∑ e : Fin 1024, gated (o (ix3 b e (pos s))) (g (ix3 b e (pos s))) * w (ix3 1 e d)

/-- The layer's output: batch, position, feature. -/
def outOf (o g : SO.Idx → EReal) (x : SK.Idx → EReal) (w : SWo.Idx → EReal) (lg lb : SG.Idx → EReal) : SK.Idx → EReal :=
  fun i => norm (resid o g x w (i 0) (i 1).val) (lg (ix2 1 (i 2))) (lb (ix2 1 (i 2))) (i 2)

end Cert.Out
-- ==== Proof.Body3.lean ====
/-
  What the output projection's body stores for a block of positions, read at an index.
-/
module

public import proofs.«01_k».proof.Proof.Gen.Kernel3Ideal.Value
public import proofs.«01_k».proof.Proof.Loads
public import proofs.«01_k».proof.Proof.Out

@[expose] public section

set_option maxRecDepth 16384

noncomputable section

namespace Cert.Kernel3Ideal.Rows

open Cert.Kernel3Ideal Cert.Kernel3Ideal.Gen Idealize.ShloMosaic Idealize.ShloMosaic.TcCoe Idealize.SL.Sem Cert.Stick Cert.Out

theorem pay2_apply (g o : Vec Ideal S1x1024x512 .bf16) (w : Vec Ideal S1024x1024 .bf16) (d : Fin 1024) (r : Fin 512) :
    k0_pay2 g o w (ix2 d r) = ∑ e : Fin 1024, w (ix2 d e) * gated (o (ix3 0 e r)) (g (ix3 0 e r)) := by
  pointwise [k0_pay2]
  simp only [zero_sub]
  rfl

theorem pay3_apply (x : Vec Ideal S1x512x1024 .f32) (y : Vec Ideal S1024x512 .f32) (d : Fin 1024) (r : Fin 512) :
    k0_pay3 x y (ix2 r d) = (alpha * x (ix3 0 r d) + y (ix2 d r)) - mean (fun k => alpha * x (ix3 0 r k) + y (ix2 k r)) := by
  pointwise [k0_pay3]
  rfl

theorem pay1_apply (z : Vec Ideal S512x1024 .f32) (lg lb : Vec Ideal S1x1024 .f32) (d : Fin 1024) (r : Fin 512) :
    k0_pay1 z lg lb (ix3 0 r d) = z (ix2 r d) * Ideal.rsqrt (mean (fun k => z (ix2 r k) * z (ix2 r k)) + eps) * lg (ix2 0 d) + lb (ix2 0 d) := by
  pointwise [k0_pay1]
  rfl

/-- The load of a whole buffer. -/
theorem loadAll {s : Shape} {e : EltTy} (v : Memref sig .tc .vmem s e) (hv : v.IsWhole) (x : Vec Ideal s e) {off : Fin s.rank → ℕ} (h0 : ∀ a, off a = 0)
    (h : ∀ a, off a + s.size a ≤ s.size a) :
    v.view.readAt (Elt Ideal) (Rect.unit (s := s) off s.size h).toLoadRect (hv.unread x) = x := by
  funext j
  rw [View.readAt_apply, Memref.IsWhole.read_unread]
  congr 1
  funext a
  refine Fin.ext ?_
  show off a + 1 * (j a).val = (j a).val
  rw [h0]
  omega

theorem zeros2 : ∀ a, (![0, 0] : Fin 2 → ℕ) a = 0 := by decide
theorem zeros3 : ∀ a, (![0, 0, 0] : Fin 3 → ℕ) a = 0 := by decide

/-- The residual plus the projection of the gated attention, for position `r` of a block. -/
def part (x0 x1 : Vec Ideal S1x1024x512 .bf16) (x2 : Vec Ideal S1x512x1024 .f32) (x3 : Vec Ideal S1024x1024 .bf16) (r : Fin 512) (k : Fin 1024) : EReal :=
  alpha * x2 (ix3 0 r k) + ∑ e : Fin 1024, x3 (ix2 k e) * gated (x0 (ix3 0 e r)) (x1 (ix3 0 e r))

section
variable (c : Dev nD) (i : grid0.Coords) (arg2 : Memref sig .tc .vmem S1x1024x512 .bf16) (harg2 : arg2.IsWhole) (arg3 : Memref sig .tc .vmem S1x1024x512 .bf16) (harg3 : arg3.IsWhole)
  (arg4 : Memref sig .tc .vmem S1x512x1024 .f32) (harg4 : arg4.IsWhole) (arg5 : Memref sig .tc .vmem S1024x1024 .bf16) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x512x1024 .f32) (harg8 : arg8.IsWhole) (arg9 : Memref sig .tc .vmem S1024x512 .f32) (harg9 : arg9.IsWhole)
  (x0 x1 : Vec Ideal S1x1024x512 .bf16) (x2 : Vec Ideal S1x512x1024 .f32) (x3 : Vec Ideal S1024x1024 .bf16) (x4 x5 : Vec Ideal S1x1024 .f32)

/-- The scratch holds the block's projection, transposed. -/
theorem scratchY : kernelRun0_A.sl.v26 c arg2 harg2 arg3 harg3 arg5 harg5 arg9 x0 x1 x3 = k0_pay2 x1 x0 x3 := by
  refine (readAt_hit (F := Ideal) arg9.view _ _ _ []).trans ?_
  rw [loadAll arg2 harg2 x0 zeros3, loadAll arg3 harg3 x1 zeros3, loadAll arg5 harg5 x3 zeros2]

/-- The block's residual plus projection, its rows' means taken off. -/
theorem centred (r : Fin 512) (d : Fin 1024) :
    kernelRun0_A.sl.r c arg2 harg2 arg3 harg3 arg4 harg4 arg5 harg5 arg9 x0 x1 x2 x3 (ix2 r d) = part x0 x1 x2 x3 r d - mean (part x0 x1 x2 x3 r) := by
  unfold kernelRun0_A.sl.r
  refine (pay3_apply _ _ d r).trans ?_
  rw [loadAll arg4 harg4 x2 zeros3, scratchY]
  simp only [pay2_apply]
  rfl

/-- The result's block. -/
theorem out6_apply (r : Fin 512) (d : Fin 1024) :
    out0_A_6 c i arg2 harg2 arg3 harg3 arg4 harg4 arg5 harg5 arg6 harg6 arg7 harg7 arg8 harg8 arg9 harg9 x0 x1 x2 x3 x4 x5 (ix3 0 r d)
      = Cert.Out.norm (part x0 x1 x2 x3 r) (x4 (ix2 0 d)) (x5 (ix2 0 d)) d := by
  unfold out0_A_6 kernelRun0_A
  dsimp only
  refine (View.read_writes_cons_unit_of_mem VO0_6 _ _ _ _ (ix3 0 r d) (ix3 0 r d) rfl fun a => ?_).trans ?_
  · match a with
    | ⟨0, _⟩ => rfl
    | ⟨1, _⟩ => exact (Nat.zero_add _).symm
    | ⟨2, _⟩ => exact (Nat.zero_add _).symm
  · refine (pay1_apply _ _ _ d r).trans ?_
    rw [loadAll arg6 harg6 x4 zeros2, loadAll arg7 harg7 x5 zeros2]
    simp only [centred]
    rfl

end

end Cert.Kernel3Ideal.Rows
-- ==== Proof.Result3.lean ====
/-
  The output projection's result: what a grid point writes back is the block of the layer's output, and the blocks make
  up the array.
-/
module

public import proofs.«01_k».proof.Proof.Body3

@[expose] public section

set_option maxRecDepth 16384

noncomputable section

namespace Cert.Kernel3Ideal.Rows

open Cert.Kernel3Ideal Cert.Kernel3Ideal.Gen Idealize.ShloMosaic Idealize.ShloMosaic.TcCoe Idealize.ShloMosaic.StableHlo Idealize.SL.Sem Cert.Stick Cert.Out

theorem N_eq : cfg0.N = 32 := rfl

theorem index0 : ∀ t : Fin grid0.N, win0_0.index t 0 = t.val / 8 ∧ win0_0.index t 1 = 0 ∧ win0_0.index t 2 = t.val % 8 := by decide +kernel
theorem index1 : ∀ t : Fin grid0.N, win0_1.index t 0 = t.val / 8 ∧ win0_1.index t 1 = 0 ∧ win0_1.index t 2 = t.val % 8 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val / 8 ∧ win0_6.index t 1 = t.val % 8 ∧ win0_6.index t 2 = 0 := by decide +kernel

/-- The batch of a grid point. -/
def bOf (t : Fin cfg0.N) : Fin 4 := ⟨t.val / 8, by have := t.isLt; have := N_eq; omega⟩

variable (m : (ℓ : Loc nD τ sig) → Buf (Elt Ideal) ℓ)

/-- The attention's result. -/
def argO (c : Dev nD) : Vec Ideal S4x1024x4096 .bf16 := m ((c : Thread nD τ).loc main_arg0)
/-- The gate. -/
def argG (c : Dev nD) : Vec Ideal S4x1024x4096 .bf16 := m ((c : Thread nD τ).loc main_arg1)
/-- The layer's input. -/
def argH (c : Dev nD) : Vec Ideal S4x4096x1024 .f32 := m ((c : Thread nD τ).loc main_arg2)
/-- The weights. -/
def argW (c : Dev nD) : Vec Ideal S2x1024x1024 .f32 := m ((c : Thread nD τ).loc main_arg3)
/-- The gains. -/
def argLg (c : Dev nD) : Vec Ideal S2x1024 .f32 := m ((c : Thread nD τ).loc main_arg4)
/-- The biases. -/
def argLb (c : Dev nD) : Vec Ideal S2x1024 .f32 := m ((c : Thread nD τ).loc main_arg5)

/-- The second layer's weights, transposed, are what the region is entered with. -/
theorem entryW (c : Dev nD) (d e : Fin 1024) : (V m c main_v3 : Vec Ideal S1024x1024 .bf16) (ix2 d e) = argW m c (ix3 1 e d) := by
  have h : (V m c main_v3 : Vec Ideal S1024x1024 .bf16)
      = (truncf .bf16 (transpose S1024x1024 [1, 0] (shapeCast S1024x1024 (extractStridedSlice S1x1024x1024 ![1, 0, 0] (argW m c) slices_S2x1024x1024_S1x1024x1024_1_0_0) shapeCasts_S1x1024x1024_S1024x1024) transposes_S1024x1024_S1024x1024_1_0) bitsLt_bf16_f32 : FVec Ideal S1024x1024 .bf16) := by
    unfold V
    simp only [hostOps0, cast_eq]
    after_results_simp <;> rfl
  rw [h]
  pointwise

/-- So are its gains. -/
theorem entryG (c : Dev nD) (d : Fin 1024) : (V m c main_v6 : Vec Ideal S1x1024 .f32) (ix2 0 d) = argLg m c (ix2 1 d) := by
  have h : (V m c main_v6 : Vec Ideal S1x1024 .f32)
      = broadcastInDim S1x1024 ![1] bcast_S1024_S1x1024_1 (shapeCast S1024 (extractStridedSlice S1x1024 ![1, 0] (argLg m c) slices_S2x1024_S1x1024_1_0) shapeCasts_S1x1024_S1024) := by
    unfold V
    simp only [hostOps0, cast_eq]
    after_results_simp <;> rfl
  rw [h]
  pointwise

/-- So are its biases. -/
theorem entryB (c : Dev nD) (d : Fin 1024) : (V m c main_v9 : Vec Ideal S1x1024 .f32) (ix2 0 d) = argLb m c (ix2 1 d) := by
  have h : (V m c main_v9 : Vec Ideal S1x1024 .f32)
      = broadcastInDim S1x1024 ![1] bcast_S1024_S1x1024_1 (shapeCast S1024 (extractStridedSlice S1x1024 ![1, 0] (argLb m c) slices_S2x1024_S1x1024_1_0) shapeCasts_S1x1024_S1024) := by
    unfold V
    simp only [hostOps0, cast_eq]
    after_results_simp <;> rfl
  rw [h]
  pointwise

/-- The block of the attention. -/
theorem iblk0_apply (c : Dev nD) (t : Fin cfg0.N) (e : Fin 1024) (r : Fin 512) :
    (iblk m c 0 t : Vec Ideal S1x1024x512 .bf16) (ix3 0 e r) = argO m c (ix3 (bOf t) e (pos (512 * (t.val % 8) + r.val))) := by
  obtain ⟨h0, h1, h2⟩ := index0 t
  unfold iblk
  rw [View.read_apply]
  refine (congrFun (V_main_arg0 m c) _).trans ?_
  unfold argO
  congr 1
  funext a
  refine Fin.ext ?_
  have hr := r.isLt
  match a with
  | ⟨0, _⟩ => show win0_0.index t 0 * 1 + 1 * 0 = t.val / 8; rw [h0]; omega
  | ⟨1, _⟩ => show win0_0.index t 1 * 1024 + 1 * e.val = e.val; rw [h1]; omega
  | ⟨2, _⟩ => show win0_0.index t 2 * 512 + 1 * r.val = (512 * (t.val % 8) + r.val) % 4096; rw [h2]; omega

/-- The block of the gate. -/
theorem iblk1_apply (c : Dev nD) (t : Fin cfg0.N) (e : Fin 1024) (r : Fin 512) :
    (iblk m c 1 t : Vec Ideal S1x1024x512 .bf16) (ix3 0 e r) = argG m c (ix3 (bOf t) e (pos (512 * (t.val % 8) + r.val))) := by
  obtain ⟨h0, h1, h2⟩ := index1 t
  unfold iblk
  rw [View.read_apply]
  refine (congrFun (V_main_arg1 m c) _).trans ?_
  unfold argG
  congr 1
  funext a
  refine Fin.ext ?_
  have hr := r.isLt
  match a with
  | ⟨0, _⟩ => show win0_1.index t 0 * 1 + 1 * 0 = t.val / 8; rw [h0]; omega
  | ⟨1, _⟩ => show win0_1.index t 1 * 1024 + 1 * e.val = e.val; rw [h1]; omega
  | ⟨2, _⟩ => show win0_1.index t 2 * 512 + 1 * r.val = (512 * (t.val % 8) + r.val) % 4096; rw [h2]; omega

/-- The block of the input. -/
theorem iblk2_apply (c : Dev nD) (t : Fin cfg0.N) (r : Fin 512) (d : Fin 1024) :
    (iblk m c 2 t : Vec Ideal S1x512x1024 .f32) (ix3 0 r d) = argH m c (ix3 (bOf t) (pos (512 * (t.val % 8) + r.val)) d) := by
  obtain ⟨h0, h1, h2⟩ := index2 t
  unfold iblk
  rw [View.read_apply]
  refine (congrFun (V_main_arg2 m c) _).trans ?_
  unfold argH
  congr 1
  funext a
  refine Fin.ext ?_
  have hr := r.isLt
  match a with
  | ⟨0, _⟩ => show win0_2.index t 0 * 1 + 1 * 0 = t.val / 8; rw [h0]; omega
  | ⟨1, _⟩ => show win0_2.index t 1 * 512 + 1 * r.val = (512 * (t.val % 8) + r.val) % 4096; rw [h1]; omega
  | ⟨2, _⟩ => show win0_2.index t 2 * 1024 + 1 * d.val = d.val; rw [h2]; omega

/-- The weights are staged whole. -/
theorem iblk3_apply (c : Dev nD) (t : Fin cfg0.N) (d e : Fin 1024) : (iblk m c 3 t : Vec Ideal S1024x1024 .bf16) (ix2 d e) = argW m c (ix3 1 e d) := by
  obtain ⟨h0, h1⟩ := index3 t
  refine Eq.trans ?_ (entryW m c d e)
  unfold iblk
  rw [View.read_apply]
  show V m c main_v3 _ = V m c main_v3 _
  congr 1
  funext a
  refine Fin.ext ?_
  match a with
  | ⟨0, _⟩ => show win0_3.index t 0 * 1024 + 1 * d.val = d.val; rw [h0]; omega
  | ⟨1, _⟩ => show win0_3.index t 1 * 1024 + 1 * e.val = e.val; rw [h1]; omega

/-- So are the gains. -/
theorem iblk4_apply (c : Dev nD) (t : Fin cfg0.N) (d : Fin 1024) : (iblk m c 4 t : Vec Ideal S1x1024 .f32) (ix2 0 d) = argLg m c (ix2 1 d) := by
  obtain ⟨h0, h1⟩ := index4 t
  refine Eq.trans ?_ (entryG m c d)
  unfold iblk
  rw [View.read_apply]
  show V m c main_v6 _ = V m c main_v6 _
  congr 1
  funext a
  refine Fin.ext ?_
  match a with
  | ⟨0, _⟩ => show win0_4.index t 0 * 1 + 1 * 0 = 0; rw [h0]
  | ⟨1, _⟩ => show win0_4.index t 1 * 1024 + 1 * d.val = d.val; rw [h1]; omega

/-- So are the biases. -/
theorem iblk5_apply (c : Dev nD) (t : Fin cfg0.N) (d : Fin 1024) : (iblk m c 5 t : Vec Ideal S1x1024 .f32) (ix2 0 d) = argLb m c (ix2 1 d) := by
  obtain ⟨h0, h1⟩ := index5 t
  refine Eq.trans ?_ (entryB m c d)
  unfold iblk
  rw [View.read_apply]
  show V m c main_v9 _ = V m c main_v9 _
  congr 1
  funext a
  refine Fin.ext ?_
  match a with
  | ⟨0, _⟩ => show win0_5.index t 0 * 1 + 1 * 0 = 0; rw [h0]
  | ⟨1, _⟩ => show win0_5.index t 1 * 1024 + 1 * d.val = d.val; rw [h1]; omega

/-- The layer's output as the arguments give it. -/
def outArr (c : Dev nD) : Vec Ideal S4x4096x1024 .f32 := outOf (argO m c) (argG m c) (argH m c) (argW m c) (argLg m c) (argLb m c)

/-- A block's rows are the rows of the block's positions. -/
theorem part_iblk (c : Dev nD) (t : Fin cfg0.N) (r : Fin 512) :
    part (iblk m c 0 t) (iblk m c 1 t) (iblk m c 2 t) (iblk m c 3 t) r
      = resid (argO m c) (argG m c) (argH m c) (argW m c) (bOf t) (512 * (t.val % 8) + r.val) := by
  funext k
  unfold part resid
  rw [iblk2_apply]
  refine congrArg (alpha * argH m c (ix3 (bOf t) (pos (512 * (t.val % 8) + r.val)) k) + ·) (Finset.sum_congr rfl fun e _ => ?_)
  rw [iblk0_apply, iblk1_apply, iblk3_apply, mul_comm]

/-- What a grid point writes back is its block of the output. -/
theorem flushed6_eq (c : Dev nD) (t : Fin cfg0.N) :
    (dats m 0 c).flushed 6 t = ((cfg0.win 6).blk t).view.read (Elt Ideal) (outArr m c) := by
  rw [Value.flushed6_A m c t]
  obtain ⟨h0, h1, h2⟩ := index6 t
  have ht : t.val < 32 := t.isLt
  refine funext fun (i : S1x512x1024.Idx) => ?_
  idx_vars i
  rw [View.read_apply]
  have l0 := i0.isLt
  have l1 := i1.isLt
  have l2 := i2.isLt
  have z : i0 = 0 := Fin.ext (Nat.lt_one_iff.1 l0)
  subst z
  refine (out6_apply c _ _ _ _ _ _ _ _ _ _ _ _ _ _ _ _ _ _ _ _ _ _ _ i1 i2).trans ?_
  rw [part_iblk, iblk4_apply, iblk5_apply]
  have e : ((cfg0.win 6).blk t).view.emb (ix3 0 i1 i2) = (ix3 (bOf t) ⟨512 * (t.val % 8) + i1.val, by omega⟩ ⟨i2.val, by omega⟩ : S4x4096x1024.Idx) := by
    funext a
    refine Fin.ext ?_
    match a with
    | ⟨0, _⟩ => show win0_6.index t 0 * 1 + 1 * 0 = t.val / 8; rw [h0]; omega
    | ⟨1, _⟩ => show win0_6.index t 1 * 512 + 1 * i1.val = 512 * (t.val % 8) + i1.val; rw [h1]; omega
    | ⟨2, _⟩ => show win0_6.index t 2 * 1024 + 1 * i2.val = i2.val; rw [h2]; omega
  refine Eq.trans ?_ (congrArg (outArr m c) e).symm
  unfold outArr outOf
  dsimp only
  rfl

/-- Every index of the array lies in some grid point's block. -/
theorem covered6 (i : S4x4096x1024.Idx) : ∃ t : Fin cfg0.N, (cfg0.win 6).flush t = true ∧ i ∈ ((cfg0.win 6).blk t).view.set := by
  have i0 : (i 0).val < 4 := (i 0).isLt
  have i1 : (i 1).val < 4096 := (i 1).isLt
  have i2 : (i 2).val < 1024 := (i 2).isLt
  let t : Fin cfg0.N := ⟨8 * (i 0).val + (i 1).val / 512, by rw [N_eq]; omega⟩
  have tv : t.val = 8 * (i 0).val + (i 1).val / 512 := rfl
  obtain ⟨h0, h1, h2⟩ := index6 t
  refine ⟨t, flush0_6 t, ?_⟩
  show i ∈ ((View.whole main_v10).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [h0]; omega
  | ⟨1, _⟩ =>
    show win0_6.index t 1 * 512 ≤ (i 1).val ∧ (i 1).val < win0_6.index t 1 * 512 + 512
    rw [h1]; omega
  | ⟨2, _⟩ =>
    show win0_6.index t 2 * 1024 ≤ (i 2).val ∧ (i 2).val < win0_6.index t 2 * 1024 + 1024
    rw [h2]; omega

/-- The output after the run. -/
theorem final6 (c : Dev nD) : (dats m 0 c).arrAt 6 cfg0.N = outArr m c :=
  (dats m 0 c).arrAt_eq_of_cover 6 _ (fun t _ => flushed6_eq m c t) covered6

end Cert.Kernel3Ideal.Rows
-- ==== Proof.RefValue3.lean ====
/-
  The output projection's reference, read at an index.
-/
module

public import proofs.«01_k».proof.Proof.Gen.Reference3Ideal.Run
public import proofs.«01_k».proof.Proof.Out

@[expose] public section

noncomputable section

namespace Cert.Reference3Ideal.Value

open Cert.Reference3Ideal Cert.Reference3Ideal.Gen Idealize.ShloMosaic Cert.Stick Cert.Out

variable (o g : FVec Ideal S4x1024x4096 .bf16) (h : FVec Ideal S4x4096x1024 .f32) (w : FVec Ideal S2x1024x1024 .f32)
  (lg lb : FVec Ideal S2x1024 .f32)

/-- The reference's residual plus projection. -/
def rr : FVec Ideal S4x4096x1024 .f32 :=
  addf (mulf (broadcastInDim S4x4096x1024 ![] bcast_S_S4x4096x1024 (constant S_ .f32 0x3FB504F3#32)) h) (Host.dotGeneral dot_S4x4096x1024_S1024x1024_S4x4096x1024_2_0_01_1_n_n none (mulf (transpose S4x4096x1024 [0, 2, 1] (extf .f32 o bitsLt_bf16_f32) transposes_S4x1024x4096_S4x4096x1024_0_2_1) (mulf (transpose S4x4096x1024 [0, 2, 1] (extf .f32 g bitsLt_bf16_f32) transposes_S4x1024x4096_S4x4096x1024_0_2_1) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (transpose S4x4096x1024 [0, 2, 1] (extf .f32 g bitsLt_bf16_f32) transposes_S4x1024x4096_S4x4096x1024_0_2_1))))))) (shapeCast _ (extractStridedSlice S1x1024x1024 ![1, 0, 0] w slices_S2x1024x1024_S1x1024x1024_1_0_0) shapeCasts_S1x1024x1024_S1024x1024))

theorem rr_apply (b : Fin 4) (s : Fin 4096) (d : Fin 1024) : rr o g h w (ix3 b s d) = resid o g h w b s.val d := by
  unfold resid gated
  have hs : pos s.val = s := Fin.ext (Nat.mod_eq_of_lt s.isLt)
  rw [hs]
  pointwise [rr]
  rfl

/-- The mean over the features. -/
def rmean (z : FVec Ideal S4x4096x1024 .f32) : FVec Ideal S4x4096x1 .f32 :=
  Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))

theorem rmean_apply (z : FVec Ideal S4x4096x1024 .f32) (b : Fin 4) (s : Fin 4096) : rmean z (ix3 b s 0) = mean fun k => z (ix3 b s k) := by
  pointwise [rmean]
  rfl

/-- The rows with their means taken off. -/
def rd (z : FVec Ideal S4x4096x1024 .f32) : FVec Ideal S4x4096x1024 .f32 :=
  subf z (broadcastInDim S4x4096x1024 ![0, 1, 2] bcast_S4x4096x1_S4x4096x1024_0_1_2 (rmean z))

theorem rd_apply (z : FVec Ideal S4x4096x1024 .f32) (b : Fin 4) (s : Fin 4096) (d : Fin 1024) :
    rd z (ix3 b s d) = z (ix3 b s d) - mean fun k => z (ix3 b s k) := by
  pointwise [rd]
  rw [rmean_apply]

/-- The reference's output. -/
def rout : FVec Ideal S4x4096x1024 .f32 :=
  addf (mulf (mulf (rd (rr o g h w)) (broadcastInDim S4x4096x1024 ![0, 1, 2] bcast_S4x4096x1_S4x4096x1024_0_1_2 (Host.rsqrt (addf (rmean (mulf (rd (rr o g h w)) (rd (rr o g h w)))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ (extractStridedSlice S1x1024 ![1, 0] lg slices_S2x1024_S1x1024_1_0) shapeCasts_S1x1024_S1024)))) (broadcastInDim S4x4096x1024 ![0, 1, 2] bcast_S1x1x1024_S4x4096x1024_0_1_2 (broadcastInDim S1x1x1024 ![2] bcast_S1024_S1x1x1024_2 (shapeCast _ (extractStridedSlice S1x1024 ![1, 0] lb slices_S2x1024_S1x1024_1_0) shapeCasts_S1x1024_S1024)))

theorem rout_eq : rout o g h w lg lb = outOf o g h w lg lb := by
  funext i
  idx_vars i
  pointwise [rout]
  rw [rmean_apply]
  pointwise
  simp only [rd_apply, rr_apply]
  rfl

end Cert.Reference3Ideal.Value
-- ==== Proof.Algebra3.lean ====
/-
  The output projection and its reference end with the same result.
-/
module

public import proofs.«01_k».proof.Proof.Result3
public import proofs.«01_k».proof.Proof.RefValue3
public import proofs.«01_k».proof.Proof.Frames3

@[expose] public section

set_option maxRecDepth 16384

noncomputable section

namespace Cert.Proof

open Idealize.ShloMosaic Idealize.ShloMosaic.TcCoe Idealize.SL.Sem Cert.Kernel3Ideal.Rows
open Cert.Reference3Ideal.Value (rout rout_eq)

/-- Over the extended reals the output projection and its reference end with equal outputs of the layer, and each leaves
    its arguments as they were. -/
theorem algebraic3 : Cert.algebraic_Kernel3Ideal_Reference3Ideal := by
  intro m ρ m' ρ' _ hagree
  refine ⟨fun c => outArr m c,
    (θ_run Cert.Kernel3Ideal.defs _ _).mono (fun r h c => ?_) (Cert.Kernel3Ideal.Value.run_blocks (F := Ideal) m ρ),
    (θ_run Cert.Reference3Ideal.defs _ _).mono (fun r h c => ?_) (Cert.Reference3Ideal.Value.run (F := Ideal) m' ρ')⟩
  · obtain ⟨r6, rest⟩ := h c
    exact ⟨r6.trans (final6 m c), rest⟩
  · obtain ⟨r0, rest⟩ := h c
    obtain ⟨h0, h1, h2, h3, h4, h5⟩ := hagree c
    refine ⟨r0.trans ?_, rest⟩
    unfold Cert.Reference3Ideal.Value.res_main_v39
    rw [h0, h1, h2, h3, h4, h5]
    exact rout_eq (argO m c) (argG m c) (argH m c) (argW m c) (argLg m c) (argLb m c)

end Cert.Proof

end
-- ==== Proof.Frames4.lean ====
/-
  The frames of the bias tiles' three programs and the claim that naming log2(e) is the rule's rewriting.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

noncomputable section

namespace Cert.Proof

open Idealize.ShloMosaic Idealize.SL.Sem

instance factsK4 : Cert.Kernel4.Facts := Cert.Kernel4.Gen.facts
instance factsKI4 : Cert.Kernel4Ideal.Facts := Cert.Kernel4Ideal.Gen.facts
instance factsRI4 : Cert.Reference4Ideal.Facts := Cert.Reference4Ideal.Gen.facts

/-- The bias tiles' call runs to the end and leaves its arguments as they were. -/
theorem frame_p4 : Cert.quiescent_Kernel4 := fun m ρ _ => Cert.Kernel4.Gen.frame m ρ

/-- So does its idealization. -/
theorem frame_pi4 : Cert.quiescent_Kernel4Ideal := fun m ρ _ => Cert.Kernel4Ideal.Gen.frame m ρ

/-- So does its reference. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The bias tiles' named constant is the value its name states. -/
theorem preserves4 : Cert.preserves_Kernel4_Kernel4Ideal :=
  IdealRules.named_const.statement Cert.Kernel4Ideal.κ "log2e" .f32 0x3FB8AA3B#32 _ rfl

end Cert.Proof

end
-- ==== Proof.Bias.lean ====
/-
  The tiles of the relative position bias: what the call's result is, from the table.
-/
module

public import proofs.«01_k».proof.Proof.Spec

@[expose] public section

noncomputable section

namespace Cert.Bias

open Idealize.ShloMosaic Cert.Stick

/-- The table's array: bucket, head. -/
abbrev ST : Shape := ⟨2, ![32, 16]⟩
/-- The tiles' array: head, tile, row, column. -/
abbrev SB : Shape := ⟨4, ![16, 2, 256, 256]⟩

/-- The bucket of a distance: itself below 16, and from there a step for every factor of `8 ^ (1 / 16)`, 31 at the most. -/
def bucket (n : ℕ) : ℕ := if n < 16 then n else min 31 (16 + (Nat.log2 (n ^ 16) - 64) / 3)

theorem bucket_lt (n : ℕ) : bucket n < 32 := by
  unfold bucket
  split <;> omega

/-- The bias a head puts on a distance. -/
def biasAt (x : ST.Idx → EReal) (h : Fin 16) (n : ℕ) : EReal := x (ix2 ⟨bucket n, bucket_lt n⟩ h) * invLn2

/-- Where the column lies after the row. -/
def outside : EReal := Ideal.ofBits .f32 0xF149F2CA#32

/-- The tiles: tile `t` holds the bias of the distance `column + 256 t - row`. -/
def tilesOf (x : ST.Idx → EReal) : SB.Idx → EReal :=
  fun i => if (i 2).val ≤ (i 3).val + 256 * (i 1).val then biasAt x (i 0) ((i 3).val + 256 * (i 1).val - (i 2).val) else outside

/-- The sixteenths of `log (n / 16) / log 8` below the quotient are what the bucket counts. -/
theorem floor_log (n : ℕ) (h : 16 ≤ n) :
    ⌊Real.log ((n : ℝ) / 16) / Real.log 8 * 16⌋ = (((Nat.log2 (n ^ 16) - 64) / 3 : ℕ) : ℤ) := by
  have hn : (0 : ℝ) < n := by exact_mod_cast (by omega : 0 < n)
  have hn0 : n ^ 16 ≠ 0 := pow_ne_zero _ (by omega)
  have l8 : Real.log 8 = 3 * Real.log 2 := by
    rw [show (8 : ℝ) = 2 ^ 3 by norm_num, Real.log_pow]; norm_num
  have l16 : Real.log 16 = 4 * Real.log 2 := by
    rw [show (16 : ℝ) = 2 ^ 4 by norm_num, Real.log_pow]; norm_num
  have p2 : 0 < Real.log 2 := Real.log_pos (by norm_num)
  have key : ∀ k : ℕ, (k : ℝ) ≤ Real.log ((n : ℝ) / 16) / Real.log 8 * 16 ↔ 64 + 3 * k ≤ Nat.log2 (n ^ 16) := by
    intro k
    have e : 2 ^ (64 + 3 * k) ≤ n ^ 16 ↔ ((64 + 3 * k : ℕ) : ℝ) * Real.log 2 ≤ (16 : ℕ) * Real.log n := by
      rw [← Real.log_pow, ← Real.log_pow, Real.log_le_log_iff (by positivity) (by positivity)]
      exact_mod_cast Iff.rfl
    rw [Nat.le_log2 hn0, e, Real.log_div hn.ne' (by norm_num), l8, l16, div_mul_eq_mul_div, le_div_iff₀ (by positivity)]
    push_cast
    constructor <;> intro h <;> nlinarith
  have h64 : 64 ≤ Nat.log2 (n ^ 16) := by
    rw [Nat.le_log2 hn0]
    exact le_trans (by norm_num) (Nat.pow_le_pow_left h 16)
  rw [Int.floor_eq_iff]
  constructor
  · have := (key ((Nat.log2 (n ^ 16) - 64) / 3)).2 (by omega)
    exact_mod_cast this
  · by_contra hc
    have := (key ((Nat.log2 (n ^ 16) - 64) / 3 + 1)).1 (by push_cast; exact not_lt.1 (by exact_mod_cast hc))
    omega

end Cert.Bias

end
-- ==== Proof.Body4.lean ====
/-
  What the bias tiles' body stores for a head, read at an index.
-/
module

public import proofs.«01_k».proof.Proof.Gen.Kernel4Ideal.Value
public import proofs.«01_k».proof.Proof.Bias
public import Idealize.ShloMosaic.Lib.Pointwise
public import Idealize.ShloMosaic.Lib.WritesUnit

@[expose] public section

set_option maxRecDepth 16384

noncomputable section

namespace Cert.Kernel4Ideal.Tiles

open Cert.Kernel4Ideal Cert.Kernel4Ideal.Gen Idealize.ShloMosaic Idealize.ShloMosaic.TcCoe Idealize.SL.Sem Cert.Stick Cert.Bias

/-- The factor denotes `1 / ln 2`. -/
theorem log2e_eq : Named.named (F := Ideal) κ "log2e" (φ := .f32) 0x3FB8AA3B#32 = invLn2 :=
  IdealRules.named_const.ideal_named_scalar _ _ _ _ rfl

theorem pay2_apply (z : FVec Ideal S256x1024 .f32) (r d : Fin 256) :
    k0_pay2 z (ix4 0 0 r d) = z (ix2 r ⟨256 + d.val - r.val, by have := d.isLt; have := r.isLt; omega⟩) := by
  pointwise [k0_pay2, k0_pay1]
  congr 2
  refine Fin.ext ?_
  have := d.isLt
  have := r.isLt
  show (256 + d.val + 1024 - r.val % 1024) % 1024 = 256 + d.val - r.val
  omega

theorem pay3_apply (z : FVec Ideal S256x1024 .f32) (r d : Fin 256) :
    k0_pay3 z (ix4 0 0 r d) = z (ix2 r ⟨512 + d.val - r.val, by have := d.isLt; have := r.isLt; omega⟩) := by
  pointwise [k0_pay3, k0_pay1]
  congr 2
  refine Fin.ext ?_
  have := d.isLt
  have := r.isLt
  show (512 + d.val + 1024 - r.val % 1024) % 1024 = 512 + d.val - r.val
  omega

section
variable (c : Dev nD) (i : grid0.Coords) (arg1 : Memref sig .tc .smem S512 .f32) (harg1 : arg1.IsWhole) (arg2 : Memref sig .tc .vmem S1x1024 .i32) (harg2 : arg2.IsWhole)
  (arg3 : Memref sig .tc .vmem S1x2x256x256 .f32) (harg3 : arg3.IsWhole) (x0 : Vec Ideal S512 .f32) (x1 : Vec Ideal S1x1024 .i32)

/-- Entry `n` past the head's first. -/
def cell (n : ℕ) : EReal := x0 (ix1 ⟨(n + (i 0).val) % 512, Nat.mod_lt _ (by omega)⟩)

theorem off_eq (n : ℕ) (h : n + 16 ≤ 512) : k0_off1 i (BitVec.ofNat 32 n) 0 = n + (i 0).val := by
  have hi : (i 0).val < 16 := (i 0).isLt
  show (BitVec.ofNat 32 n + BitVec.ofNat 32 (i 0).val).toNat = _
  rw [BitVec.toNat_add, BitVec.toNat_ofNat, BitVec.toNat_ofNat]
  omega

theorem load_eq (n : ℕ) (h : n + 16 ≤ 512) (inb : ∀ a, k0_off1 i (BitVec.ofNat 32 n) a + S1.size a ≤ S512.size a) (h1 : ∀ a, 0 < S1.size a) :
    arg1.view.readAt (Elt Ideal) (Rect.unit (s := S512) (k0_off1 i (BitVec.ofNat 32 n)) S1.size inb).toLoadRect (harg1.unread x0) (fun a => ⟨0, h1 a⟩)
      = cell i x0 n := by
  have hi : (i 0).val < 16 := (i 0).isLt
  rw [View.readAt_apply, Memref.IsWhole.read_unread]
  unfold cell
  congr 1
  funext a
  match a with
  | ⟨0, _⟩ =>
    refine Fin.ext ?_
    show k0_off1 i (BitVec.ofNat 32 n) 0 + 1 * 0 = (n + (i 0).val) % 512
    rw [off_eq i n h]
    omega

theorem load_first (n : ℕ) (h : n + 16 ≤ 512) (inb : ∀ a, k0_off1 i (BitVec.ofNat 32 n) a + (![1] : Fin 1 → ℕ) a ≤ S512.size a)
    (h1 : 0 < (Rect.unit (s := S512) (k0_off1 i (BitVec.ofNat 32 n)) ![1] inb).toLoadRect.shape.numel) :
    arg1.view.readAt (Elt Ideal) (Rect.unit (s := S512) (k0_off1 i (BitVec.ofNat 32 n)) ![1] inb).toLoadRect (harg1.unread x0) (Shape.Idx.first h1)
      = cell i x0 n :=
  load_eq i arg1 harg1 x0 n h inb _

theorem loadAll (off : Fin 2 → ℕ) (h0 : ∀ a, off a = 0) (inb : ∀ a, off a + S1x1024.size a ≤ S1x1024.size a) :
    arg2.view.readAt (Elt Ideal) (Rect.unit (s := S1x1024) off S1x1024.size inb).toLoadRect (harg2.unread x1) = x1 := by
  funext j
  rw [View.readAt_apply, Memref.IsWhole.read_unread]
  congr 1
  funext a
  refine Fin.ext ?_
  show off a + 1 * (j a).val = (j a).val
  rw [h0]
  omega

/-- The 32 selects, from the last bucket's down: a lane holds its bucket's entry, or none. -/
theorem chain (r : Fin 256) (l : Fin 1024) :
    (∀ b : ℕ, b < 32 → x1 (ix2 0 l) = BitVec.ofNat 32 b → kernelRun0_A.sl.r_45 c i arg1 harg1 arg2 harg2 x0 x1 (ix2 r l) = cell i x0 (16 * b) * invLn2)
      ∧ (x1 (ix2 0 l) = -1#32 → kernelRun0_A.sl.r_45 c i arg1 harg1 arg2 harg2 x0 x1 (ix2 r l) = outside) := by
  unfold kernelRun0_A.sl.r_45 kernelRun0_A.sl.r_44 kernelRun0_A.sl.r_43 kernelRun0_A.sl.r_42 kernelRun0_A.sl.r_41 kernelRun0_A.sl.r_40 kernelRun0_A.sl.r_39 kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_29
  rw [loadAll arg2 harg2 x1 _ (by decide)]
  simp only [load_first, Nat.reduceAdd, Nat.reduceLeDiff]
  pointwise [k0_pay16, k0_pay15, k0_pay14, k0_pay13, k0_pay12, k0_pay11, k0_pay10, k0_pay9, k0_pay8, k0_pay7, k0_pay6, k0_pay5, k0_pay4]
  rw [log2e_eq]
  generalize x1 (ix2 0 l) = w
  constructor
  · intro b hb hw
    subst hw
    interval_cases b <;> rfl
  · intro hw
    subst hw
    rfl

/-- Both tiles of the head. -/
theorem out2_apply (t : Fin 2) (r d : Fin 256) :
    out0_A_2 c i arg1 harg1 arg2 harg2 arg3 harg3 x0 x1 (ix4 0 t r d)
      = kernelRun0_A.sl.r_45 c i arg1 harg1 arg2 harg2 x0 x1 (ix2 r ⟨256 * (t.val + 1) + d.val - r.val, by have := t.isLt; have := d.isLt; have := r.isLt; omega⟩) := by
  unfold out0_A_2 kernelRun0_A
  dsimp only
  have ht : t = 0 ∨ t = 1 := by
    match t with
    | ⟨0, _⟩ => exact Or.inl rfl
    | ⟨1, _⟩ => exact Or.inr rfl
  rcases ht with rfl | rfl
  · refine (View.read_writes_cons_unit_of_not_mem VO0_2 _ _ _ _ (ix4 0 0 r d) rfl 1 (Or.inl (show 0 < 1 from Nat.one_pos))).trans ?_
    refine (View.read_writes_cons_unit_of_mem VO0_2 _ _ _ _ (ix4 0 0 r d) (ix4 0 0 r d) rfl fun a => ?_).trans ?_
    · match a with
      | ⟨0, _⟩ => rfl
      | ⟨1, _⟩ => rfl
      | ⟨2, _⟩ => exact (Nat.zero_add _).symm
      | ⟨3, _⟩ => exact (Nat.zero_add _).symm
    · exact pay2_apply _ r d
  · refine (View.read_writes_cons_unit_of_mem VO0_2 _ _ _ _ (ix4 0 1 r d) (ix4 0 0 r d) rfl fun a => ?_).trans ?_
    · match a with
      | ⟨0, _⟩ => rfl
      | ⟨1, _⟩ => rfl
      | ⟨2, _⟩ => exact (Nat.zero_add _).symm
      | ⟨3, _⟩ => exact (Nat.zero_add _).symm
    · exact pay3_apply _ r d

end

end Cert.Kernel4Ideal.Tiles

end
-- ==== Proof.Result4.lean ====
/-
  The bias tiles' result: what a grid point writes back is its head's two tiles, and the heads make up the array.
-/
module

public import proofs.«01_k».proof.Proof.Body4

@[expose] public section

set_option maxRecDepth 16384

noncomputable section

namespace Cert.Kernel4Ideal.Tiles

open Cert.Kernel4Ideal Cert.Kernel4Ideal.Gen Idealize.ShloMosaic Idealize.ShloMosaic.TcCoe Idealize.ShloMosaic.StableHlo Idealize.SL.Sem Cert.Stick Cert.Bias

theorem N_eq : cfg0.N = 16 := rfl

theorem index0 : ∀ t : Fin grid0.N, win0_0.index t 0 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 ∧ win0_2.index t 2 = 0 ∧ win0_2.index t 3 = 0 := by decide +kernel
theorem coords_eq : ∀ t : Fin grid0.N, (grid0.coords t 0).val = t.val := by decide +kernel

/-- The head of a grid point. -/
def hOf (t : Fin cfg0.N) : Fin 16 := ⟨t.val, by have := t.isLt; have := N_eq; omega⟩

/-- The literal's first 256 lanes hold no bucket. -/
theorem lit_before : ∀ n : Fin 256, lit0 ⟨n.val, by have := n.isLt; show n.val < 1024; omega⟩ = -1#32 := by decide +kernel

/-- The others hold the bucket of the lane's distance. -/
theorem lit_bucket : ∀ n : Fin 768, lit0 ⟨256 + n.val, by have := n.isLt; show 256 + n.val < 1024; omega⟩ = BitVec.ofNat 32 (bucket n.val) := by
  decide +kernel

variable (m : (ℓ : Loc nD τ sig) → Buf (Elt Ideal) ℓ)

/-- The table. -/
def argT (c : Dev nD) : Vec Ideal S32x16 .f32 := m ((c : Thread nD τ).loc main_arg0)

/-- The buckets are what the region is entered with. -/
theorem entryB (c : Dev nD) (l : Fin 1024) : (V m c main_v0 : Vec Ideal S1x1024 .i32) (ix2 0 l) = lit0 l := by
  have h : (V m c main_v0 : Vec Ideal S1x1024 .i32) = broadcastInDim S1x1024 ![1] bcast_S1024_S1x1024_1 (fun i => lit0 (S1024.rowMajor i)) := by
    unfold V
    simp only [hostOps0, cast_eq]
    after_results_simp <;> rfl
  rw [h]
  pointwise
  refine congrArg lit0 (Fin.ext ?_)
  exact Shape.rowMajor_val_one _

/-- So is the table, flat. -/
theorem entryT (c : Dev nD) (b : Fin 32) (h : Fin 16) :
    (V m c main_v1 : Vec Ideal S512 .f32) (ix1 ⟨16 * b.val + h.val, by have := b.isLt; have := h.isLt; omega⟩) = argT m c (ix2 b h) := by
  have e : (V m c main_v1 : Vec Ideal S512 .f32) = shapeCast S512 (argT m c) shapeCasts_S32x16_S512 := by
    unfold V
    simp only [hostOps0, cast_eq]
    after_results_simp <;> rfl
  rw [e]
  have := b.isLt
  have := h.isLt
  pointwise

/-- The table is staged whole. -/
theorem iblk0_eq (c : Dev nD) (t : Fin cfg0.N) : (iblk m c 0 t : Vec Ideal S512 .f32) = V m c main_v1 := by
  have h0 := index0 t
  funext j
  unfold iblk
  rw [View.read_apply]
  show V m c main_v1 _ = V m c main_v1 _
  congr 1
  funext a
  refine Fin.ext ?_
  match a with
  | ⟨0, _⟩ => show win0_0.index t 0 * 512 + 1 * (j 0).val = (j 0).val; rw [h0]; omega

/-- So are the buckets. -/
theorem iblk1_eq (c : Dev nD) (t : Fin cfg0.N) : (iblk m c 1 t : Vec Ideal S1x1024 .i32) = V m c main_v0 := by
  obtain ⟨h0, h1⟩ := index1 t
  funext j
  unfold iblk
  rw [View.read_apply]
  show V m c main_v0 _ = V m c main_v0 _
  congr 1
  funext a
  refine Fin.ext ?_
  match a with
  | ⟨0, _⟩ => show win0_1.index t 0 * 1 + 1 * (j 0).val = (j 0).val; rw [h0]; omega
  | ⟨1, _⟩ => show win0_1.index t 1 * 1024 + 1 * (j 1).val = (j 1).val; rw [h1]; omega

/-- The tiles as the table gives them. -/
def tilesArr (c : Dev nD) : Vec Ideal S16x2x256x256 .f32 := tilesOf (argT m c)

/-- What a grid point writes back is its head's tiles. -/
theorem flushed2_eq (c : Dev nD) (t : Fin cfg0.N) :
    (dats m 0 c).flushed 2 t = ((cfg0.win 2).blk t).view.read (Elt Ideal) (tilesArr m c) := by
  rw [Value.flushed2_A m c t]
  obtain ⟨h0, h1, h2, h3⟩ := index2 t
  have ht : t.val < 16 := t.isLt
  refine funext fun (i : S1x2x256x256.Idx) => ?_
  idx_vars i
  rw [View.read_apply]
  have l0 := i0.isLt
  have l1 := i1.isLt
  have l2 := i2.isLt
  have l3 := i3.isLt
  have z : i0 = 0 := Fin.ext (Nat.lt_one_iff.1 l0)
  subst z
  refine (out2_apply c _ _ _ _ _ _ _ _ _ i1 i2 i3).trans ?_
  have e : ((cfg0.win 2).blk t).view.emb (ix4 0 i1 i2 i3) = (ix4 (hOf t) ⟨i1.val, by omega⟩ ⟨i2.val, by omega⟩ ⟨i3.val, by omega⟩ : S16x2x256x256.Idx) := by
    funext a
    refine Fin.ext ?_
    match a with
    | ⟨0, _⟩ => show win0_2.index t 0 * 1 + 1 * 0 = t.val; rw [h0]; omega
    | ⟨1, _⟩ => show win0_2.index t 1 * 2 + 1 * i1.val = i1.val; rw [h1]; omega
    | ⟨2, _⟩ => show win0_2.index t 2 * 256 + 1 * i2.val = i2.val; rw [h2]; omega
    | ⟨3, _⟩ => show win0_2.index t 3 * 256 + 1 * i3.val = i3.val; rw [h3]; omega
  refine Eq.trans ?_ (congrArg (tilesArr m c) e).symm
  unfold tilesArr tilesOf
  rw [iblk0_eq, iblk1_eq]
  have hc := chain c (grid0.coords t) (ms0_0 t) (hs0_0 t) (ms0_1 t) (hs0_1 t) (V m c main_v1) (V m c main_v0) i2
    ⟨256 * (i1.val + 1) + i3.val - i2.val, by omega⟩
  rw [entryB] at hc
  by_cases h : i2.val ≤ i3.val + 256 * i1.val
  · refine Eq.trans ?_ (if_pos h).symm
    have hb := bucket_lt (i3.val + 256 * i1.val - i2.val)
    refine (hc.1 (bucket (i3.val + 256 * i1.val - i2.val)) hb ?_).trans ?_
    · refine Eq.trans (congrArg lit0 (Fin.ext ?_)) (lit_bucket ⟨i3.val + 256 * i1.val - i2.val, by omega⟩)
      show 256 * (i1.val + 1) + i3.val - i2.val = 256 + (i3.val + 256 * i1.val - i2.val)
      omega
    · unfold biasAt
      refine congrArg (· * invLn2) ?_
      refine Eq.trans ?_ (entryT m c ⟨_, hb⟩ (hOf t))
      unfold cell
      refine congrArg (fun k => (V m c main_v1 : Vec Ideal S512 .f32) (ix1 k)) (Fin.ext ?_)
      show (16 * bucket (i3.val + 256 * i1.val - i2.val) + (grid0.coords t 0).val) % 512 = 16 * bucket (i3.val + 256 * i1.val - i2.val) + t.val
      rw [coords_eq t]
      omega
  · refine Eq.trans ?_ (if_neg h).symm
    refine hc.2 (Eq.trans (congrArg lit0 (Fin.ext ?_)) (lit_before ⟨256 * (i1.val + 1) + i3.val - i2.val, by omega⟩))
    rfl

/-- Every index of the array lies in some grid point's block. -/
theorem covered2 (i : S16x2x256x256.Idx) : ∃ t : Fin cfg0.N, (cfg0.win 2).flush t = true ∧ i ∈ ((cfg0.win 2).blk t).view.set := by
  have i0 : (i 0).val < 16 := (i 0).isLt
  have i1 : (i 1).val < 2 := (i 1).isLt
  have i2 : (i 2).val < 256 := (i 2).isLt
  have i3 : (i 3).val < 256 := (i 3).isLt
  let t : Fin cfg0.N := ⟨(i 0).val, by rw [N_eq]; omega⟩
  have tv : t.val = (i 0).val := rfl
  obtain ⟨h0, h1, h2, h3⟩ := index2 t
  refine ⟨t, flush0_2 t, ?_⟩
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [h0]; omega
  | ⟨1, _⟩ =>
    show win0_2.index t 1 * 2 ≤ (i 1).val ∧ (i 1).val < win0_2.index t 1 * 2 + 2
    rw [h1]; omega
  | ⟨2, _⟩ =>
    show win0_2.index t 2 * 256 ≤ (i 2).val ∧ (i 2).val < win0_2.index t 2 * 256 + 256
    rw [h2]; omega
  | ⟨3, _⟩ =>
    show win0_2.index t 3 * 256 ≤ (i 3).val ∧ (i 3).val < win0_2.index t 3 * 256 + 256
    rw [h3]; omega

/-- The tiles after the run. -/
theorem final2 (c : Dev nD) : (dats m 0 c).arrAt 2 cfg0.N = tilesArr m c :=
  (dats m 0 c).arrAt_eq_of_cover 2 _ (fun t _ => flushed2_eq m c t) covered2

end Cert.Kernel4Ideal.Tiles

end
-- ==== Proof.RefValue4.lean ====
/-
  The bias tiles' reference, read at an index.
-/
module

public import proofs.«01_k».proof.Proof.Gen.Reference4Ideal.Run
public import proofs.«01_k».proof.Proof.Bias
public import proofs.«01_k».proof.Proof.RefValue
public import Idealize.ShloMosaic.Lib.Pointwise

@[expose] public section

noncomputable section

namespace Cert.Reference4Ideal.Value

open Cert.Reference4Ideal Cert.Reference4Ideal.Gen Idealize.ShloMosaic Cert.Stick Cert.Bias

/-- The reference's distances. -/
def rdist : IVec S2x256x256 32 :=
  subi (broadcastInDim S2x256x256 ![0, 1, 2] bcast_S2x1x256_S2x256x256_0_1_2 (addi (broadcastInDim S2x1x256 ![0, 1, 2] bcast_S1x1x256_S2x1x256_0_1_2 (broadcastInDim S1x1x256 ![2] bcast_S256_S1x1x256_2 (iotaInDim S256 32 0))) (broadcastInDim S2x1x256 ![0, 1, 2] bcast_S2x1x1_S2x1x256_0_1_2 (muli (broadcastInDim S2x1x1 ![0] bcast_S2_S2x1x1_0 (iotaInDim S2 32 0)) (broadcastInDim S2x1x1 ![] bcast_S_S2x1x1 (constantI S_ 32 256#32)))))) (broadcastInDim S2x256x256 ![0, 1, 2] bcast_S1x256x1_S2x256x256_0_1_2 (broadcastInDim S1x256x1 ![1] bcast_S256_S1x256x1_1 (iotaInDim S256 32 0)))

/-- A distance's word. -/
def dword (t : Fin 2) (r q : Fin 256) : BitVec 32 := BitVec.ofNat 32 q.val + BitVec.ofNat 32 t.val * 256#32 - BitVec.ofNat 32 r.val

theorem rdist_apply (t : Fin 2) (r q : Fin 256) : rdist (ix3 t r q) = dword t r q := by
  pointwise [rdist]
  rfl

/-- The distances from zero up. -/
def rpos : IVec S2x256x256 32 := maxsi rdist (broadcastInDim S2x256x256 ![] bcast_S_S2x256x256 (constantI S_ 32 0#32))

/-- The logarithmic buckets. -/
def rlarge : IVec S2x256x256 32 :=
  minsi (addi (broadcastInDim S2x256x256 ![] bcast_S_S2x256x256 (constantI S_ 32 16#32)) (fptosi 32 (mulf (Host.divf (Host.log (Host.divf (sitofp .f32 (maxsi rpos (broadcastInDim S2x256x256 ![] bcast_S_S2x256x256 (constantI S_ 32 1#32)))) (broadcastInDim S2x256x256 ![] bcast_S_S2x256x256 (constant S_ .f32 0x41800000#32)))) (broadcastInDim S2x256x256 ![] bcast_S_S2x256x256 (id (Host.log (constant S_ .f32 0x41000000#32))))) (broadcastInDim S2x256x256 ![] bcast_S_S2x256x256 (constant S_ .f32 0x41800000#32)) : FVec Ideal S2x256x256 .f32))) (broadcastInDim S2x256x256 ![] bcast_S_S2x256x256 (constantI S_ 32 31#32))

/-- The buckets. -/
def rbucket : IVec S2x256x256 32 :=
  select (cmpi .slt rpos (broadcastInDim S2x256x256 ![] bcast_S_S2x256x256 (constantI S_ 32 16#32))) rpos rlarge

/-- The gather's indices. -/
def rindex : IVec S2x256x256x1 32 :=
  broadcastInDim S2x256x256x1 ![0, 1, 2] bcast_S2x256x256_S2x256x256x1_0_1_2 (select (cmpi .slt rbucket (broadcastInDim S2x256x256 ![] bcast_S_S2x256x256 (constantI S_ 32 0#32))) (addi rbucket (broadcastInDim S2x256x256 ![] bcast_S_S2x256x256 (constantI S_ 32 32#32))) rbucket)

theorem maxsi_zero : ∀ n : Fin 512, IntOp.maxsi (BitVec.ofNat 32 n.val) 0#32 = BitVec.ofNat 32 n.val := by decide +kernel
theorem maxsi_one : ∀ n : Fin 512, 1 ≤ n.val → IntOp.maxsi (BitVec.ofNat 32 n.val) 1#32 = BitVec.ofNat 32 n.val := by decide +kernel
theorem slt_sixteen : ∀ n : Fin 512, IntOp.cmpi .slt (BitVec.ofNat 32 n.val) 16#32 = if n.val < 16 then 1#1 else 0#1 := by decide +kernel
theorem minsi_31 : ∀ k : Fin 512, IntOp.minsi (IntOp.addi (16#32) (BitVec.ofNat 32 k.val)) 31#32 = BitVec.ofNat 32 (min 31 (16 + k.val)) := by decide +kernel
theorem slt_zero : ∀ n : Fin 512, IntOp.cmpi .slt (BitVec.ofNat 32 n.val) 0#32 = 0#1 := by decide +kernel
theorem sge_zero : ∀ n : Fin 512, IntOp.cmpi .sge (BitVec.ofNat 32 n.val) 0#32 = 1#1 := by decide +kernel
theorem sge_neg : ∀ n : Fin 512, 1 ≤ n.val → IntOp.cmpi .sge (0#32 - BitVec.ofNat 32 n.val) 0#32 = 0#1 := by decide +kernel
theorem toInt_nat : ∀ n : Fin 512, (BitVec.ofNat 32 n.val).toInt = (n.val : ℤ) := by decide +kernel

/-- The exact value of the word of 16. -/
theorem ofBits_sixteen_f32 : Ideal.ofBits .f32 0x41800000#32 = ((16 : ℝ) : EReal) := by
  simp [Ideal.ofBits, Ideal.ieee]
  rw [← EReal.coe_mul]; norm_num

/-- The exact value of the word of 8. -/
theorem ofBits_eight_f32 : Ideal.ofBits .f32 0x41000000#32 = ((8 : ℝ) : EReal) := by
  simp [Ideal.ofBits, Ideal.ieee]
  rw [← EReal.coe_mul]; norm_num

theorem log_eight : Ideal.log (Ideal.ofBits .f32 0x41000000#32) = ((Real.log 8 : ℝ) : EReal) := by
  rw [ofBits_eight_f32, Ideal.log_coe, if_neg (by norm_num)]

/-- The integer part of the scaled logarithm. -/
theorem log_word (n : ℕ) (h : 16 ≤ n) (hn : n < 512) :
    FloatOps.fptosi (F := Ideal) (φ := .f32) 32 ((Ideal.div (Ideal.log (Ideal.div ((n : ℝ) : EReal) ((16 : ℝ) : EReal))) ((Real.log 8 : ℝ) : EReal) * ((16 : ℝ) : EReal) : EReal) : Ideal .f32)
      = BitVec.ofNat 32 ((Nat.log2 (n ^ 16) - 64) / 3) := by
  have hn16 : (16 : ℝ) ≤ n := by exact_mod_cast h
  have l8 : 0 < Real.log 8 := Real.log_pos (by norm_num)
  have hl : (Nat.log2 (n ^ 16) - 64) / 3 < 512 := by
    have : Nat.log2 (n ^ 16) < 144 := by
      rw [Nat.log2_lt (pow_ne_zero _ (by omega))]
      calc n ^ 16 < 512 ^ 16 := Nat.pow_lt_pow_left hn (by norm_num)
        _ = 2 ^ 144 := by norm_num
    omega
  have e1 : Ideal.div ((n : ℝ) : EReal) ((16 : ℝ) : EReal) = (((n : ℝ) * (1 / 16) : ℝ) : EReal) := by
    rw [Ideal.div_coe (by norm_num), ← EReal.coe_mul]
  rw [e1, Ideal.log_coe, if_neg (by rw [not_le]; positivity), Ideal.div_coe l8.ne', ← EReal.coe_mul, ← EReal.coe_mul]
  show Ideal.fptosi 32 _ = _
  unfold Ideal.fptosi
  rw [Ideal.toIntClamped_coe]
  have e : Real.log ((n : ℝ) * (1 / 16)) * (1 / Real.log 8) * 16 = Real.log ((n : ℝ) / 16) / Real.log 8 * 16 := by
    rw [mul_one_div, mul_one_div]
  have nn : 0 ≤ Real.log ((n : ℝ) / 16) / Real.log 8 * 16 :=
    mul_nonneg (div_nonneg (Real.log_nonneg (by rw [le_div_iff₀ (by norm_num)]; linarith)) l8.le) (by norm_num)
  rw [e, if_pos nn, floor_log n h]
  generalize (Nat.log2 (n ^ 16) - 64) / 3 = k at hl
  refine (congrArg (BitVec.ofInt 32) (?_ : _ = (k : ℤ))).trans (BitVec.ofInt_natCast 32 k)
  norm_num
  omega

theorem rpos_apply (i : S2x256x256.Idx) (n : ℕ) (hn : n < 512) (h : rdist i = BitVec.ofNat 32 n) : rpos i = BitVec.ofNat 32 n := by
  idx_vars i
  pointwise [rpos]
  rw [h]
  exact maxsi_zero ⟨n, hn⟩

theorem rlarge_apply (i : S2x256x256.Idx) (n : ℕ) (h16 : 16 ≤ n) (hn : n < 512) (h : rdist i = BitVec.ofNat 32 n) :
    rlarge i = BitVec.ofNat 32 (bucket n) := by
  have hp := rpos_apply i n hn h
  idx_vars i
  pointwise [rlarge]
  rw [hp, maxsi_one ⟨n, hn⟩ (by show 1 ≤ n; omega)]
  have e : (FloatOps.sitofp FTy.f32 (BitVec.ofNat 32 n) : Ideal .f32) = (((n : ℝ) : EReal) : Ideal .f32) := by
    show ((((BitVec.ofNat 32 n).toInt : ℤ) : ℝ) : EReal) = _
    rw [toInt_nat ⟨n, hn⟩]
    simp
  have e8 : (id (Host.log (constant (F := Ideal) S_ FTy.f32 0x41000000#32)) ix0 : EReal) = ((Real.log 8 : ℝ) : EReal) := log_eight
  rw [e, e8, ofBits_sixteen_f32, log_word n h16 hn]
  have hl : (Nat.log2 (n ^ 16) - 64) / 3 < 512 := by
    have : Nat.log2 (n ^ 16) < 144 := by
      rw [Nat.log2_lt (pow_ne_zero _ (by omega))]
      calc n ^ 16 < 512 ^ 16 := Nat.pow_lt_pow_left hn (by norm_num)
        _ = 2 ^ 144 := by norm_num
    omega
  rw [minsi_31 ⟨_, hl⟩]
  unfold bucket
  rw [if_neg (by omega)]

theorem rbucket_apply (i : S2x256x256.Idx) (n : ℕ) (hn : n < 512) (h : rdist i = BitVec.ofNat 32 n) : rbucket i = BitVec.ofNat 32 (bucket n) := by
  have hp := rpos_apply i n hn h
  by_cases h16 : n < 16
  · idx_vars i
    pointwise [rbucket]
    rw [hp, slt_sixteen ⟨n, hn⟩, if_pos h16]
    unfold bucket
    rw [if_pos h16]
    rfl
  · have hl := rlarge_apply i n (by omega) hn h
    idx_vars i
    pointwise [rbucket]
    rw [hp, hl, slt_sixteen ⟨n, hn⟩, if_neg h16]
    rfl

theorem rindex_apply (t : Fin 2) (r q : Fin 256) (n : ℕ) (hn : n < 512) (h : rdist (ix3 t r q) = BitVec.ofNat 32 n) :
    rindex (ix4 t r q 0) = BitVec.ofNat 32 (bucket n) := by
  have hp := rbucket_apply _ n hn h
  pointwise [rindex]
  have hb := bucket_lt n
  rw [hp, slt_zero ⟨bucket n, by omega⟩]
  rfl

/-- The reference's gather takes the row its index names, in range. -/
theorem gather_apply (x : FVec Ideal S32x16 .f32) (idx : IVec S2x256x256x1 32) (t : Fin 2) (r q : Fin 256) (h : Fin 16) :
    Host.gather gather_S32x16_S2x256x256x1_S2x256x256x16_3_0_n_n_0_3_116 x idx (ix4 t r q h)
      = x (ix2 ⟨min (idx (ix4 t r q 0)).toInt.toNat 31, by omega⟩ h) := by
  unfold Host.gather
  refine congrArg x (funext fun a => Fin.ext ?_)
  show GatherDims.start _ (ix4 t r q h) idx a + GatherDims.batchCoord _ (ix4 t r q h) a + GatherDims.offCoord _ (ix4 t r q h) a = _
  have h01 : a = (0 : Fin 2) ∨ a = (1 : Fin 2) := by
    match a with
    | ⟨0, _⟩ => exact Or.inl rfl
    | ⟨1, _⟩ => exact Or.inr rfl
  rw [GatherDims.batchCoord_eq_zero _ _ _ (fun h => by simp [gather_S32x16_S2x256x256x1_S2x256x256x16_3_0_n_n_0_3_116] at h)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x16_S2x256x256x1_S2x256x256x16_3_0_n_n_0_3_116.startIndexMap from List.mem_singleton.mpr rfl)]
    have hsi : gather_S32x16_S2x256x256x1_S2x256x256x16_3_0_n_n_0_3_116.siIdx (ix4 t r q h)
        ⟨List.idxOf (0 : Fin 2) gather_S32x16_S2x256x256x1_S2x256x256x16_3_0_n_n_0_3_116.startIndexMap, List.idxOf_lt_length_iff.2 (List.mem_singleton.mpr rfl)⟩
          = ix4 t r q 0 := by
      funext b
      refine Fin.ext ?_
      match b with
      | ⟨0, _⟩ => rfl
      | ⟨1, _⟩ => rfl
      | ⟨2, _⟩ => rfl
      | ⟨3, _⟩ => rfl
    rw [hsi]
    rfl
  · unfold GatherDims.start GatherDims.offCoord
    rw [dif_neg (show (1 : Fin 2) ∉ gather_S32x16_S2x256x256x1_S2x256x256x16_3_0_n_n_0_3_116.startIndexMap by decide),
      dif_pos (show (1 : Fin 2) ∈ gather_S32x16_S2x256x256x1_S2x256x256x16_3_0_n_n_0_3_116.sKept by decide)]
    show 0 + 0 + h.val = h.val
    omega

/-- Over `ln 2` is times its inverse. -/
theorem over_ln2 (a : EReal) : Ideal.div a ln2 = a * invLn2 := by
  unfold ln2
  rw [Ideal.div_coe (Real.log_pos (by norm_num : (1 : ℝ) < 2)).ne', one_div]
  rfl

theorem dword_pos (t : Fin 2) (r q : Fin 256) (h : r.val ≤ q.val + 256 * t.val) : dword t r q = BitVec.ofNat 32 (q.val + 256 * t.val - r.val) := by
  have := t.isLt
  have := r.isLt
  have := q.isLt
  refine BitVec.eq_of_toNat_eq ?_
  unfold dword
  rw [BitVec.toNat_sub, BitVec.toNat_add, BitVec.toNat_mul, BitVec.toNat_ofNat, BitVec.toNat_ofNat, BitVec.toNat_ofNat, BitVec.toNat_ofNat, BitVec.toNat_ofNat]
  omega

theorem dword_neg (t : Fin 2) (r q : Fin 256) (h : ¬r.val ≤ q.val + 256 * t.val) : dword t r q = 0#32 - BitVec.ofNat 32 (r.val - (q.val + 256 * t.val)) := by
  have := t.isLt
  have := r.isLt
  have := q.isLt
  refine BitVec.eq_of_toNat_eq ?_
  unfold dword
  rw [BitVec.toNat_sub, BitVec.toNat_add, BitVec.toNat_mul, BitVec.toNat_ofNat, BitVec.toNat_ofNat, BitVec.toNat_ofNat, BitVec.toNat_ofNat,
    BitVec.toNat_sub, BitVec.toNat_ofNat, BitVec.toNat_ofNat]
  omega

variable (x : FVec Ideal S32x16 .f32)

/-- The reference's tiles. -/
def rtiles : FVec Ideal S16x2x256x256 .f32 :=
  select (broadcastInDim S16x2x256x256 ![1, 2, 3] bcast_S2x256x256_S16x2x256x256_1_2_3 (cmpi .sge rdist (broadcastInDim S2x256x256 ![] bcast_S_S2x256x256 (constantI S_ 32 0#32)))) (Host.divf (transpose S16x2x256x256 [3, 0, 1, 2] (Host.gather gather_S32x16_S2x256x256x1_S2x256x256x16_3_0_n_n_0_3_116 x rindex) transposes_S2x256x256x16_S16x2x256x256_3_0_1_2) (broadcastInDim S16x2x256x256 ![] bcast_S_S16x2x256x256 (id (Host.log (constant S_ .f32 0x40000000#32))))) (broadcastInDim S16x2x256x256 ![] bcast_S_S16x2x256x256 (id (constant S_ .f32 0xF149F2CA#32)))

/-- An entry whose key comes no later than the query. -/
theorem entry_pos (h : Fin 16) (t : Fin 2) (r q : Fin 256) (n : ℕ) (hn : n < 512) (hd : dword t r q = BitVec.ofNat 32 n) :
    Scalar.select (IntOp.cmpi .sge (dword t r q) 0#32)
      (Host.gather gather_S32x16_S2x256x256x1_S2x256x256x16_3_0_n_n_0_3_116 x rindex (ix4 t r q h) * invLn2) outside = biasAt x h n := by
  have hb := bucket_lt n
  have sel : ∀ a b : EReal, Scalar.select 1#1 a b = a := fun _ _ => rfl
  have hi := rindex_apply t r q n hn ((rdist_apply t r q).trans hd)
  have hr : min (rindex (ix4 t r q 0)).toInt.toNat 31 = bucket n := by
    rw [hi, toInt_nat ⟨bucket n, by omega⟩]
    show min (bucket n : ℤ).toNat 31 = bucket n
    omega
  rw [hd, sge_zero ⟨n, hn⟩, sel, gather_apply]
  unfold biasAt
  exact congrArg (fun k => x (ix2 k h) * invLn2) (Fin.ext hr)

/-- An entry whose key comes later. -/
theorem entry_neg (a : EReal) (t : Fin 2) (r q : Fin 256) (n : ℕ) (h1 : 1 ≤ n) (hn : n < 512) (hd : dword t r q = 0#32 - BitVec.ofNat 32 n) :
    Scalar.select (IntOp.cmpi .sge (dword t r q) 0#32) a outside = outside := by
  rw [hd, sge_neg ⟨n, hn⟩ h1]
  rfl

theorem rtiles_apply (h : Fin 16) (t : Fin 2) (r q : Fin 256) :
    rtiles x (ix4 h t r q) = Scalar.select (IntOp.cmpi .sge (dword t r q) 0#32)
      (Host.gather gather_S32x16_S2x256x256x1_S2x256x256x16_3_0_n_n_0_3_116 x rindex (ix4 t r q h) * invLn2) outside := by
  have l2 : (id (Host.log (constant (F := Ideal) S_ FTy.f32 0x40000000#32)) ix0 : EReal) = ln2 := Cert.ReferenceIdeal.Value.log_two
  pointwise [rtiles]
  rw [l2, over_ln2, rdist_apply]
  rfl

theorem rtiles_eq : rtiles x = tilesOf x := by
  funext i
  idx_vars i
  have := i1.isLt
  have := i2.isLt
  have := i3.isLt
  rw [rtiles_apply]
  by_cases h : i2.val ≤ i3.val + 256 * i1.val
  · exact (entry_pos x i0 i1 i2 i3 _ (by omega) (dword_pos i1 i2 i3 h)).trans (if_pos h).symm
  · exact (entry_neg _ i1 i2 i3 _ (by omega) (by omega) (dword_neg i1 i2 i3 h)).trans (if_neg h).symm

end Cert.Reference4Ideal.Value

end
-- ==== Proof.Algebra4.lean ====
/-
  The bias tiles and their reference end with the same result.
-/
module

public import proofs.«01_k».proof.Proof.Result4
public import proofs.«01_k».proof.Proof.RefValue4
public import proofs.«01_k».proof.Proof.Frames4

@[expose] public section

set_option maxRecDepth 16384

noncomputable section

namespace Cert.Proof

open Idealize.ShloMosaic Idealize.ShloMosaic.TcCoe Idealize.SL.Sem Cert.Kernel4Ideal.Tiles
open Cert.Reference4Ideal.Value (rtiles rtiles_eq)

/-- Over the extended reals the bias tiles and their reference end with equal tiles, and each leaves the table as it was. -/
theorem algebraic4 : Cert.algebraic_Kernel4Ideal_Reference4Ideal := by
  intro m ρ m' ρ' _ hagree
  refine ⟨fun c => tilesArr m c,
    (θ_run Cert.Kernel4Ideal.defs _ _).mono (fun r h c => ?_) (Cert.Kernel4Ideal.Value.run_blocks (F := Ideal) m ρ),
    (θ_run Cert.Reference4Ideal.defs _ _).mono (fun r h c => ?_) (Cert.Reference4Ideal.Value.run (F := Ideal) m' ρ')⟩
  · obtain ⟨r2, rest⟩ := h c
    exact ⟨r2.trans (final2 m c), rest⟩
  · obtain ⟨r0, rest⟩ := h c
    have h0 := hagree c
    refine ⟨r0.trans ?_, rest⟩
    unfold Cert.Reference4Ideal.Value.res_main_v50
    rw [h0]
    exact rtiles_eq (argT m c)

end Cert.Proof

end
-- ==== Proof.lean ====
/-
  The certificate's claims, assembled.
-/
module

public import proofs.«01_k».proof.Proof.Algebra
public import proofs.«01_k».proof.Defs
public import proofs.«01_k».proof.Proof.Frames
public import proofs.«01_k».proof.Proof.Frames2
public import proofs.«01_k».proof.Proof.Algebra2
public import proofs.«01_k».proof.Proof.Frames3
public import proofs.«01_k».proof.Proof.Algebra3
public import proofs.«01_k».proof.Proof.Frames4
public import proofs.«01_k».proof.Proof.Algebra4

@[expose] public section

noncomputable section

namespace Cert.Proof

/-- All the claims of the statement. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_p, frame_pi, frame_ri, frame_p2, frame_pi2, frame_ri2, frame_p3, frame_pi3, frame_ri3, frame_p4, frame_pi4, frame_ri4,
  preserves, algebraic, preserves2, algebraic2, preserves3, algebraic3, preserves4, algebraic4⟩

end Cert.Proof

end
